-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_v194) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x10000x128 : Shape := ⟨3, ![2, 10000, 128]⟩
abbrev S2x10000x10000 : Shape := ⟨3, ![2, 10000, 10000]⟩
abbrev S2x64x64 : Shape := ⟨3, ![2, 64, 64]⟩
abbrev S2x64x128 : Shape := ⟨3, ![2, 64, 128]⟩
abbrev S2x64 : Shape := ⟨2, ![2, 64]⟩
abbrev S40x64 : Shape := ⟨2, ![40, 64]⟩
abbrev S40 : Shape := ⟨1, ![40]⟩
abbrev S1 : Shape := ⟨1, ![1]⟩
abbrev S_ : Shape := ⟨0, ![]⟩

class Facts : Prop where
  bcast_S_S2x10000x128 : S_.BroadcastsInDim S2x10000x128 (![] : Fin 0 → Fin S2x10000x128.rank)
  reducesTo_S2x10000x128_S_d0_1_2 : S2x10000x128.ReducesTo [0, 1, 2] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S2x64x64 : S_.BroadcastsInDim S2x64x64 (![] : Fin 0 → Fin S2x64x64.rank)
  reducesTo_S2x64x64_S_d0_1_2 : S2x64x64.ReducesTo [0, 1, 2] S_
  bcast_S_S2x64x128 : S_.BroadcastsInDim S2x64x128 (![] : Fin 0 → Fin S2x64x128.rank)
  reducesTo_S2x64x128_S_d0_1_2 : S2x64x128.ReducesTo [0, 1, 2] S_
  bcast_S_S2x64 : S_.BroadcastsInDim S2x64 (![] : Fin 0 → Fin S2x64.rank)
  reducesTo_S2x64_S_d0_1 : S2x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2x64 .f32) (main_arg7 : FVec F S1 .f32) (main_v13 : IVec S_ 1) (main_v16 : IVec S2x64x128 1) : IVec S_ 1 :=
  let main_c_5 : IVec S_ 1 := constantI S_ 1 1#1
  let main_v17 : IVec S_ 1 := (fun x v => Host.reduce IntOp.andi x v reducesTo_S2x64x128_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2x10000x128 .f32) (main_arg1 : FVec F S2x10000x10000 .f32) (main_arg2 : FVec F S2x64x64 .f32) (main_arg3 : FVec F S2x64x128 .f32) (main_arg4 : FVec F S2x64 .f32) (main_arg5 : FVec F S40x64 .f32) (main_arg6 : FVec F S40 .f32) (main_arg7 : FVec F S1 .f32) : IVec S_ 1 :=
  let main_v0 : FVec F S2x10000x128 .f32 := Host.absf main_arg0
  let main_cst : FVec F S_ .f32 := constant S_ .f32 0x7F800000#32
  let main_v1 : FVec F S2x10000x128 .f32 := broadcastInDim S2x10000x128 ![] bcast_S_S2x10000x128 main_cst
  let main_v2 : IVec S2x10000x128 1 := cmpf .olt main_v0 main_v1
  let main_c : IVec S_ 1 := constantI S_ 1 1#1
  let main_v3 : IVec S_ 1 := (fun x v => Host.reduce IntOp.andi x v reducesTo_S2x10000x128_S_d0_1_2 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S2x64x64 .f32 := Host.absf main_arg2
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64x128 .f32 := Host.absf main_arg3
  let main_cst_4 : FVec F S_ .f32 := constant S_ .f32 0x7F800000#32
  let main_v15 : FVec F S2x64x128 .f32 := broadcastInDim S2x64x128 ![] bcast_S_S2x64x128 main_cst_4
  let main_v16 : IVec S2x64x128 1 := cmpf .olt main_v14 main_v15
  fn_part1 (F := F) main_arg4 main_arg7 main_v13 main_v16
-- ==== Kernel.lean ====
abbrev S2x10000x128 : Shape := ⟨3, ![2, 10000, 128]⟩
abbrev S2x10000x10000 : Shape := ⟨3, ![2, 10000, 10000]⟩
abbrev S2x64x64 : Shape := ⟨3, ![2, 64, 64]⟩
abbrev S2x64x128 : Shape := ⟨3, ![2, 64, 128]⟩
abbrev S2x64 : Shape := ⟨2, ![2, 64]⟩
abbrev S40x64 : Shape := ⟨2, ![40, 64]⟩
abbrev S40 : Shape := ⟨1, ![40]⟩
abbrev S1 : Shape := ⟨1, ![1]⟩
abbrev S2x128x64 : Shape := ⟨3, ![2, 128, 64]⟩
abbrev S2x1x64 : Shape := ⟨3, ![2, 1, 64]⟩
abbrev S64x40 : Shape := ⟨2, ![64, 40]⟩
abbrev S1x40 : Shape := ⟨2, ![1, 40]⟩
abbrev S1x1 : Shape := ⟨2, ![1, 1]⟩
abbrev S10000x128 : Shape := ⟨2, ![10000, 128]⟩
abbrev S1x10000x128 : Shape := ⟨3, ![1, 10000, 128]⟩
abbrev S1x128x64 : Shape := ⟨3, ![1, 128, 64]⟩
abbrev S128x64 : Shape := ⟨2, ![128, 64]⟩
abbrev S10000x64 : Shape := ⟨2, ![10000, 64]⟩
abbrev S1x1x64 : Shape := ⟨3, ![1, 1, 64]⟩
abbrev S1x64 : Shape := ⟨2, ![1, 64]⟩
abbrev S10000x40 : Shape := ⟨2, ![10000, 40]⟩
abbrev S2x10000x40 : Shape := ⟨3, ![2, 10000, 40]⟩
abbrev S1x400x10000 : Shape := ⟨3, ![1, 400, 10000]⟩
abbrev S400x40 : Shape := ⟨2, ![400, 40]⟩
abbrev S2x400x40 : Shape := ⟨3, ![2, 400, 40]⟩
abbrev S64x1 : Shape := ⟨2, ![64, 1]⟩
abbrev S64x64 : Shape := ⟨2, ![64, 64]⟩
abbrev S1x64x64 : Shape := ⟨3, ![1, 64, 64]⟩
abbrev S1x8 : Shape := ⟨2, ![1, 8]⟩
abbrev S8x1 : Shape := ⟨2, ![8, 1]⟩
abbrev S64x8 : Shape := ⟨2, ![64, 8]⟩
abbrev S8x64 : Shape := ⟨2, ![8, 64]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩
abbrev S1x400x40 : Shape := ⟨3, ![1, 400, 40]⟩

abbrev nBuf : Space → Nat
  | .hbm => 17
  | .vmem => 20
  | .smem => 1
  | _ => 0

abbrev bufTy : (tb : Table) → Fin (tcTables nBuf tb) → BufTy
  | .hbm, ⟨0, _⟩ => ⟨S2x10000x128, .f32⟩
  | .hbm, ⟨1, _⟩ => ⟨S2x10000x10000, .f32⟩
  | .hbm, ⟨2, _⟩ => ⟨S2x64x64, .f32⟩
  | .hbm, ⟨3, _⟩ => ⟨S2x64x128, .f32⟩
  | .hbm, ⟨4, _⟩ => ⟨S2x64, .f32⟩
  | .hbm, ⟨5, _⟩ => ⟨S40x64, .f32⟩
  | .hbm, ⟨6, _⟩ => ⟨S40, .f32⟩
  | .hbm, ⟨7, _⟩ => ⟨S1, .f32⟩
  | .hbm, ⟨8, _⟩ => ⟨S2x128x64, .f32⟩
  | .hbm, ⟨9, _⟩ => ⟨S2x1x64, .f32⟩
  | .hbm, ⟨10, _⟩ => ⟨S64x40, .f32⟩
  | .hbm, ⟨11, _⟩ => ⟨S1x40, .f32⟩
  | .hbm, ⟨12, _⟩ => ⟨S1x1, .f32⟩
  | .hbm, ⟨13, _⟩ => ⟨S10000x128, .f32⟩
  | .hbm, ⟨14, _⟩ => ⟨S10000x40, .f32⟩
  | .hbm, ⟨15, _⟩ => ⟨S10000x40, .f32⟩
  | .hbm, ⟨16, _⟩ => ⟨S2x10000x40, .f32⟩
  | .local _ .vmem, ⟨0, _⟩ => ⟨S2x10000x128, .f32⟩
  | .local _ .vmem, ⟨1, _⟩ => ⟨S2x128x64, .f32⟩
  | .local _ .vmem, ⟨2, _⟩ => ⟨S2x1x64, .f32⟩
  | .local _ .vmem, ⟨3, _⟩ => ⟨S10000x128, .f32⟩
  | .local _ .vmem, ⟨4, _⟩ => ⟨S1x400x10000, .f32⟩
  | .local _ .vmem, ⟨5, _⟩ => ⟨S1x400x10000, .f32⟩
  | .local _ .vmem, ⟨6, _⟩ => ⟨S10000x128, .f32⟩
  | .local _ .vmem, ⟨7, _⟩ => ⟨S2x64x64, .f32⟩
  | .local _ .vmem, ⟨8, _⟩ => ⟨S64x40, .f32⟩
  | .local _ .vmem, ⟨9, _⟩ => ⟨S1x40, .f32⟩
  | .local _ .vmem, ⟨10, _⟩ => ⟨S400x40, .f32⟩
  | .local _ .vmem, ⟨11, _⟩ => ⟨S400x40, .f32⟩
  | .local _ .vmem, ⟨12, _⟩ => ⟨S400x40, .f32⟩
  | .local _ .vmem, ⟨13, _⟩ => ⟨S400x40, .f32⟩
  | .local _ .vmem, ⟨14, _⟩ => ⟨S2x400x40, .f32⟩
  | .local _ .vmem, ⟨15, _⟩ => ⟨S2x400x40, .f32⟩
  | .local _ .vmem, ⟨16, _⟩ => ⟨S10000x128, .f32⟩
  | .local _ .vmem, ⟨17, _⟩ => ⟨S10000x128, .f32⟩
  | .local _ .vmem, ⟨18, _⟩ => ⟨S10000x64, .f32⟩
  | .local _ .vmem, ⟨19, _⟩ => ⟨S2x64x64, .f32⟩
  | .local _ .smem, ⟨0, _⟩ => ⟨S1x1, .f32⟩
  | _, _ => ⟨S2x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16

abbrev nD : Nat := 1
abbrev τ : Topo := Topo.v7x

variable {F : FTy → Type} [FloatOps F]

abbrev grid0 : Pipeline.Grid := .none

abbrev stage0_0 : Fin 1 → Memref sig .tc .vmem S2x10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![100], ![false]⟩

def k1_cond2 (i : grid1.Coords) : BitVec 1 :=
  let arg0 : BitVec 32 := BitVec.ofNat 32 (i 0).val
  let c25_i32_6 : BitVec 32 := 25#32
  let v15 : BitVec 1 := Scalar.cmpi .slt arg0 c25_i32_6
  let v16 : BitVec 32 := Scalar.extui v15
  let c0_i32_8 : BitVec 32 := 0#32
  let v17 : BitVec 1 := Scalar.cmpi .ne v16 c0_i32_8
  v17

def k1_off1 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v38 : Index := Scalar.indexCast v10
  let c0_27 : Index := 0#32
  ![v38.toNat, 0]
def k1_off2 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v54 : Index := Scalar.indexCast v10
  let c64 : Index := 64#32
  ![v54.toNat, 64]
def k1_cond3 (i : grid1.Coords) : BitVec 1 :=
  let arg0 : BitVec 32 := BitVec.ofNat 32 (i 0).val
  let c25_i32_9 : BitVec 32 := 25#32
  let v18 : BitVec 1 := Scalar.cmpi .sge arg0 c25_i32_9
  let c50_i32 : BitVec 32 := 50#32
  let v19 : BitVec 1 := Scalar.cmpi .slt arg0 c50_i32
  let v20 : BitVec 1 := Scalar.andi v18 v19
  let v21 : BitVec 32 := Scalar.extui v20
  let c0_i32_12 : BitVec 32 := 0#32
  let v22 : BitVec 1 := Scalar.cmpi .ne v21 c0_i32_12
  v22

def k1_off3 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v37 : Index := Scalar.indexCast v10
  let c0_27 : Index := 0#32
  ![v37.toNat, 0]
def k1_off4 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v49 : Index := Scalar.indexCast v10
  let c64 : Index := 64#32
  ![v49.toNat, 64]
def k1_cond4 (i : grid1.Coords) : BitVec 1 :=
  let arg0 : BitVec 32 := BitVec.ofNat 32 (i 0).val
  let c50_i32_13 : BitVec 32 := 50#32
  let v23 : BitVec 1 := Scalar.cmpi .sge arg0 c50_i32_13
  let c75_i32 : BitVec 32 := 75#32
  let v24 : BitVec 1 := Scalar.cmpi .slt arg0 c75_i32
  let v25 : BitVec 1 := Scalar.andi v23 v24
  let v26 : BitVec 32 := Scalar.extui v25
  let c0_i32_16 : BitVec 32 := 0#32
  let v27 : BitVec 1 := Scalar.cmpi .ne v26 c0_i32_16
  v27

def k1_off5 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v37 : Index := Scalar.indexCast v10
  let c64 : Index := 64#32
  ![v37.toNat, 64]
def k1_off6 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v61 : Index := Scalar.indexCast v10
  let c0_35 : Index := 0#32
  ![v61.toNat, 0]
def k1_cond5 (i : grid1.Coords) : BitVec 1 :=
  let arg0 : BitVec 32 := BitVec.ofNat 32 (i 0).val
  let c75_i32_17 : BitVec 32 := 75#32
  let v28 : BitVec 1 := Scalar.cmpi .sge arg0 c75_i32_17
  let v29 : BitVec 32 := Scalar.extui v28
  let c0_i32_20 : BitVec 32 := 0#32
  let v30 : BitVec 1 := Scalar.cmpi .ne v29 c0_i32_20
  v30

def k1_off7 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v37 : Index := Scalar.indexCast v10
  let c64 : Index := 64#32
  ![v37.toNat, 64]
def k1_off8 (i : grid1.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v49 : Index := Scalar.indexCast v10
  let c0_31 : Index := 0#32
  ![v49.toNat, 0]
def cc1_transform_0 (i : grid1.Coords) : Fin 3 → Nat :=
  let arg0 : BitVec 32 := BitVec.ofNat 32 (i 0).val
  let c50_i32 : BitVec 32 := 50#32
  let v0 : BitVec 32 := Scalar.divsi arg0 c50_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c50_i32 c0_i32_1
  let v7 : BitVec 32 := Scalar.extui v6
  let c0_i32_2 : BitVec 32 := 0#32
  let v8 : BitVec 1 := Scalar.cmpi .slt c50_i32 c0_i32_2
  let v9 : BitVec 32 := Scalar.extui v8
  let v10 : BitVec 32 := Scalar.subi v7 v9
  let v11 : BitVec 1 := Scalar.cmpi .ne v5 v10
  let v12 : BitVec 32 := Scalar.remsi arg0 c50_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c25_i32 : BitVec 32 := 25#32
  let c0_i32_4 : BitVec 32 := 0#32
  let v17 : BitVec 1 := Scalar.cmpi .eq c25_i32 c0_i32_4
  let c1_i32_5 : BitVec 32 := 1#32
  let v18 : BitVec 32 := Scalar.select v17 c1_i32_5 c25_i32
  let v19 : BitVec 32 := Scalar.remsi arg0 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  ![v16.toNat, v26.toNat, c0_i32_9.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c75_i32 : BitVec 32 := 75#32
  let v0 : BitVec 1 := Scalar.cmpi .sge arg0 c75_i32
  let c25_i32 : BitVec 32 := 25#32
  let c0_i32 : BitVec 32 := 0#32
  let v1 : BitVec 1 := Scalar.cmpi .eq c25_i32 c0_i32
  let c1_i32 : BitVec 32 := 1#32
  let v2 : BitVec 32 := Scalar.select v1 c1_i32 c25_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc1_transform_7 (i : grid1.Coords) : Fin 2 → Nat :=
  let arg0 : BitVec 32 := BitVec.ofNat 32 (i 0).val
  let c75_i32 : BitVec 32 := 75#32
  let v0 : BitVec 1 := Scalar.cmpi .sge arg0 c75_i32
  let c25_i32 : BitVec 32 := 25#32
  let c0_i32 : BitVec 32 := 0#32
  let v1 : BitVec 1 := Scalar.cmpi .eq c25_i32 c0_i32
  let c1_i32 : BitVec 32 := 1#32
  let v2 : BitVec 32 := Scalar.select v1 c1_i32 c25_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc1_transform_8 (i : grid1.Coords) : Fin 3 → Nat :=
  let arg0 : BitVec 32 := BitVec.ofNat 32 (i 0).val
  let c75_i32 : BitVec 32 := 75#32
  let v0 : BitVec 1 := Scalar.cmpi .sge arg0 c75_i32
  let c25_i32 : BitVec 32 := 25#32
  let c0_i32 : BitVec 32 := 0#32
  let v1 : BitVec 1 := Scalar.cmpi .eq c25_i32 c0_i32
  let c1_i32 : BitVec 32 := 1#32
  let v2 : BitVec 32 := Scalar.select v1 c1_i32 c25_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  let c0_i32_6 : BitVec 32 := 0#32
  ![c0_i32_4.toNat, v11.toNat, c0_i32_5.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x400x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2x10000x128 : Shape := ⟨3, ![2, 10000, 128]⟩
abbrev S2x10000x10000 : Shape := ⟨3, ![2, 10000, 10000]⟩
abbrev S2x64x64 : Shape := ⟨3, ![2, 64, 64]⟩
abbrev S2x64x128 : Shape := ⟨3, ![2, 64, 128]⟩
abbrev S2x64 : Shape := ⟨2, ![2, 64]⟩
abbrev S40x64 : Shape := ⟨2, ![40, 64]⟩
abbrev S40 : Shape := ⟨1, ![40]⟩
abbrev S1 : Shape := ⟨1, ![1]⟩
abbrev S64x64 : Shape := ⟨2, ![64, 64]⟩
abbrev S_ : Shape := ⟨0, ![]⟩
abbrev S1x64x64 : Shape := ⟨3, ![1, 64, 64]⟩
abbrev S2x1x64 : Shape := ⟨3, ![2, 1, 64]⟩
abbrev S2x64x1 : Shape := ⟨3, ![2, 64, 1]⟩
abbrev S2x1x1 : Shape := ⟨3, ![2, 1, 1]⟩
abbrev S1x10000x128 : Shape := ⟨3, ![1, 10000, 128]⟩
abbrev S10000x128 : Shape := ⟨2, ![10000, 128]⟩
abbrev S1x64x128 : Shape := ⟨3, ![1, 64, 128]⟩
abbrev S64x128 : Shape := ⟨2, ![64, 128]⟩
abbrev S128x64 : Shape := ⟨2, ![128, 64]⟩
abbrev S10000x64 : Shape := ⟨2, ![10000, 64]⟩
abbrev S1x64 : Shape := ⟨2, ![1, 64]⟩
abbrev S64 : Shape := ⟨1, ![64]⟩
abbrev S1x10000x10000 : Shape := ⟨3, ![1, 10000, 10000]⟩
abbrev S10000x10000 : Shape := ⟨2, ![10000, 10000]⟩
abbrev S10000x40 : Shape := ⟨2, ![10000, 40]⟩
abbrev S64x40 : Shape := ⟨2, ![64, 40]⟩
abbrev S1x40 : Shape := ⟨2, ![1, 40]⟩
abbrev S10000 : Shape := ⟨1, ![10000]⟩
abbrev S10000x1 : Shape := ⟨2, ![10000, 1]⟩
abbrev S2x10000x40 : Shape := ⟨3, ![2, 10000, 40]⟩

abbrev nBuf : Space → Nat
  | .hbm => 323
  | .vmem => 0
  | .smem => 0
  | _ => 0

abbrev hbmTy0_0 (i : Nat) : BufTy := match i % 128 with
  | 0 => ⟨S2x10000x128, .f32⟩
  | 1 => ⟨S2x10000x10000, .f32⟩
  | 2 => ⟨S2x64x64, .f32⟩
  | 3 => ⟨S2x64x128, .f32⟩
  | 4 => ⟨S2x64, .f32⟩
  | 5 => ⟨S40x64, .f32⟩
  | 6 => ⟨S40, .f32⟩
  | 7 => ⟨S1, .f32⟩
  | 8 => ⟨S2x64x64, .f32⟩
  | 9 => ⟨S2x64x64, .f32⟩
  | 10 => ⟨S64x64, .i32⟩
  | 11 => ⟨S64x64, .i32⟩
  | 12 => ⟨S_, .i32⟩
  | 13 => ⟨S64x64, .i32⟩
  | 14 => ⟨S64x64, .i32⟩
  | 15 => ⟨S64x64, .i1⟩
  | 16 => ⟨S64x64, .f32⟩
  | 17 => ⟨S_, .f32⟩
  | 18 => ⟨S64x64, .f32⟩
  | 19 => ⟨S64x64, .f32⟩
  | 20 => ⟨S1x64x64, .f32⟩
  | 21 => ⟨S2x64x64, .f32⟩
  | 22 => ⟨S2x64x64, .f32⟩
  | 23 => ⟨S2x64x64, .i32⟩
  | 24 => ⟨S2x64x64, .i32⟩
  | 25 => ⟨S_, .f32⟩
  | 26 => ⟨S2x64x64, .f32⟩
  | 27 => ⟨S_, .i32⟩
  | 28 => ⟨S_, .i32⟩
  | 29 => ⟨S2x64x64, .f32⟩
  | 30 => ⟨S2x64x64, .i32⟩
  | 31 => ⟨S2x64x64, .i32⟩
  | 32 => ⟨S_, .i32⟩
  | 33 => ⟨S_, .i32⟩
  | 34 => ⟨S2x64x64, .f32⟩
  | 35 => ⟨S2x64x64, .f32⟩
  | 36 => ⟨S_, .i32⟩
  | 37 => ⟨S_, .i1⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S2x1x64, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S2x64x1, .f32⟩
  | 58 => ⟨S2x64x1, .f32⟩
  | 59 => ⟨S2x64x1, .f32⟩
  | 60 => ⟨S2x64x1, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S2x1x1, .f32⟩
  | 70 => ⟨S2x1x1, .f32⟩
  | 71 => ⟨S2x1x64, .i32⟩
  | 72 => ⟨S_, .i32⟩
  | 73 => ⟨S2x1x64, .i32⟩
  | 74 => ⟨S2x1x64, .i1⟩
  | 75 => ⟨S_, .f32⟩
  | 76 => ⟨S_, .f32⟩
  | 77 => ⟨S2x1x64, .f32⟩
  | 78 => ⟨S2x1x64, .f32⟩
  | 79 => ⟨S2x1x64, .f32⟩
  | 80 => ⟨S2x1x64, .f32⟩
  | 81 => ⟨S2x1x64, .f32⟩
  | 82 => ⟨S2x1x64, .f32⟩
  | 83 => ⟨S2x1x64, .f32⟩
  | 84 => ⟨S2x1x64, .f32⟩
  | 85 => ⟨S_, .i32⟩
  | 86 => ⟨S2x64x64, .i32⟩
  | 87 => ⟨S2x64x64, .i1⟩
  | 88 => ⟨S_, .i32⟩
  | 89 => ⟨S2x64x64, .i32⟩
  | 90 => ⟨S2x64x64, .i1⟩
  | 91 => ⟨S2x64x1, .f32⟩
  | 92 => ⟨S2x64x1, .f32⟩
  | 93 => ⟨S_, .f32⟩
  | 94 => ⟨S_, .f32⟩
  | 95 => ⟨S2x64x64, .f32⟩
  | 96 => ⟨S2x64x64, .f32⟩
  | 97 => ⟨S2x64x64, .f32⟩
  | 98 => ⟨S2x64x64, .f32⟩
  | 99 => ⟨S_, .i32⟩
  | 100 => ⟨S2x64x64, .i32⟩
  | 101 => ⟨S2x64x64, .i1⟩
  | 102 => ⟨S2x64x64, .f32⟩
  | 103 => ⟨S2x64x64, .f32⟩
  | 104 => ⟨S_, .i32⟩
  | 105 => ⟨S_, .i32⟩
  | 106 => ⟨S2x64x64, .f32⟩
  | 107 => ⟨S2x64x64, .f32⟩
  | 108 => ⟨S1x10000x128, .f32⟩
  | 109 => ⟨S10000x128, .f32⟩
  | 110 => ⟨S1x64x128, .f32⟩
  | 111 => ⟨S64x128, .f32⟩
  | 112 => ⟨S128x64, .f32⟩
  | 113 => ⟨S10000x64, .f32⟩
  | 114 => ⟨S1x64, .f32⟩
  | 115 => ⟨S64, .f32⟩
  | 116 => ⟨S1x64, .f32⟩
  | 117 => ⟨S10000x64, .f32⟩
  | 118 => ⟨S10000x64, .f32⟩
  | 119 => ⟨S_, .f32⟩
  | 120 => ⟨S10000x64, .f32⟩
  | 121 => ⟨S10000x64, .f32⟩
  | 122 => ⟨S1x64x64, .f32⟩
  | 123 => ⟨S64x64, .f32⟩
  | 124 => ⟨S1x10000x10000, .f32⟩
  | 125 => ⟨S10000x10000, .f32⟩
  | 126 => ⟨S10000x64, .f32⟩
  | 127 => ⟨S_, .f32⟩
  | _ => ⟨S2x10000x128, .f32⟩

abbrev hbmTy0_1 (i : Nat) : BufTy := match i % 128 with
  | 0 => ⟨S10000x64, .f32⟩
  | 1 => ⟨S10000x64, .f32⟩
  | 2 => ⟨S_, .f32⟩
  | 3 => ⟨S10000x64, .f32⟩
  | 4 => ⟨S10000x64, .f32⟩
  | 5 => ⟨S10000x64, .f32⟩
  | 6 => ⟨S10000x64, .f32⟩
  | 7 => ⟨S_, .f32⟩
  | 8 => ⟨S10000x64, .f32⟩
  | 9 => ⟨S10000x64, .f32⟩
  | 10 => ⟨S_, .f32⟩
  | 11 => ⟨S10000x64, .f32⟩
  | 12 => ⟨S10000x64, .f32⟩
  | 13 => ⟨S10000x64, .f32⟩
  | 14 => ⟨S10000x64, .f32⟩
  | 15 => ⟨S_, .f32⟩
  | 16 => ⟨S10000x64, .f32⟩
  | 17 => ⟨S10000x64, .f32⟩
  | 18 => ⟨S1x64x64, .f32⟩
  | 19 => ⟨S64x64, .f32⟩
  | 20 => ⟨S1x10000x10000, .f32⟩
  | 21 => ⟨S10000x10000, .f32⟩
  | 22 => ⟨S10000x64, .f32⟩
  | 23 => ⟨S_, .f32⟩
  | 24 => ⟨S10000x64, .f32⟩
  | 25 => ⟨S10000x64, .f32⟩
  | 26 => ⟨S_, .f32⟩
  | 27 => ⟨S10000x64, .f32⟩
  | 28 => ⟨S10000x64, .f32⟩
  | 29 => ⟨S10000x64, .f32⟩
  | 30 => ⟨S10000x64, .f32⟩
  | 31 => ⟨S_, .f32⟩
  | 32 => ⟨S10000x64, .f32⟩
  | 33 => ⟨S10000x64, .f32⟩
  | 34 => ⟨S_, .f32⟩
  | 35 => ⟨S10000x64, .f32⟩
  | 36 => ⟨S10000x64, .f32⟩
  | 37 => ⟨S10000x64, .f32⟩
  | 38 => ⟨S10000x64, .f32⟩
  | 39 => ⟨S_, .f32⟩
  | 40 => ⟨S10000x64, .f32⟩
  | 41 => ⟨S10000x64, .f32⟩
  | 42 => ⟨S10000x64, .f32⟩
  | 43 => ⟨S1x10000x128, .f32⟩
  | 44 => ⟨S10000x128, .f32⟩
  | 45 => ⟨S1x64x128, .f32⟩
  | 46 => ⟨S64x128, .f32⟩
  | 47 => ⟨S128x64, .f32⟩
  | 48 => ⟨S10000x64, .f32⟩
  | 49 => ⟨S1x64, .f32⟩
  | 50 => ⟨S64, .f32⟩
  | 51 => ⟨S1x64, .f32⟩
  | 52 => ⟨S10000x64, .f32⟩
  | 53 => ⟨S10000x64, .f32⟩
  | 54 => ⟨S_, .f32⟩
  | 55 => ⟨S10000x64, .f32⟩
  | 56 => ⟨S10000x64, .f32⟩
  | 57 => ⟨S_, .f32⟩
  | 58 => ⟨S10000x64, .f32⟩
  | 59 => ⟨S10000x64, .f32⟩
  | 60 => ⟨S_, .f32⟩
  | 61 => ⟨S_, .f32⟩
  | 62 => ⟨S_, .f32⟩
  | 63 => ⟨S10000x64, .f32⟩
  | 64 => ⟨S10000x64, .f32⟩
  | 65 => ⟨S10000x64, .f32⟩
  | 66 => ⟨S1x64x64, .f32⟩
  | 67 => ⟨S64x64, .f32⟩
  | 68 => ⟨S1x10000x10000, .f32⟩
  | 69 => ⟨S10000x10000, .f32⟩
  | 70 => ⟨S10000x64, .f32⟩
  | 71 => ⟨S_, .f32⟩
  | 72 => ⟨S10000x64, .f32⟩
  | 73 => ⟨S10000x64, .f32⟩
  | 74 => ⟨S_, .f32⟩
  | 75 => ⟨S10000x64, .f32⟩
  | 76 => ⟨S10000x64, .f32⟩
  | 77 => ⟨S10000x64, .f32⟩
  | 78 => ⟨S10000x64, .f32⟩
  | 79 => ⟨S_, .f32⟩
  | 80 => ⟨S10000x64, .f32⟩
  | 81 => ⟨S10000x64, .f32⟩
  | 82 => ⟨S_, .f32⟩
  | 83 => ⟨S10000x64, .f32⟩
  | 84 => ⟨S10000x64, .f32⟩
  | 85 => ⟨S10000x64, .f32⟩
  | 86 => ⟨S10000x64, .f32⟩
  | 87 => ⟨S_, .f32⟩
  | 88 => ⟨S10000x64, .f32⟩
  | 89 => ⟨S10000x64, .f32⟩
  | 90 => ⟨S_, .f32⟩
  | 91 => ⟨S10000x64, .f32⟩
  | 92 => ⟨S10000x64, .f32⟩
  | 93 => ⟨S_, .f32⟩
  | 94 => ⟨S_, .f32⟩
  | 95 => ⟨S_, .f32⟩
  | 96 => ⟨S10000x64, .f32⟩
  | 97 => ⟨S10000x64, .f32⟩
  | 98 => ⟨S10000x64, .f32⟩
  | 99 => ⟨S1x64x64, .f32⟩
  | 100 => ⟨S64x64, .f32⟩
  | 101 => ⟨S1x10000x10000, .f32⟩
  | 102 => ⟨S10000x10000, .f32⟩
  | 103 => ⟨S10000x64, .f32⟩
  | 104 => ⟨S_, .f32⟩
  | 105 => ⟨S10000x64, .f32⟩
  | 106 => ⟨S10000x64, .f32⟩
  | 107 => ⟨S_, .f32⟩
  | 108 => ⟨S10000x64, .f32⟩
  | 109 => ⟨S10000x64, .f32⟩
  | 110 => ⟨S10000x64, .f32⟩
  | 111 => ⟨S10000x64, .f32⟩
  | 112 => ⟨S_, .f32⟩
  | 113 => ⟨S10000x64, .f32⟩
  | 114 => ⟨S10000x64, .f32⟩
  | 115 => ⟨S_, .f32⟩
  | 116 => ⟨S10000x64, .f32⟩
  | 117 => ⟨S10000x64, .f32⟩
  | 118 => ⟨S10000x64, .f32⟩
  | 119 => ⟨S10000x64, .f32⟩
  | 120 => ⟨S_, .f32⟩
  | 121 => ⟨S10000x64, .f32⟩
  | 122 => ⟨S10000x64, .f32⟩
  | 123 => ⟨S10000x64, .f32⟩
  | 124 => ⟨S_, .f32⟩
  | 125 => ⟨S10000x40, .f32⟩
  | 126 => ⟨S64x40, .f32⟩
  | 127 => ⟨S10000x40, .f32⟩
  | _ => ⟨S2x10000x128, .f32⟩

abbrev hbmTy0_2 (i : Nat) : BufTy := match i % 128 with
  | 0 => ⟨S1x40, .f32⟩
  | 1 => ⟨S10000x40, .f32⟩
  | 2 => ⟨S10000x40, .f32⟩
  | 3 => ⟨S10000x40, .f32⟩
  | 4 => ⟨S_, .f32⟩
  | 5 => ⟨S10000, .f32⟩
  | 6 => ⟨S10000x1, .f32⟩
  | 7 => ⟨S10000x40, .f32⟩
  | 8 => ⟨S10000x40, .f32⟩
  | 9 => ⟨S10000x40, .f32⟩
  | 10 => ⟨S_, .f32⟩
  | 11 => ⟨S10000, .f32⟩
  | 12 => ⟨S10000x1, .f32⟩
  | 13 => ⟨S10000x1, .f32⟩
  | 14 => ⟨S10000x40, .f32⟩
  | 15 => ⟨S10000x40, .f32⟩
  | 16 => ⟨S64x40, .f32⟩
  | 17 => ⟨S10000x40, .f32⟩
  | 18 => ⟨S1x40, .f32⟩
  | 19 => ⟨S10000x40, .f32⟩
  | 20 => ⟨S10000x40, .f32⟩
  | 21 => ⟨S10000x40, .f32⟩
  | 22 => ⟨S_, .f32⟩
  | 23 => ⟨S10000, .f32⟩
  | 24 => ⟨S10000x1, .f32⟩
  | 25 => ⟨S10000x40, .f32⟩
  | 26 => ⟨S10000x40, .f32⟩
  | 27 => ⟨S10000x40, .f32⟩
  | 28 => ⟨S_, .f32⟩
  | 29 => ⟨S10000, .f32⟩
  | 30 => ⟨S10000x1, .f32⟩
  | 31 => ⟨S10000x1, .f32⟩
  | 32 => ⟨S10000x40, .f32⟩
  | 33 => ⟨S10000x40, .f32⟩
  | 34 => ⟨S2x10000x40, .i32⟩
  | 35 => ⟨S_, .i32⟩
  | 36 => ⟨S2x10000x40, .i32⟩
  | 37 => ⟨S2x10000x40, .i1⟩
  | 38 => ⟨S2x10000x40, .f32⟩
  | 39 => ⟨S2x10000x40, .f32⟩
  | 40 => ⟨S2x10000x40, .f32⟩
  | 41 => ⟨S_, .f32⟩
  | 42 => ⟨S10000x40, .f32⟩
  | 43 => ⟨S_, .f32⟩
  | 44 => ⟨S10000x40, .f32⟩
  | 45 => ⟨S10000x40, .f32⟩
  | 46 => ⟨S_, .f32⟩
  | 47 => ⟨S10000, .f32⟩
  | 48 => ⟨S10000x1, .f32⟩
  | 49 => ⟨S10000x40, .f32⟩
  | 50 => ⟨S10000x40, .f32⟩
  | 51 => ⟨S10000x40, .f32⟩
  | 52 => ⟨S_, .f32⟩
  | 53 => ⟨S10000, .f32⟩
  | 54 => ⟨S10000x1, .f32⟩
  | 55 => ⟨S10000x1, .f32⟩
  | 56 => ⟨S10000x40, .f32⟩
  | 57 => ⟨S10000x40, .f32⟩
  | 58 => ⟨S2x10000x40, .i32⟩
  | 59 => ⟨S_, .i32⟩
  | 60 => ⟨S2x10000x40, .i32⟩
  | 61 => ⟨S2x10000x40, .i1⟩
  | 62 => ⟨S2x10000x40, .f32⟩
  | 63 => ⟨S2x10000x40, .f32⟩
  | 64 => ⟨S2x10000x40, .f32⟩
  | 65 => ⟨S_, .f32⟩
  | 66 => ⟨S1, .f32⟩
  | _ => ⟨S2x10000x128, .f32⟩

abbrev hbmTy (i : Nat) : BufTy := match i / 128 with
  | 0 => hbmTy0_0 i
  | 1 => hbmTy0_1 i
  | 2 => hbmTy0_2 i
  | _ => ⟨S2x10000x128, .f32⟩

abbrev bufTy : (tb : Table) → Fin (tcTables nBuf tb) → BufTy
  | .hbm, ⟨i, _⟩ => hbmTy i
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_c_1 : Ref sig .tc := ⟨.hbm, 27, rfl⟩
abbrev main_c_2 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_while0c_c_44 : Ref sig .tc := ⟨.hbm, 36, rfl⟩
abbrev main_while0c_v195 : Ref sig .tc := ⟨.hbm, 37, rfl⟩
abbrev main_while0b_c_44 : Ref sig .tc := ⟨.hbm, 38, rfl⟩
abbrev main_while0b_v195 : Ref sig .tc := ⟨.hbm, 39, rfl⟩
abbrev main_while0b_c_45 : Ref sig .tc := ⟨.hbm, 40, rfl⟩
abbrev main_while0b_v196 : Ref sig .tc := ⟨.hbm, 41, rfl⟩
abbrev main_while0b_v197 : Ref sig .tc := ⟨.hbm, 42, rfl⟩
abbrev main_while0b_c_46 : Ref sig .tc := ⟨.hbm, 43, rfl⟩
abbrev main_while0b_v198 : Ref sig .tc := ⟨.hbm, 44, rfl⟩
abbrev main_while0b_v199 : Ref sig .tc := ⟨.hbm, 45, rfl⟩
abbrev main_while0b_c_47 : Ref sig .tc := ⟨.hbm, 46, rfl⟩
abbrev main_while0b_c_48 : Ref sig .tc := ⟨.hbm, 47, rfl⟩
abbrev main_while0b_v200 : Ref sig .tc := ⟨.hbm, 48, rfl⟩
abbrev main_while0b_c_49 : Ref sig .tc := ⟨.hbm, 49, rfl⟩
abbrev main_while0b_v201 : Ref sig .tc := ⟨.hbm, 50, rfl⟩
abbrev main_while0b_v202 : Ref sig .tc := ⟨.hbm, 51, rfl⟩
abbrev main_while0b_c_50 : Ref sig .tc := ⟨.hbm, 52, rfl⟩
abbrev main_while0b_v203 : Ref sig .tc := ⟨.hbm, 53, rfl⟩
abbrev main_while0b_v204 : Ref sig .tc := ⟨.hbm, 54, rfl⟩
abbrev main_while0b_c_51 : Ref sig .tc := ⟨.hbm, 55, rfl⟩
abbrev main_while0b_c_52 : Ref sig .tc := ⟨.hbm, 56, rfl⟩
abbrev main_while0b_v205 : Ref sig .tc := ⟨.hbm, 57, rfl⟩
abbrev main_while0b_v206 : Ref sig .tc := ⟨.hbm, 58, rfl⟩
abbrev main_while0b_v207 : Ref sig .tc := ⟨.hbm, 59, rfl⟩
abbrev main_while0b_v208 : Ref sig .tc := ⟨.hbm, 60, rfl⟩
abbrev main_while0b_c_53 : Ref sig .tc := ⟨.hbm, 61, rfl⟩
abbrev main_while0b_v209 : Ref sig .tc := ⟨.hbm, 62, rfl⟩
abbrev main_while0b_v210 : Ref sig .tc := ⟨.hbm, 63, rfl⟩
abbrev main_while0b_c_54 : Ref sig .tc := ⟨.hbm, 64, rfl⟩
abbrev main_while0b_v211 : Ref sig .tc := ⟨.hbm, 65, rfl⟩
abbrev main_while0b_v212 : Ref sig .tc := ⟨.hbm, 66, rfl⟩
abbrev main_while0b_c_55 : Ref sig .tc := ⟨.hbm, 67, rfl⟩
abbrev main_while0b_c_56 : Ref sig .tc := ⟨.hbm, 68, rfl⟩
abbrev main_while0b_v213 : Ref sig .tc := ⟨.hbm, 69, rfl⟩
abbrev main_while0b_v214 : Ref sig .tc := ⟨.hbm, 70, rfl⟩
abbrev main_while0b_v215 : Ref sig .tc := ⟨.hbm, 71, rfl⟩
abbrev main_while0b_v216 : Ref sig .tc := ⟨.hbm, 72, rfl⟩
abbrev main_while0b_v217 : Ref sig .tc := ⟨.hbm, 73, rfl⟩
abbrev main_while0b_v218 : Ref sig .tc := ⟨.hbm, 74, rfl⟩
abbrev main_while0b_cst_57 : Ref sig .tc := ⟨.hbm, 75, rfl⟩
abbrev main_while0b_cst_58 : Ref sig .tc := ⟨.hbm, 76, rfl⟩
abbrev main_while0b_call0_v0 : Ref sig .tc := ⟨.hbm, 77, rfl⟩
abbrev main_while0b_call0_v1 : Ref sig .tc := ⟨.hbm, 78, rfl⟩
abbrev main_while0b_v219 : Ref sig .tc := ⟨.hbm, 79, rfl⟩
abbrev main_while0b_v220 : Ref sig .tc := ⟨.hbm, 80, rfl⟩
abbrev main_while0b_v221 : Ref sig .tc := ⟨.hbm, 81, rfl⟩
abbrev main_while0b_v222 : Ref sig .tc := ⟨.hbm, 82, rfl⟩
abbrev main_while0b_v223 : Ref sig .tc := ⟨.hbm, 83, rfl⟩
abbrev main_while0b_v224 : Ref sig .tc := ⟨.hbm, 84, rfl⟩
abbrev main_while0b_v225 : Ref sig .tc := ⟨.hbm, 85, rfl⟩
abbrev main_while0b_v226 : Ref sig .tc := ⟨.hbm, 86, rfl⟩
abbrev main_while0b_v227 : Ref sig .tc := ⟨.hbm, 87, rfl⟩
abbrev main_while0b_v228 : Ref sig .tc := ⟨.hbm, 88, rfl⟩
abbrev main_while0b_v229 : Ref sig .tc := ⟨.hbm, 89, rfl⟩
abbrev main_while0b_v230 : Ref sig .tc := ⟨.hbm, 90, rfl⟩
abbrev main_while0b_v231 : Ref sig .tc := ⟨.hbm, 91, rfl⟩
abbrev main_while0b_v232 : Ref sig .tc := ⟨.hbm, 92, rfl⟩
abbrev main_while0b_cst_59 : Ref sig .tc := ⟨.hbm, 93, rfl⟩
abbrev main_while0b_call1_v0 : Ref sig .tc := ⟨.hbm, 94, rfl⟩
abbrev main_while0b_call1_v1 : Ref sig .tc := ⟨.hbm, 95, rfl⟩
abbrev main_while0b_call1_v2 : Ref sig .tc := ⟨.hbm, 96, rfl⟩
abbrev main_while0b_v233 : Ref sig .tc := ⟨.hbm, 97, rfl⟩
abbrev main_while0b_v234 : Ref sig .tc := ⟨.hbm, 98, rfl⟩
abbrev main_while0b_v235 : Ref sig .tc := ⟨.hbm, 99, rfl⟩
abbrev main_while0b_v236 : Ref sig .tc := ⟨.hbm, 100, rfl⟩
abbrev main_while0b_v237 : Ref sig .tc := ⟨.hbm, 101, rfl⟩
abbrev main_while0b_call3_v0 : Ref sig .tc := ⟨.hbm, 102, rfl⟩
abbrev main_while0b_v238 : Ref sig .tc := ⟨.hbm, 103, rfl⟩
abbrev main_while0b_c_60 : Ref sig .tc := ⟨.hbm, 104, rfl⟩
abbrev main_while0b_v239 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_cst_3 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_cst_4 : Ref sig .tc := ⟨.hbm, 127, rfl⟩
abbrev main_v37 : Ref sig .tc := ⟨.hbm, 128, rfl⟩
abbrev main_v38 : Ref sig .tc := ⟨.hbm, 129, rfl⟩
abbrev main_cst_5 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_cst_6 : Ref sig .tc := ⟨.hbm, 135, rfl⟩
abbrev main_v43 : Ref sig .tc := ⟨.hbm, 136, rfl⟩
abbrev main_v44 : Ref sig .tc := ⟨.hbm, 137, rfl⟩
abbrev main_cst_7 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_cst_8 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_cst_9 : Ref sig .tc := ⟨.hbm, 151, rfl⟩
abbrev main_v56 : Ref sig .tc := ⟨.hbm, 152, rfl⟩
abbrev main_v57 : Ref sig .tc := ⟨.hbm, 153, rfl⟩
abbrev main_cst_10 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_cst_11 : Ref sig .tc := ⟨.hbm, 159, rfl⟩
abbrev main_v62 : Ref sig .tc := ⟨.hbm, 160, rfl⟩
abbrev main_v63 : Ref sig .tc := ⟨.hbm, 161, rfl⟩
abbrev main_cst_12 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_cst_13 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_cst_14 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_cst_15 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_cst_16 : Ref sig .tc := ⟨.hbm, 199, rfl⟩
abbrev main_v97 : Ref sig .tc := ⟨.hbm, 200, rfl⟩
abbrev main_v98 : Ref sig .tc := ⟨.hbm, 201, rfl⟩
abbrev main_cst_17 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_cst_18 : Ref sig .tc := ⟨.hbm, 207, rfl⟩
abbrev main_v103 : Ref sig .tc := ⟨.hbm, 208, rfl⟩
abbrev main_v104 : Ref sig .tc := ⟨.hbm, 209, rfl⟩
abbrev main_cst_19 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_cst_20 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_cst_21 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_cst_22 : Ref sig .tc := ⟨.hbm, 232, rfl⟩
abbrev main_v124 : Ref sig .tc := ⟨.hbm, 233, rfl⟩
abbrev main_v125 : Ref sig .tc := ⟨.hbm, 234, rfl⟩
abbrev main_cst_23 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_cst_24 : Ref sig .tc := ⟨.hbm, 240, rfl⟩
abbrev main_v130 : Ref sig .tc := ⟨.hbm, 241, rfl⟩
abbrev main_v131 : Ref sig .tc := ⟨.hbm, 242, rfl⟩
abbrev main_cst_25 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_cst_26 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_cst_27 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_cst_28 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_cst_29 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_cst_30 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_cst_31 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_c_32 : Ref sig .tc := ⟨.hbm, 291, rfl⟩
abbrev main_v173 : Ref sig .tc := ⟨.hbm, 292, rfl⟩
abbrev main_v174 : Ref sig .tc := ⟨.hbm, 293, rfl⟩
abbrev main_call4_v0 : Ref sig .tc := ⟨.hbm, 294, rfl⟩
abbrev main_call4_v1 : Ref sig .tc := ⟨.hbm, 295, rfl⟩
abbrev main_v175 : Ref sig .tc := ⟨.hbm, 296, rfl⟩
abbrev main_cst_33 : Ref sig .tc := ⟨.hbm, 297, rfl⟩
abbrev main_v176 : Ref sig .tc := ⟨.hbm, 298, rfl⟩
abbrev main_cst_34 : Ref sig .tc := ⟨.hbm, 299, rfl⟩
abbrev main_v177 : Ref sig .tc := ⟨.hbm, 300, rfl⟩
abbrev main_v178 : Ref sig .tc := ⟨.hbm, 301, rfl⟩
abbrev main_cst_35 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_v182 : Ref sig .tc := ⟨.hbm, 306, rfl⟩
abbrev main_v183 : Ref sig .tc := ⟨.hbm, 307, rfl⟩
abbrev main_cst_36 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_c_37 : Ref sig .tc := ⟨.hbm, 315, rfl⟩
abbrev main_v190 : Ref sig .tc := ⟨.hbm, 316, rfl⟩
abbrev main_v191 : Ref sig .tc := ⟨.hbm, 317, rfl⟩
abbrev main_call5_v0 : Ref sig .tc := ⟨.hbm, 318, rfl⟩
abbrev main_call5_v1 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩

abbrev nD : Nat := 1
abbrev τ : Topo := Topo.v7x

variable {F : FTy → Type} [FloatOps F]

abbrev main_while0_count : Scf.Loop 32 := ⟨0#32, 64#32, 1#32⟩
-- ==== Proof.Ortho.lean ====
/- The factorisation the second kernel runs at its first grid point, as functions of a weight matrix: eight panels of eight columns
   each of the Cholesky factor, then the triangular solve that gives the orthonormalised weights. The printed program unrolls all of
   it; here a column step, a panel step and a solve step are each stated once. -/
module

public import proofs.«01_k».proof.Proof.Gen.KernelIdeal

@[expose] public section

noncomputable section

namespace Cert.Ortho

open Idealize.ShloMosaic Cert.KernelIdeal Cert.KernelIdeal.Facts₀ Cert.KernelIdeal.Facts

variable {F : FTy → Type} [FloatOps F]

local instance : Cert.KernelIdeal.Facts := Cert.KernelIdeal.Gen.facts

/-! ## Slices at a variable place -/

theorem slices_of {s : Shape} {n0 n1 m0 m1 : ℕ} {o0 o1 : ℕ} (h0 : o0 + m0 ≤ n0) (h1 : o1 + m1 ≤ n1) :
    (⟨2, ![n0, n1]⟩ : Shape).Slices ![o0, o1] ⟨2, ![m0, m1]⟩ :=
  ⟨rfl, fun a => by
    match a with
    | ⟨0, _⟩ => exact h0
    | ⟨1, _⟩ => exact h1⟩

/-- The 64 × 64 matrix's block of eight columns from `c`. -/
def pan (A : FVec F S64x64 .f32) (c : ℕ) : FVec F S64x8 .f32 :=
  if h : c + 8 ≤ 64 then extractStridedSlice S64x8 ![0, c] A (slices_of (s := S64x64) (by decide) h) else constant S64x8 .f32 0#32

/-- The 64 × 64 matrix's column `c`. -/
def col (A : FVec F S64x64 .f32) (c : ℕ) : FVec F S64x1 .f32 :=
  if h : c + 1 ≤ 64 then extractStridedSlice S64x1 ![0, c] A (slices_of (s := S64x64) (by decide) h) else constant S64x1 .f32 0#32

/-- The 64 × 64 matrix's entry `(r, c)`. -/
def ent (A : FVec F S64x64 .f32) (r c : ℕ) : FVec F S1x1 .f32 :=
  if h : r + 1 ≤ 64 ∧ c + 1 ≤ 64 then extractStridedSlice S1x1 ![r, c] A (slices_of (s := S64x64) h.1 h.2) else constant S1x1 .f32 0#32

/-- A panel's column `j`. -/
def pcol (A : FVec F S64x8 .f32) (j : ℕ) : FVec F S64x1 .f32 :=
  if h : j + 1 ≤ 8 then extractStridedSlice S64x1 ![0, j] A (slices_of (s := S64x8) (by decide) h) else constant S64x1 .f32 0#32

/-- A panel's row `r`. -/
def prow (A : FVec F S64x8 .f32) (r : ℕ) : FVec F S1x8 .f32 :=
  if h : r + 1 ≤ 64 then extractStridedSlice S1x8 ![r, 0] A (slices_of (s := S64x8) h (by decide)) else constant S1x8 .f32 0#32

/-- A panel's entry `(r, j)`. -/
def pent (A : FVec F S64x8 .f32) (r j : ℕ) : FVec F S1x1 .f32 :=
  if h : r + 1 ≤ 64 ∧ j + 1 ≤ 8 then extractStridedSlice S1x1 ![r, j] A (slices_of (s := S64x8) h.1 h.2) else constant S1x1 .f32 0#32

/-! ## The parts that no step changes -/

def rowI : IVec S64x1 32 := iota .tc S64x1 32 [0] iota_S64x1_d0_w32
def laneI : IVec S1x64 32 := iota .tc S1x64 32 [1] iota_S1x64_d1_w32
def lane8I : IVec S1x8 32 := iota .tc S1x8 32 [1] iota_S1x8_d1_w32
def row8I : IVec S8x1 32 := iota .tc S8x1 32 [0] iota_S8x1_d0_w32

/-- The identity matrix. -/
def eye : FVec F S64x64 .f32 :=
  sitofp .f32 (extui 32 (cmpi .eq (broadcastTo S64x64 rowI broadcasts_S64x1_S64x64) (broadcastTo S64x64 laneI broadcasts_S1x64_S64x64)) natLt_1_32)

/-- One on the rows from `c` down, zero above. -/
def geM (c : ℕ) : FVec F S64x1 .f32 :=
  select (cmpi .sge rowI (broadcast S64x1 (BitVec.ofNat 32 c))) (broadcast S64x1 (Scalar.ofBits .f32 0x3F800000#32))
    (broadcast S64x1 (Scalar.ofBits .f32 0x00000000#32))

/-- One on the rows below `c`, zero elsewhere. -/
def gtM (c : ℕ) : FVec F S64x1 .f32 :=
  select (cmpi .sgt rowI (broadcast S64x1 (BitVec.ofNat 32 c))) (broadcast S64x1 (Scalar.ofBits .f32 0x3F800000#32))
    (broadcast S64x1 (Scalar.ofBits .f32 0x00000000#32))

/-- One on a panel's columns after `j`, zero elsewhere. -/
def gtL (j : ℕ) : FVec F S1x8 .f32 :=
  select (cmpi .sgt lane8I (broadcast S1x8 (BitVec.ofNat 32 j))) (broadcast S1x8 (Scalar.ofBits .f32 0x3F800000#32))
    (broadcast S1x8 (Scalar.ofBits .f32 0x00000000#32))

/-- The eight rows of the identity matrix from `c`. -/
def sel (c : ℕ) : FVec F S8x64 .f32 :=
  sitofp .f32 (extui 32 (cmpi .eq (broadcastTo S8x64 laneI broadcasts_S1x64_S8x64)
    (broadcastTo S8x64 (addi row8I (broadcast S8x1 (BitVec.ofNat 32 c))) broadcasts_S8x1_S8x64)) natLt_1_32)

/-- Eight columns side by side. -/
def glue (x0 x1 x2 x3 x4 x5 x6 x7 : FVec F S64x1 .f32) : FVec F S64x8 .f32 :=
  concatenate S64x8 1 [⟨S64x1, x0⟩, ⟨S64x1, x1⟩, ⟨S64x1, x2⟩, ⟨S64x1, x3⟩, ⟨S64x1, x4⟩, ⟨S64x1, x5⟩, ⟨S64x1, x6⟩, ⟨S64x1, x7⟩]
    concatenates_S64x1_S64x1_S64x1_S64x1_S64x1_S64x1_S64x1_S64x1_S64x8_d1

/-- Eight panels side by side. -/
def gluePan (x0 x1 x2 x3 x4 x5 x6 x7 : FVec F S64x8 .f32) : FVec F S64x64 .f32 :=
  concatenate S64x64 1 [⟨S64x8, x0⟩, ⟨S64x8, x1⟩, ⟨S64x8, x2⟩, ⟨S64x8, x3⟩, ⟨S64x8, x4⟩, ⟨S64x8, x5⟩, ⟨S64x8, x6⟩, ⟨S64x8, x7⟩]
    concatenates_S64x8_S64x8_S64x8_S64x8_S64x8_S64x8_S64x8_S64x8_S64x64_d1

/-! ## The factor -/

/-- The reciprocal square root of the panel's diagonal entry in its column `j`. -/
def rinv (p j : ℕ) (A : FVec F S64x8 .f32) : FVec F S1x1 .f32 := rsqrt (pent A (8 * p + j) j)

/-- The factor's column `j` of panel `p`, from what is left of the panel. -/
def lcol (p j : ℕ) (A : FVec F S64x8 .f32) : FVec F S64x1 .f32 :=
  mulf (mulf (pcol A j) (broadcastTo S64x1 (rinv p j A) broadcasts_S1x1_S64x1)) (geM (8 * p + j))

/-- The column's outer product, to be taken off what is left of the panel. -/
def upd (p j : ℕ) (A : FVec F S64x8 .f32) : FVec F S64x8 .f32 :=
  mulf (broadcastTo S64x8 (mulf (pcol A j) (gtM (8 * p + j))) broadcasts_S64x1_S64x8)
    (broadcastTo S64x8 (mulf (mulf (prow A (8 * p + j)) (gtL j))
      (broadcastTo S1x8 (mulf (rinv p j A) (rinv p j A)) broadcasts_S1x1_S1x8)) broadcasts_S1x8_S64x8)

/-- What is left of panel `p` before its column `j`. -/
def panAt (p : ℕ) (A : FVec F S64x64 .f32) (j : ℕ) : FVec F S64x8 .f32 :=
  Nat.rec (pan A (8 * p)) (fun j B => subf B (upd p j B)) j

/-- The factor's panel `p`. -/
def lpan (p : ℕ) (A : FVec F S64x64 .f32) : FVec F S64x8 .f32 :=
  glue (lcol p 0 (panAt p A 0)) (lcol p 1 (panAt p A 1)) (lcol p 2 (panAt p A 2)) (lcol p 3 (panAt p A 3))
    (lcol p 4 (panAt p A 4)) (lcol p 5 (panAt p A 5)) (lcol p 6 (panAt p A 6)) (lcol p 7 (panAt p A 7))

/-- The matrix to factorise. -/
def gram (W : FVec F S64x64 .f32) : FVec F S64x64 .f32 :=
  addf (matmul dot_S64x64_S64x64_S64x64_0_0_1_1_n_n none W W (constant S64x64 .f32 0x00000000#32))
    (mulf (broadcast S64x64 (Scalar.ofBits .f32 0x38D1B717#32)) eye)

/-- What is left of the matrix before panel `p`. -/
def left (W : FVec F S64x64 .f32) (p : ℕ) : FVec F S64x64 .f32 :=
  Nat.rec (gram W) (fun p A => subf A (matmul dot_S64x8_S8x64_S64x64_1_0_0_1_n_n none (lpan p A)
    (transpose S8x64 [1, 0] (lpan p A) transposes_S64x8_p1_0_S8x64) (constant S64x64 .f32 0x00000000#32))) p

/-- The factor. -/
def fac (W : FVec F S64x64 .f32) : FVec F S64x64 .f32 :=
  gluePan (lpan 0 (left W 0)) (lpan 1 (left W 1)) (lpan 2 (left W 2)) (lpan 3 (left W 3))
    (lpan 4 (left W 4)) (lpan 5 (left W 5)) (lpan 6 (left W 6)) (lpan 7 (left W 7))

/-- The reciprocal of the factor's diagonal entry in column `j` of panel `p`. -/
def recip (W : FVec F S64x64 .f32) (p j : ℕ) : FVec F S1x1 .f32 := rinv p j (panAt p (left W p) j)

/-! ## The solve -/

/-- The sum over the panel's columns before `j` that column `j` of the solution takes off. -/
def accAt (L : FVec F S64x64 .f32) (p j : ℕ) (a : FVec F S64x8 .f32) (x : ℕ → FVec F S64x1 .f32) (i : ℕ) : FVec F S64x1 .f32 :=
  Nat.rec (pcol a j) (fun i s => addf s (mulf (x i) (broadcastTo S64x1 (ent L (8 * p + j) (8 * p + i)) broadcasts_S1x1_S64x1))) i

/-- The solution's column `j` of panel `p`, from the panel's columns before it. -/
def xcol (W : FVec F S64x64 .f32) (p j : ℕ) (a : FVec F S64x8 .f32) (x : ℕ → FVec F S64x1 .f32) : FVec F S64x1 .f32 :=
  mulf (subf (col W (8 * p + j)) (accAt (fac W) p j a x j)) (broadcastTo S64x1 (recip W p j) broadcasts_S1x1_S64x1)

/-- The solution's columns of panel `p` before `j`. -/
def xs (W : FVec F S64x64 .f32) (p : ℕ) (a : FVec F S64x8 .f32) (j : ℕ) : ℕ → FVec F S64x1 .f32 :=
  Nat.rec (fun _ => constant S64x1 .f32 0#32) (fun j x i => if i = j then xcol W p j a x else x i) j

/-- The solution's panel `p`. -/
def xpan (W : FVec F S64x64 .f32) (p : ℕ) (a : FVec F S64x8 .f32) : FVec F S64x8 .f32 :=
  glue (xs W p a 8 0) (xs W p a 8 1) (xs W p a 8 2) (xs W p a 8 3) (xs W p a 8 4) (xs W p a 8 5) (xs W p a 8 6) (xs W p a 8 7)

/-- The solved panels' sum against panel `p` of the factor's transpose. -/
def acc8 (W : FVec F S64x64 .f32) (p : ℕ) (X : FVec F S64x64 .f32) : FVec F S64x8 .f32 :=
  matmul dot_S64x64_S64x8_S64x8_1_0_0_1_n_n none X (pan (transpose S64x64 [1, 0] (fac W) transposes_S64x64_p1_0_S64x64) (8 * p))
    (constant S64x8 .f32 0x00000000#32)

/-- The solution with its first `p` panels filled, zero elsewhere. -/
def sol (W : FVec F S64x64 .f32) (p : ℕ) : FVec F S64x64 .f32 :=
  Nat.rec (broadcast S64x64 (Scalar.ofBits .f32 0x00000000#32)) (fun p X => addf X (matmul dot_S64x8_S8x64_S64x64_1_0_0_1_n_n none
    (xpan W p (acc8 W p X)) (sel (8 * p)) (constant S64x64 .f32 0x00000000#32))) p

/-- The matrix a layer multiplies by: `θ` times the orthonormalised weights, plus `1 - θ` times the identity. -/
def mix (θ θ' : F .f32) (W : FVec F S64x64 .f32) : FVec F S64x64 .f32 :=
  addf (mulf (broadcast S64x64 θ) (sol W 8)) (mulf (broadcast S64x64 θ') eye)

/-! ## The same functions, as the program spells them -/

theorem slice_pan {c : ℕ} (A : FVec F S64x64 .f32) (h) : extractStridedSlice S64x8 ![0, c] A h = pan A c := by
  have h' : c + 8 ≤ 64 := by obtain ⟨_, h⟩ := h; exact h 1
  simp [pan, h']
theorem slice_col {c : ℕ} (A : FVec F S64x64 .f32) (h) : extractStridedSlice S64x1 ![0, c] A h = col A c := by
  have h' : c + 1 ≤ 64 := by obtain ⟨_, h⟩ := h; exact h 1
  simp only [col, dif_pos h']
theorem slice_ent {r c : ℕ} (A : FVec F S64x64 .f32) (h) : extractStridedSlice S1x1 ![r, c] A h = ent A r c := by
  have h' : r + 1 ≤ 64 ∧ c + 1 ≤ 64 := by obtain ⟨_, h⟩ := h; exact ⟨h 0, h 1⟩
  simp only [ent, dif_pos h']
theorem slice_pcol {j : ℕ} (A : FVec F S64x8 .f32) (h) : extractStridedSlice S64x1 ![0, j] A h = pcol A j := by
  have h' : j + 1 ≤ 8 := by obtain ⟨_, h⟩ := h; exact h 1
  simp only [pcol, dif_pos h']
theorem slice_prow {r : ℕ} (A : FVec F S64x8 .f32) (h) : extractStridedSlice S1x8 ![r, 0] A h = prow A r := by
  have h' : r + 1 ≤ 64 := by obtain ⟨_, h⟩ := h; exact h 0
  simp only [prow, dif_pos h']
theorem slice_pent {r j : ℕ} (A : FVec F S64x8 .f32) (h) : extractStridedSlice S1x1 ![r, j] A h = pent A r j := by
  have h' : r + 1 ≤ 64 ∧ j + 1 ≤ 8 := by obtain ⟨_, h⟩ := h; exact ⟨h 0, h 1⟩
  simp only [pent, dif_pos h']
theorem panAt_succ (p : ℕ) (A : FVec F S64x64 .f32) (j : ℕ) : panAt p A (j + 1) = subf (panAt p A j) (upd p j (panAt p A j)) := rfl
theorem panAt_zero (p : ℕ) (A : FVec F S64x64 .f32) : panAt p A 0 = pan A (8 * p) := rfl
theorem left_zero (W : FVec F S64x64 .f32) : left W 0 = gram W := rfl
theorem left_succ (W : FVec F S64x64 .f32) (p : ℕ) : left W (p + 1) = subf (left W p) (matmul dot_S64x8_S8x64_S64x64_1_0_0_1_n_n none (lpan p (left W p))
    (transpose S8x64 [1, 0] (lpan p (left W p)) transposes_S64x8_p1_0_S8x64) (constant S64x64 .f32 0x00000000#32)) := rfl

theorem glue_of (x0 x1 x2 x3 x4 x5 x6 x7 : FVec F S64x1 .f32) (h) :
    concatenate S64x8 1 [⟨S64x1, x0⟩, ⟨S64x1, x1⟩, ⟨S64x1, x2⟩, ⟨S64x1, x3⟩, ⟨S64x1, x4⟩, ⟨S64x1, x5⟩, ⟨S64x1, x6⟩, ⟨S64x1, x7⟩] h
      = glue x0 x1 x2 x3 x4 x5 x6 x7 := rfl
theorem gluePan_of (x0 x1 x2 x3 x4 x5 x6 x7 : FVec F S64x8 .f32) (h) :
    concatenate S64x64 1 [⟨S64x8, x0⟩, ⟨S64x8, x1⟩, ⟨S64x8, x2⟩, ⟨S64x8, x3⟩, ⟨S64x8, x4⟩, ⟨S64x8, x5⟩, ⟨S64x8, x6⟩, ⟨S64x8, x7⟩] h
      = gluePan x0 x1 x2 x3 x4 x5 x6 x7 := rfl
theorem accAt_zero (L : FVec F S64x64 .f32) (p j : ℕ) (a : FVec F S64x8 .f32) (x : ℕ → FVec F S64x1 .f32) : accAt L p j a x 0 = pcol a j := rfl
theorem accAt_succ (L : FVec F S64x64 .f32) (p j : ℕ) (a : FVec F S64x8 .f32) (x : ℕ → FVec F S64x1 .f32) (i : ℕ) :
    accAt L p j a x (i + 1) = addf (accAt L p j a x i)
      (mulf (x i) (broadcastTo S64x1 (ent L (8 * p + j) (8 * p + i)) broadcasts_S1x1_S64x1)) := rfl
theorem xs_same (W : FVec F S64x64 .f32) (p : ℕ) (a : FVec F S64x8 .f32) (j : ℕ) : xs W p a (j + 1) j = xcol W p j a (xs W p a j) := if_pos rfl
theorem xs_lt (W : FVec F S64x64 .f32) (p : ℕ) (a : FVec F S64x8 .f32) {j i : ℕ} (h : i < j) : xs W p a (j + 1) i = xs W p a j i := if_neg h.ne
theorem xs_eq (W : FVec F S64x64 .f32) (p : ℕ) (a : FVec F S64x8 .f32) {j i : ℕ} (h : i < j) : xs W p a j i = xcol W p i a (xs W p a i) := by
  induction j with
  | zero => omega
  | succ j ih =>
    rcases Nat.lt_succ_iff_lt_or_eq.1 h with h' | rfl
    · rw [xs_lt _ _ _ h', ih h']
    · exact xs_same ..
theorem sol_zero (W : FVec F S64x64 .f32) : sol W 0 = broadcast S64x64 (Scalar.ofBits .f32 0x00000000#32) := rfl
theorem sol_succ (W : FVec F S64x64 .f32) (p : ℕ) : sol W (p + 1) = addf (sol W p) (matmul dot_S64x8_S8x64_S64x64_1_0_0_1_n_n none
    (xpan W p (acc8 W p (sol W p))) (sel (8 * p)) (constant S64x64 .f32 0x00000000#32)) := rfl

end Cert.Ortho

end
-- ==== Proof.Body.lean ====
/- The two kernel bodies as short programs. The second kernel's is one program per phase of its grid: the first point also runs the
   factorisation (`prologue`), and each point then runs one of the four phases. -/
module

public import proofs.«01_k».proof.Proof.Ortho
public import proofs.«01_k».proof.Proof.Gen.KernelIdeal.Skeleton

@[expose] public section

set_option maxRecDepth 65536
set_option maxHeartbeats 0

noncomputable section

namespace Cert.Body

open Idealize.ShloMosaic Idealize.SL.Sem Cert.KernelIdeal Cert.KernelIdeal.Gen Cert.Ortho

variable {F : FTy → Type} [FloatOps F]

local instance : Cert.KernelIdeal.Facts := Cert.KernelIdeal.Gen.facts

/-! ## Which phase a point is in -/

theorem cond1_iff (i : grid1.Coords) :
    Scalar.cmpi .ne (Scalar.extui (Scalar.cmpi .eq (BitVec.ofNat 32 (i 0).val) 0#32) : BitVec 32) 0#32 = 1#1 ↔ (i 0).val = 0 :=
  (by decide +kernel : ∀ n : Fin 100, Scalar.cmpi .ne (Scalar.extui (Scalar.cmpi .eq (BitVec.ofNat 32 n.val) 0#32) : BitVec 32) 0#32 = 1#1
    ↔ n.val = 0) (i 0)

/-- The point whose coordinate is `n`. -/
def at1 (n : Fin 100) : grid1.Coords := fun a => match a with | 0 => n

theorem eq_at1 (i : grid1.Coords) : i = at1 (i 0) := by
  funext a; match a with | 0 => rfl

theorem cond2_iff (i : grid1.Coords) : k1_cond2 i = 1#1 ↔ (i 0).val < 25 := by
  rw [eq_at1 i]
  exact (by decide +kernel : ∀ n : Fin 100, k1_cond2 (at1 n) = 1#1 ↔ n.val < 25) (i 0)
theorem cond3_iff (i : grid1.Coords) : k1_cond3 i = 1#1 ↔ 25 ≤ (i 0).val ∧ (i 0).val < 50 := by
  rw [eq_at1 i]
  exact (by decide +kernel : ∀ n : Fin 100, k1_cond3 (at1 n) = 1#1 ↔ 25 ≤ n.val ∧ n.val < 50) (i 0)
theorem cond4_iff (i : grid1.Coords) : k1_cond4 i = 1#1 ↔ 50 ≤ (i 0).val ∧ (i 0).val < 75 := by
  rw [eq_at1 i]
  exact (by decide +kernel : ∀ n : Fin 100, k1_cond4 (at1 n) = 1#1 ↔ 50 ≤ n.val ∧ n.val < 75) (i 0)
theorem cond5_iff (i : grid1.Coords) : k1_cond5 i = 1#1 ↔ 75 ≤ (i 0).val := by
  rw [eq_at1 i]
  exact (by decide +kernel : ∀ n : Fin 100, k1_cond5 (at1 n) = 1#1 ↔ 75 ≤ n.val) (i 0)

/-! ## The phases -/

/-- Slab `0`, and slab `1`, of the two weight matrices. -/
abbrev slab0 : Rect S2x64x64 := Rect.unit (s := S2x64x64) ![0, 0, 0] S1x64x64.size inb_S2x64x64_S1x64x64_0_0_0
abbrev slab1 : Rect S2x64x64 := Rect.unit (s := S2x64x64) ![1, 0, 0] S1x64x64.size inb_S2x64x64_S1x64x64_1_0_0

/-- What the first point stores for a layer: `mix` of its weights, as a slab. -/
def mixSlab (θ θ' : F .f32) (v : Vec F S1x64x64 .f32) : FVec F S1x64x64 .f32 :=
  shapeCast S1x64x64 (mix θ θ' (shapeCast S64x64 v shapeCasts_S1x64x64_S64x64)) shapeCasts_S64x64_S1x64x64

/-- The first layer's constant and one less it, then the second's. -/
def θ0 : F .f32 := Scalar.ofBits .f32 0x3ECF991F#32
def θ0' : F .f32 := Scalar.ofBits .f32 0x3F183370#32
def θ1 : F .f32 := Scalar.ofBits .f32 0x3E647FBE#32
def θ1' : F .f32 := Scalar.ofBits .f32 0x3F46E010#32

/-- The first point's factorisation of both layers' weights. -/
def prologue (M3 M13 : Memref sig .tc .vmem S2x64x64 .f32) : Prog (TpuEff nD τ sig (Elt F) Λ₀ .tc) PUnit := do
  let v : Vec F S1x64x64 .f32 ← Prog.lift (.load M3 slab0.toLoadRect (View.loadsAt_vmem h_S1x64x64))
  let _x : Vec F S1x64x64 .f32 ← Prog.lift (.load M13 slab0.toLoadRect (View.loadsAt_vmem h_S1x64x64))
  Prog.lift (.store M13 slab0 (mixSlab θ0 θ0' v) Finset.univ (View.stores_vmem_bits_univ h_S1x64x64 rfl) (.inl rfl))
  let v' : Vec F S1x64x64 .f32 ← Prog.lift (.load M3 slab1.toLoadRect (View.loadsAt_vmem h_S1x64x64))
  let _x' : Vec F S1x64x64 .f32 ← Prog.lift (.load M13 slab1.toLoadRect (View.loadsAt_vmem h_S1x64x64))
  Prog.lift (.store M13 slab1 (mixSlab θ1 θ1' v') Finset.univ (View.stores_vmem_bits_univ h_S1x64x64 rfl) (.inl rfl))

section

variable (i : grid1.Coords) (M1 : Memref sig .tc .vmem S1x400x10000 .f32) (h1 : M1.IsWhole) (M2 : Memref sig .tc .vmem S10000x128 .f32) (h2 : M2.IsWhole)
  (M3 : Memref sig .tc .vmem S2x64x64 .f32) (h3 : M3.IsWhole) (M4 : Memref sig .tc .vmem S64x40 .f32) (h4 : M4.IsWhole)
  (M5 : Memref sig .tc .vmem S1x40 .f32) (h5 : M5.IsWhole) (M6 : Memref sig .tc .smem S1x1 .f32) (h6 : M6.IsWhole)
  (M7 : Memref sig .tc .vmem S400x40 .f32) (h7 : M7.IsWhole) (M8 : Memref sig .tc .vmem S400x40 .f32) (h8 : M8.IsWhole)
  (M9 : Memref sig .tc .vmem S2x400x40 .f32) (h9 : M9.IsWhole) (M10 : Memref sig .tc .vmem S10000x128 .f32) (h10 : M10.IsWhole)
  (M11 : Memref sig .tc .vmem S10000x128 .f32) (h11 : M11.IsWhole) (M12 : Memref sig .tc .vmem S10000x64 .f32) (h12 : M12.IsWhole)
  (M13 : Memref sig .tc .vmem S2x64x64 .f32) (h13 : M13.IsWhole)

/-- The first phase at a point: the first product of the first branch, and the mixed rows. -/
def phase0 (w : F .f32) (k1_h2 : k1_cond2 i = 1#1) : Prog (TpuEff nD τ sig (Elt F) Λ₀ .tc) PUnit := do
  let v31 : Vec F S1x400x10000 .f32 ← Prog.lift (.load M1 (Rect.unit (s := S1x400x10000) ![0, 0, 0] S1x400x10000.size inb_S1x400x10000_S1x400x10000_0_0_0).toLoadRect (View.loadsAt_vmem h_S1x400x10000))
  let v33 : Vec F S10000x64 .f32 ← Prog.lift (.load M2 (Rect.unit (s := S10000x128) ![0, 0] S10000x64.size inb_S10000x128_S10000x64_0_0).toLoadRect (View.loadsAt_vmem h_S10000x64))
  let v39 : Vec F S400x64 .f32 ← Prog.lift (.load M2 (Rect.unit (s := S10000x128) (k1_off1 i) S400x64.size (k1_off1_inb i k1_h2)).toLoadRect (View.loadsAt_vmem h_S400x64))
  let v44 : Vec F S1x64x64 .f32 ← Prog.lift (.load M13 (Rect.unit (s := S2x64x64) ![0, 0, 0] S1x64x64.size inb_S2x64x64_S1x64x64_0_0_0).toLoadRect (View.loadsAt_vmem h_S1x64x64))
  let v51 : Vec F S400x64 .f32 ← Prog.lift (.load M10 (Rect.unit (s := S10000x128) (k1_off1 i) S400x64.size (k1_off1_inb i k1_h2)).toLoadRect (View.loadsAt_vmem h_S400x64))
  Prog.lift (.store M10 (Rect.unit (s := S10000x128) (k1_off1 i) S400x64.size (k1_off1_inb i k1_h2)) (k1_pay847 v31 v33 v39 v44) Finset.univ (View.stores_vmem_bits_univ h_S400x64 rfl) (.inl rfl))
  let v55 : Vec F S400x64 .f32 ← Prog.lift (.load M2 (Rect.unit (s := S10000x128) (k1_off2 i) S400x64.size (k1_off2_inb i k1_h2)).toLoadRect (View.loadsAt_vmem h_S400x64))
  let v64 : Vec F S400x64 .f32 ← Prog.lift (.load M11 (Rect.unit (s := S10000x128) (k1_off1 i) S400x64.size (k1_off1_inb i k1_h2)).toLoadRect (View.loadsAt_vmem h_S400x64))
  Prog.lift (.store M11 (Rect.unit (s := S10000x128) (k1_off1 i) S400x64.size (k1_off1_inb i k1_h2)) (k1_pay848 w v31 v33 v39 v44 v55) Finset.univ (View.stores_vmem_bits_univ h_S400x64 rfl) (.inl rfl))

/-- The second phase at a point: the second product of the first branch. -/
def phase1 (k1_h3 : k1_cond3 i = 1#1) : Prog (TpuEff nD τ sig (Elt F) Λ₀ .tc) PUnit := do
  let v31 : Vec F S1x400x10000 .f32 ← Prog.lift (.load M1 (Rect.unit (s := S1x400x10000) ![0, 0, 0] S1x400x10000.size inb_S1x400x10000_S1x400x10000_0_0_0).toLoadRect (View.loadsAt_vmem h_S1x400x10000))
  let v33 : Vec F S10000x64 .f32 ← Prog.lift (.load M10 (Rect.unit (s := S10000x128) ![0, 0] S10000x64.size inb_S10000x128_S10000x64_0_0).toLoadRect (View.loadsAt_vmem h_S10000x64))
  let v38 : Vec F S400x64 .f32 ← Prog.lift (.load M2 (Rect.unit (s := S10000x128) (k1_off3 i) S400x64.size (k1_off3_inb i k1_h3)).toLoadRect (View.loadsAt_vmem h_S400x64))
  let v43 : Vec F S1x64x64 .f32 ← Prog.lift (.load M13 (Rect.unit (s := S2x64x64) ![1, 0, 0] S1x64x64.size inb_S2x64x64_S1x64x64_1_0_0).toLoadRect (View.loadsAt_vmem h_S1x64x64))
  let v50 : Vec F S400x64 .f32 ← Prog.lift (.load M10 (Rect.unit (s := S10000x128) (k1_off4 i) S400x64.size (k1_off4_inb i k1_h3)).toLoadRect (View.loadsAt_vmem h_S400x64))
  Prog.lift (.store M10 (Rect.unit (s := S10000x128) (k1_off4 i) S400x64.size (k1_off4_inb i k1_h3)) (k1_pay849 v31 v33 v38 v43) Finset.univ (View.stores_vmem_bits_univ h_S400x64 rfl) (.inl rfl))

/-- The third phase at a point: the first product of the second branch, mixed with the first branch's rows. -/
def phase2 (w : F .f32) (k1_h4 : k1_cond4 i = 1#1) : Prog (TpuEff nD τ sig (Elt F) Λ₀ .tc) PUnit := do
  let v31 : Vec F S1x400x10000 .f32 ← Prog.lift (.load M1 (Rect.unit (s := S1x400x10000) ![0, 0, 0] S1x400x10000.size inb_S1x400x10000_S1x400x10000_0_0_0).toLoadRect (View.loadsAt_vmem h_S1x400x10000))
  let v33 : Vec F S10000x64 .f32 ← Prog.lift (.load M11 (Rect.unit (s := S10000x128) ![0, 0] S10000x64.size inb_S10000x128_S10000x64_0_0).toLoadRect (View.loadsAt_vmem h_S10000x64))
  let v38 : Vec F S400x64 .f32 ← Prog.lift (.load M2 (Rect.unit (s := S10000x128) (k1_off5 i) S400x64.size (k1_off5_inb i k1_h4)).toLoadRect (View.loadsAt_vmem h_S400x64))
  let v43 : Vec F S1x64x64 .f32 ← Prog.lift (.load M13 (Rect.unit (s := S2x64x64) ![0, 0, 0] S1x64x64.size inb_S2x64x64_S1x64x64_0_0_0).toLoadRect (View.loadsAt_vmem h_S1x64x64))
  let v50 : Vec F S400x64 .f32 ← Prog.lift (.load M11 (Rect.unit (s := S10000x128) (k1_off5 i) S400x64.size (k1_off5_inb i k1_h4)).toLoadRect (View.loadsAt_vmem h_S400x64))
  Prog.lift (.store M11 (Rect.unit (s := S10000x128) (k1_off5 i) S400x64.size (k1_off5_inb i k1_h4)) (k1_pay851 v31 v33 v38 v43) Finset.univ (View.stores_vmem_bits_univ h_S400x64 rfl) (.inl rfl))
  let v57 : Vec F S400x64 .f32 ← Prog.lift (.load M10 (Rect.unit (s := S10000x128) (k1_off5 i) S400x64.size (k1_off5_inb i k1_h4)).toLoadRect (View.loadsAt_vmem h_S400x64))
  let v62 : Vec F S400x64 .f32 ← Prog.lift (.load M12 (Rect.unit (s := S10000x64) (k1_off6 i) S400x64.size (k1_off6_inb i k1_h4)).toLoadRect (View.loadsAt_vmem h_S400x64))
  Prog.lift (.store M12 (Rect.unit (s := S10000x64) (k1_off6 i) S400x64.size (k1_off6_inb i k1_h4)) (k1_pay852 w v31 v33 v38 v43 v57) Finset.univ (View.stores_vmem_bits_univ h_S400x64 rfl) (.inl rfl))

/-- The weight of the second branch in its last layer, and one less it. -/
def α : F .f32 := Scalar.ofBits .f32 0x3F666666#32
def α' : F .f32 := Scalar.ofBits .f32 0x3DCCCCCD#32

/-- The last phase at a point: the second product of the second branch, and the rows of the three results. -/
def phase3 (k1_h5 : k1_cond5 i = 1#1) : Prog (TpuEff nD τ sig (Elt F) Λ₀ .tc) PUnit := do
  let v31 : Vec F S1x400x10000 .f32 ← Prog.lift (.load M1 (Rect.unit (s := S1x400x10000) ![0, 0, 0] S1x400x10000.size inb_S1x400x10000_S1x400x10000_0_0_0).toLoadRect (View.loadsAt_vmem h_S1x400x10000))
  let v33 : Vec F S10000x64 .f32 ← Prog.lift (.load M12 (Rect.unit (s := S10000x64) ![0, 0] S10000x64.size inb_S10000x64_S10000x64_0_0).toLoadRect (View.loadsAt_vmem h_S10000x64))
  let v38 : Vec F S400x64 .f32 ← Prog.lift (.load M2 (Rect.unit (s := S10000x128) (k1_off7 i) S400x64.size (k1_off7_inb i k1_h5)).toLoadRect (View.loadsAt_vmem h_S400x64))
  let v43 : Vec F S1x64x64 .f32 ← Prog.lift (.load M13 (Rect.unit (s := S2x64x64) ![1, 0, 0] S1x64x64.size inb_S2x64x64_S1x64x64_1_0_0).toLoadRect (View.loadsAt_vmem h_S1x64x64))
  let v50 : Vec F S400x64 .f32 ← Prog.lift (.load M10 (Rect.unit (s := S10000x128) (k1_off8 i) S400x64.size (k1_off8_inb i k1_h5)).toLoadRect (View.loadsAt_vmem h_S400x64))
  let v52 : Vec F S400x64 .f32 ← Prog.lift (.load M10 (Rect.unit (s := S10000x128) (k1_off7 i) S400x64.size (k1_off7_inb i k1_h5)).toLoadRect (View.loadsAt_vmem h_S400x64))
  let v55 : Vec F S400x64 .f32 ← Prog.lift (.load M11 (Rect.unit (s := S10000x128) (k1_off7 i) S400x64.size (k1_off7_inb i k1_h5)).toLoadRect (View.loadsAt_vmem h_S400x64))
  let v57 : Vec F S64x40 .f32 ← Prog.lift (.load M4 (Rect.unit (s := S64x40) ![0, 0] S64x40.size inb_S64x40_S64x40_0_0).toLoadRect (View.loadsAt_vmem h_S64x40))
  let v59 : Vec F S1x40 .f32 ← Prog.lift (.load M5 (Rect.unit (s := S1x40) ![0, 0] S1x40.size inb_S1x40_S1x40_0_0).toLoadRect (View.loadsAt_vmem h_S1x40))
  let v98 : Vec F S400x40 .f32 ← Prog.lift (.load M7 (Rect.unit (s := S400x40) ![0, 0] S400x40.size inb_S400x40_S400x40_0_0).toLoadRect (View.loadsAt_vmem h_S400x40))
  Prog.lift (.store M7 (Rect.unit (s := S400x40) ![0, 0] S400x40.size inb_S400x40_S400x40_0_0) (k1_pay841 (k1_pay836 v50 v52 v57 v59) (k1_pay837 α α' v31 v33 v38 v43 v55 v57 v59)) Finset.univ (View.stores_vmem_bits_univ h_S400x40 rfl) (.inl rfl))
  let v102 : Vec F S400x40 .f32 ← Prog.lift (.load M8 (Rect.unit (s := S400x40) ![0, 0] S400x40.size inb_S400x40_S400x40_0_0).toLoadRect (View.loadsAt_vmem h_S400x40))
  Prog.lift (.store M8 (Rect.unit (s := S400x40) ![0, 0] S400x40.size inb_S400x40_S400x40_0_0) (k1_pay842 (k1_pay836 v50 v52 v57 v59) (k1_pay837 α α' v31 v33 v38 v43 v55 v57 v59) (k1_pay838 v50 v52 v57 v59)) Finset.univ (View.stores_vmem_bits_univ h_S400x40 rfl) (.inl rfl))
  let v103 : Vec F S1x400x40 .f32 ← Prog.lift (.load M9 (Rect.unit (s := S2x400x40) ![0, 0, 0] S1x400x40.size inb_S2x400x40_S1x400x40_0_0_0).toLoadRect (View.loadsAt_vmem h_S1x400x40))
  Prog.lift (.store M9 (Rect.unit (s := S2x400x40) ![0, 0, 0] S1x400x40.size inb_S2x400x40_S1x400x40_0_0_0) (k1_pay843 (k1_pay836 v50 v52 v57 v59) (k1_pay838 v50 v52 v57 v59)) Finset.univ (View.stores_vmem_bits_univ h_S1x400x40 rfl) (.inl rfl))
  let v106 : Vec F S1x400x40 .f32 ← Prog.lift (.load M9 (Rect.unit (s := S2x400x40) ![1, 0, 0] S1x400x40.size inb_S2x400x40_S1x400x40_1_0_0).toLoadRect (View.loadsAt_vmem h_S1x400x40))
  Prog.lift (.store M9 (Rect.unit (s := S2x400x40) ![1, 0, 0] S1x400x40.size inb_S2x400x40_S1x400x40_1_0_0) (k1_pay844 (k1_pay837 α α' v31 v33 v38 v43 v55 v57 v59)) Finset.univ (View.stores_vmem_bits_univ h_S1x400x40 rfl) (.inl rfl))

theorem body0 (hi : 0 < (i 0).val ∧ (i 0).val < 25) (hc : k1_cond2 i = 1#1) :
    cc1__mega_body (F := F) i M1 h1 M2 h2 M3 h3 M4 h4 M5 h5 M6 h6 M7 h7 M8 h8 M9 h9 M10 h10 M11 h11 M12 h12 M13 h13
      = ((smemLoad M6 (Rect.unit (s := S1x1) ![0, 0] S1x1.size inb_S1x1_S1x1_0_0) numel1_S1x1 rfl : Prog (TpuEff nD τ sig (Elt F) Λ₀ .tc) (Elt F .f32)) >>= fun w => phase0 i M1 M2 M10 M11 M13 w hc) := by
  have n1 := mt (cond1_iff i).1 (by omega)
  have n3 := mt (cond3_iff i).1 (by omega)
  have n4 := mt (cond4_iff i).1 (by omega)
  have n5 := mt (cond5_iff i).1 (by omega)
  simp only [cc1__mega_body, k1_part130_eq_skeleton, k1_part130_skel, dif_pos hc, dif_neg n1, dif_neg n3, dif_neg n4, dif_neg n5, phase0, bind_assoc, pure_bind, bind_pure_unit]

theorem body1 (hi : 25 ≤ (i 0).val ∧ (i 0).val < 50) (hc : k1_cond3 i = 1#1) :
    cc1__mega_body (F := F) i M1 h1 M2 h2 M3 h3 M4 h4 M5 h5 M6 h6 M7 h7 M8 h8 M9 h9 M10 h10 M11 h11 M12 h12 M13 h13
      = ((smemLoad M6 (Rect.unit (s := S1x1) ![0, 0] S1x1.size inb_S1x1_S1x1_0_0) numel1_S1x1 rfl : Prog (TpuEff nD τ sig (Elt F) Λ₀ .tc) (Elt F .f32)) >>= fun w => phase1 i M1 M2 M10 M13 hc) := by
  have n1 := mt (cond1_iff i).1 (by omega)
  have n2 := mt (cond2_iff i).1 (by omega)
  have n4 := mt (cond4_iff i).1 (by omega)
  have n5 := mt (cond5_iff i).1 (by omega)
  simp only [cc1__mega_body, k1_part130_eq_skeleton, k1_part130_skel, dif_pos hc, dif_neg n1, dif_neg n2, dif_neg n4, dif_neg n5, phase1, bind_assoc, pure_bind, bind_pure_unit]

theorem body2 (hi : 50 ≤ (i 0).val ∧ (i 0).val < 75) (hc : k1_cond4 i = 1#1) :
    cc1__mega_body (F := F) i M1 h1 M2 h2 M3 h3 M4 h4 M5 h5 M6 h6 M7 h7 M8 h8 M9 h9 M10 h10 M11 h11 M12 h12 M13 h13
      = ((smemLoad M6 (Rect.unit (s := S1x1) ![0, 0] S1x1.size inb_S1x1_S1x1_0_0) numel1_S1x1 rfl : Prog (TpuEff nD τ sig (Elt F) Λ₀ .tc) (Elt F .f32)) >>= fun w => phase2 i M1 M2 M10 M11 M12 M13 w hc) := by
  have n1 := mt (cond1_iff i).1 (by omega)
  have n2 := mt (cond2_iff i).1 (by omega)
  have n3 := mt (cond3_iff i).1 (by omega)
  have n5 := mt (cond5_iff i).1 (by omega)
  simp only [cc1__mega_body, k1_part130_eq_skeleton, k1_part130_skel, dif_pos hc, dif_neg n1, dif_neg n2, dif_neg n3, dif_neg n5, phase2, bind_assoc, pure_bind, bind_pure_unit]

theorem body3 (hi : 75 ≤ (i 0).val) (hc : k1_cond5 i = 1#1) :
    cc1__mega_body (F := F) i M1 h1 M2 h2 M3 h3 M4 h4 M5 h5 M6 h6 M7 h7 M8 h8 M9 h9 M10 h10 M11 h11 M12 h12 M13 h13
      = ((smemLoad M6 (Rect.unit (s := S1x1) ![0, 0] S1x1.size inb_S1x1_S1x1_0_0) numel1_S1x1 rfl : Prog (TpuEff nD τ sig (Elt F) Λ₀ .tc) (Elt F .f32)) >>= fun w => phase3 i M1 M2 M4 M5 M7 M8 M9 M10 M11 M12 M13 hc) := by
  have n1 := mt (cond1_iff i).1 (by omega)
  have n2 := mt (cond2_iff i).1 (by omega)
  have n3 := mt (cond3_iff i).1 (by omega)
  have n4 := mt (cond4_iff i).1 (by omega)
  simp only [cc1__mega_body, k1_part130_eq_skeleton, k1_part130_skel, dif_pos hc, dif_neg n1, dif_neg n2, dif_neg n3, dif_neg n4, α, α', k1_part128_eq_skeleton, k1_part128_skel, k1_part129_eq_skeleton, k1_part129_skel, phase3, bind_assoc, pure_bind, bind_pure_unit]

theorem prologue_eq (k : PUnit → Prog (TpuEff nD τ sig (Elt F) Λ₀ .tc) PUnit) :
    (do
      let ⟨v31, v32, v37, v39, v45, v1711, v1742, v1773, v1804, v1835, v1866, v1897, v1907, v3057, v3059, v3064, v3065, v3067⟩ ← k1_part126 (F := F) i M1 h1 M2 h2 M3 h3 M4 h4 M5 h5 M6 h6 M7 h7 M8 h8 M9 h9 M10 h10 M11 h11 M12 h12 M13 h13
      let ⟨v3231, v3237, v4670, v4701, v4732, v4763, v4794, v4825, v4856, v4872, v4903, v4934, v4965, v4996, v5027, v5058, v5089, v5099, v5100, v6085, v6087, v6092, v6099⟩ ← k1_part127 i M1 h1 M2 h2 M3 h3 M4 h4 M5 h5 M6 h6 M7 h7 M8 h8 M9 h9 M10 h10 M11 h11 M12 h12 M13 h13 v31 v32 v37 v39 v45 v1711 v1742 v1773 v1804 v1835 v1866 v1897 v1907 v3057 v3059 v3064 v3065 v3067
      let ⟨v6101, v6114, v6131, v6152, v6157, v6159⟩ ← k1_part121 i M1 h1 M2 h2 M3 h3 M4 h4 M5 h5 M6 h6 M7 h7 M8 h8 M9 h9 M10 h10 M11 h11 M12 h12 M13 h13 v3231 v4670 v4701 v4732 v4763 v5099 v6087 v6092 v6099
      let ⟨v6177, v6206, v6219⟩ ← k1_part122 i M1 h1 M2 h2 M3 h3 M4 h4 M5 h5 M6 h6 M7 h7 M8 h8 M9 h9 M10 h10 M11 h11 M12 h12 M13 h13 v3231 v4794 v4825 v5099 v6087 v6092 v6101 v6114 v6131 v6152 v6157 v6159
      let ⟨v6249, v6251, v6256, v6265, v6276⟩ ← k1_part123 i M1 h1 M2 h2 M3 h3 M4 h4 M5 h5 M6 h6 M7 h7 M8 h8 M9 h9 M10 h10 M11 h11 M12 h12 M13 h13 v32 v3231 v3237 v4856 v4872 v4903 v5099 v5100 v6085 v6092 v6101 v6114 v6131 v6152 v6177 v6206 v6219
      let ⟨v6278, v6295, v6316, v6333, v6336⟩ ← k1_part124 i M1 h1 M2 h2 M3 h3 M4 h4 M5 h5 M6 h6 M7 h7 M8 h8 M9 h9 M10 h10 M11 h11 M12 h12 M13 h13 v3231 v4934 v4965 v4996 v5099 v6251 v6256 v6265 v6276
      let ⟨v6341, v6370, v6395, v6396⟩ ← k1_part125 i M1 h1 M2 h2 M3 h3 M4 h4 M5 h5 M6 h6 M7 h7 M8 h8 M9 h9 M10 h10 M11 h11 M12 h12 M13 h13 v3231 v5027 v5058 v5099 v6251 v6256 v6265 v6278 v6295 v6316 v6333 v6336
      let v6419 : Vec F S1x64x64 .f32 ← Prog.lift (.load M13 (Rect.unit (s := S2x64x64) ![1, 0, 0] S1x64x64.size inb_S2x64x64_S1x64x64_1_0_0).toLoadRect (View.loadsAt_vmem h_S1x64x64))
      Prog.lift (.store M13 (Rect.unit (s := S2x64x64) ![1, 0, 0] S1x64x64.size inb_S2x64x64_S1x64x64_1_0_0) (k1_pay845 v32 v37 v3231 v3237 v5089 v6249 v6256 v6265 v6278 v6295 v6316 v6341 v6370 v6395 v6396) Finset.univ (View.stores_vmem_bits_univ h_S1x64x64 rfl) (.inl rfl))
      k ⟨⟩) = (prologue (F := F) M3 M13 >>= k) := by
  simp (config := { maxSteps := 10000000 }) only [
    k1_part1, k1_part2, k1_part3, k1_part4, k1_part5, k1_part6, k1_part7, k1_part8, k1_part9, k1_part10, k1_part11, k1_part12, k1_part13, k1_part14,
    k1_part15, k1_part16, k1_part17, k1_part18, k1_part19, k1_part20, k1_part21, k1_part22, k1_part23, k1_part24, k1_part25, k1_part26, k1_part27,
    k1_part28, k1_part29, k1_part30, k1_part31, k1_part32, k1_part33, k1_part34, k1_part35, k1_part36, k1_part37, k1_part38, k1_part39, k1_part40,
    k1_part41, k1_part42, k1_part43, k1_part44, k1_part45, k1_part46, k1_part47, k1_part48, k1_part49, k1_part50, k1_part51, k1_part52, k1_part53,
    k1_part54, k1_part55, k1_part56, k1_part57, k1_part58, k1_part59, k1_part60, k1_part61, k1_part62, k1_part63, k1_part64, k1_part65, k1_part66,
    k1_part67, k1_part68, k1_part69, k1_part70, k1_part71, k1_part72, k1_part73, k1_part74, k1_part75, k1_part76, k1_part77, k1_part78, k1_part79,
    k1_part80, k1_part81, k1_part82, k1_part83, k1_part84, k1_part85, k1_part86, k1_part87, k1_part88, k1_part89, k1_part90, k1_part91, k1_part92,
    k1_part93, k1_part94, k1_part95, k1_part96, k1_part97, k1_part98, k1_part99, k1_part100, k1_part101, k1_part102, k1_part103, k1_part104,
    k1_part105, k1_part106, k1_part107, k1_part108, k1_part109, k1_part110, k1_part111, k1_part112, k1_part113, k1_part114, k1_part115, k1_part116,
    k1_part117, k1_part118, k1_part119, k1_part120, k1_part121, k1_part122, k1_part123, k1_part124, k1_part125, k1_part126, k1_part127,
    k1_pay845, bind_assoc, pure_bind, slice_pan, slice_col, slice_ent, slice_pcol, slice_prow, slice_pent, glue_of, gluePan_of]
  simp (config := { maxSteps := 10000000 }) only [prologue, mixSlab, mix, θ0, θ0', θ1, θ1', bind_assoc, fac, left_succ, left_zero, lpan, panAt_succ, panAt_zero, gram, recip, lcol, rinv, upd, geM, gtM,
    gtL, rowI, laneI, lane8I, row8I, eye, sol_succ, sol_zero, acc8, sel, xpan, xs_eq, xcol, accAt_succ, accAt_zero, Nat.reduceLT,
    Nat.reduceMul, Nat.reduceAdd, Scalar.ofBits]

theorem bodyFirst (hi : (i 0).val = 0) (hc : k1_cond2 i = 1#1) :
    cc1__mega_body (F := F) i M1 h1 M2 h2 M3 h3 M4 h4 M5 h5 M6 h6 M7 h7 M8 h8 M9 h9 M10 h10 M11 h11 M12 h12 M13 h13
      = ((smemLoad M6 (Rect.unit (s := S1x1) ![0, 0] S1x1.size inb_S1x1_S1x1_0_0) numel1_S1x1 rfl : Prog (TpuEff nD τ sig (Elt F) Λ₀ .tc) (Elt F .f32)) >>= fun w => prologue M3 M13 >>= fun _ => phase0 i M1 M2 M10 M11 M13 w hc) := by
  have n3 := mt (cond3_iff i).1 (by omega)
  have n4 := mt (cond4_iff i).1 (by omega)
  have n5 := mt (cond5_iff i).1 (by omega)
  simp only [cc1__mega_body, k1_part130_eq_skeleton, k1_part130_skel, dif_pos ((cond1_iff i).2 hi), dif_pos hc, dif_neg n3, dif_neg n4, dif_neg n5, bind_assoc, pure_bind, bind_pure_unit]
  refine congrArg (bind _) (funext fun w => ?_)
  exact prologue_eq i M1 h1 M2 h2 M3 h3 M4 h4 M5 h5 M6 h6 M7 h7 M8 h8 M9 h9 M10 h10 M11 h11 M12 h12 M13 h13 fun _ => phase0 i M1 M2 M10 M11 M13 w hc

end

end Cert.Body

end
-- ==== Proof.Phases.lean ====
module

public import proofs.«01_k».proof.Proof.Body
public import proofs.«01_k».proof.Proof.Gen.KernelIdeal.Regions
public import Idealize.ShloMosaic.Lib.VecWindow
public import Idealize.ShloMosaic.Lib.Pipeline.RegionsLoop
public import Idealize.ShloMosaic.Lib.Tactic

/-!
The phases of the second kernel, run: from the staging buffers and the kernel's own buffers held at
given values, each phase returns them with its payloads put over the windows it stores.
-/

@[expose] public section

set_option maxRecDepth 65536
set_option maxHeartbeats 0

noncomputable section

namespace Cert.Phases

open Cert.KernelIdeal Cert.KernelIdeal.Gen Cert.Ortho Cert.Body
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

/-- The resources of the launch beside the program's own: the staging counters. -/
abbrev UU : Type := UR sig nD τ × Counters

local notation "𝕄" => MT nD τ sig Unit (Elt F) ℕ UU ℕ

/-- Memref `M` held whole at the values `X`. -/
abbrev hv (c : Dev nD) {sp : Space} {S : Shape} {e : EltTy} (M : Memref sig .tc sp S e) (X : S.Idx → Elt F e) : sProp 𝕄 :=
  owns (c : Thread nD τ) M fullShare X

/-- The windows the phases load: four hundred rows of sixty-four columns, all rows of sixty-four columns, a slab. -/
abbrev rows (P : Vec F S10000x128 .f32) (off : Fin 2 → ℕ) (h : ∀ a, off a + S400x64.size a ≤ S10000x128.size a) : Vec F S400x64 .f32 :=
  window (s := S10000x128) P off S400x64.size h
abbrev low (P : Vec F S10000x128 .f32) : Vec F S10000x64 .f32 :=
  window (s := S10000x128) P ![0, 0] S10000x64.size inb_S10000x128_S10000x64_0_0
abbrev slabOf0 (Y : Vec F S2x64x64 .f32) : Vec F S1x64x64 .f32 := window (s := S2x64x64) Y ![0, 0, 0] S1x64x64.size inb_S2x64x64_S1x64x64_0_0_0
abbrev slabOf1 (Y : Vec F S2x64x64 .f32) : Vec F S1x64x64 .f32 := window (s := S2x64x64) Y ![1, 0, 0] S1x64x64.size inb_S2x64x64_S1x64x64_1_0_0
abbrev all1 (X : Vec F S1x400x10000 .f32) : Vec F S1x400x10000 .f32 := window (s := S1x400x10000) X ![0, 0, 0] S1x400x10000.size inb_S1x400x10000_S1x400x10000_0_0_0
abbrev all3 (X : Vec F S10000x64 .f32) : Vec F S10000x64 .f32 := window (s := S10000x64) X ![0, 0] S10000x64.size inb_S10000x64_S10000x64_0_0
abbrev all4 (X : Vec F S64x40 .f32) : Vec F S64x40 .f32 := window (s := S64x40) X ![0, 0] S64x40.size inb_S64x40_S64x40_0_0
abbrev all5 (X : Vec F S1x40 .f32) : Vec F S1x40 .f32 := window (s := S1x40) X ![0, 0] S1x40.size inb_S1x40_S1x40_0_0
/-- The scalar of the one-by-one operand. -/
abbrev cell (X : Vec F S1x1 .f32) : F .f32 :=
  window (s := S1x1) X ![0, 0] S1x1.size inb_S1x1_S1x1_0_0 (Shape.Idx.first (numel1_S1x1.symm ▸ Nat.one_pos))

/-- Both layers' mixed weights over `Y`. -/
abbrev mixed (W Y : Vec F S2x64x64 .f32) : Vec F S2x64x64 .f32 :=
  put (s := S2x64x64) (put (s := S2x64x64) Y ![0, 0, 0] S1x64x64.size (mixSlab θ0 θ0' (slabOf0 W))) ![1, 0, 0] S1x64x64.size
    (mixSlab θ1 θ1' (slabOf1 W))

/-- The first point's factorisation. -/
theorem prologue_wp (c : Dev nD)  (M3 : Memref sig .tc .vmem S2x64x64 .f32) (M13 : Memref sig .tc .vmem S2x64x64 .f32)
    (X3 : Vec F S2x64x64 .f32) (X13 : Vec F S2x64x64 .f32) (E : Set ℕ) (Q : PUnit → sProp 𝕄) :
    iprop(hv c M3 X3 ∗ hv c M13 X13 ∗ (iprop(hv c M3 X3 ∗ hv c M13 (mixed X3 X13)) -∗ Q ⟨⟩))
      ⊢ wp frame (wpE (defs₀ (F := F)) Variants.none c none) E (prologue M3 M13) Q := by
  unfold prologue
  unfold hv owns
  iintro ⟨⟨%g3, %h3, H3⟩, ⟨%g13, %h13, H13⟩, Hk⟩
  subst h3; subst h13
  sl_exec!
  sl_step
  iapply Hk
  isplitl [H3]
  · iexists _; isplitr; swap; (· iexact H3); ipureintro; exact rfl
  iexists _; isplitr; swap; (· iexact H13); ipureintro; exact (View.read_writes_cons_put _ _ _ _ _ rfl).trans (congrArg (fun z => put z _ _ _) (View.read_writes_cons_put _ _ _ _ [] rfl))

/-- The first phase. -/
theorem phase0_wp (c : Dev nD) (i : grid1.Coords) (hc : k1_cond2 i = 1#1) (w : F .f32) (M1 : Memref sig .tc .vmem S1x400x10000 .f32) (M2 : Memref sig .tc .vmem S10000x128 .f32) (M10 : Memref sig .tc .vmem S10000x128 .f32) (M11 : Memref sig .tc .vmem S10000x128 .f32) (M13 : Memref sig .tc .vmem S2x64x64 .f32)
    (X1 : Vec F S1x400x10000 .f32) (X2 : Vec F S10000x128 .f32) (X10 : Vec F S10000x128 .f32) (X11 : Vec F S10000x128 .f32) (X13 : Vec F S2x64x64 .f32) (E : Set ℕ) (Q : PUnit → sProp 𝕄) :
    iprop(hv c M1 X1 ∗ hv c M2 X2 ∗ hv c M10 X10 ∗ hv c M11 X11 ∗ hv c M13 X13 ∗ (iprop(hv c M1 X1 ∗ hv c M2 X2 ∗ hv c M10 (put (s := S10000x128) X10 (k1_off1 i) S400x64.size (k1_pay847 (all1 X1) (low X2) (rows X2 (k1_off1 i) (k1_off1_inb i hc)) (slabOf0 X13))) ∗ hv c M11 (put (s := S10000x128) X11 (k1_off1 i) S400x64.size (k1_pay848 w (all1 X1) (low X2) (rows X2 (k1_off1 i) (k1_off1_inb i hc)) (slabOf0 X13) (rows X2 (k1_off2 i) (k1_off2_inb i hc)))) ∗ hv c M13 X13) -∗ Q ⟨⟩))
      ⊢ wp frame (wpE (defs₀ (F := F)) Variants.none c none) E (phase0 i M1 M2 M10 M11 M13 w hc) Q := by
  unfold phase0
  unfold hv owns
  iintro ⟨⟨%g1, %h1, H1⟩, ⟨%g2, %h2, H2⟩, ⟨%g10, %h10, H10⟩, ⟨%g11, %h11, H11⟩, ⟨%g13, %h13, H13⟩, Hk⟩
  subst h1; subst h2; subst h10; subst h11; subst h13
  sl_exec!
  sl_step
  iapply Hk
  isplitl [H1]
  · iexists _; isplitr; swap; (· iexact H1); ipureintro; exact rfl
  isplitl [H2]
  · iexists _; isplitr; swap; (· iexact H2); ipureintro; exact rfl
  isplitl [H10]
  · iexists _; isplitr; swap; (· iexact H10); ipureintro; exact View.read_writes_cons_put _ _ _ _ [] rfl
  isplitl [H11]
  · iexists _; isplitr; swap; (· iexact H11); ipureintro; exact View.read_writes_cons_put _ _ _ _ [] rfl
  iexists _; isplitr; swap; (· iexact H13); ipureintro; exact rfl

/-- The second phase. -/
theorem phase1_wp (c : Dev nD) (i : grid1.Coords) (hc : k1_cond3 i = 1#1) (M1 : Memref sig .tc .vmem S1x400x10000 .f32) (M2 : Memref sig .tc .vmem S10000x128 .f32) (M10 : Memref sig .tc .vmem S10000x128 .f32) (M13 : Memref sig .tc .vmem S2x64x64 .f32)
    (X1 : Vec F S1x400x10000 .f32) (X2 : Vec F S10000x128 .f32) (X10 : Vec F S10000x128 .f32) (X13 : Vec F S2x64x64 .f32) (E : Set ℕ) (Q : PUnit → sProp 𝕄) :
    iprop(hv c M1 X1 ∗ hv c M2 X2 ∗ hv c M10 X10 ∗ hv c M13 X13 ∗ (iprop(hv c M1 X1 ∗ hv c M2 X2 ∗ hv c M10 (put (s := S10000x128) X10 (k1_off4 i) S400x64.size (k1_pay849 (all1 X1) (low X10) (rows X2 (k1_off3 i) (k1_off3_inb i hc)) (slabOf1 X13))) ∗ hv c M13 X13) -∗ Q ⟨⟩))
      ⊢ wp frame (wpE (defs₀ (F := F)) Variants.none c none) E (phase1 i M1 M2 M10 M13 hc) Q := by
  unfold phase1
  unfold hv owns
  iintro ⟨⟨%g1, %h1, H1⟩, ⟨%g2, %h2, H2⟩, ⟨%g10, %h10, H10⟩, ⟨%g13, %h13, H13⟩, Hk⟩
  subst h1; subst h2; subst h10; subst h13
  sl_exec!
  sl_step
  iapply Hk
  isplitl [H1]
  · iexists _; isplitr; swap; (· iexact H1); ipureintro; exact rfl
  isplitl [H2]
  · iexists _; isplitr; swap; (· iexact H2); ipureintro; exact rfl
  isplitl [H10]
  · iexists _; isplitr; swap; (· iexact H10); ipureintro; exact View.read_writes_cons_put _ _ _ _ [] rfl
  iexists _; isplitr; swap; (· iexact H13); ipureintro; exact rfl

/-- The third phase. -/
theorem phase2_wp (c : Dev nD) (i : grid1.Coords) (hc : k1_cond4 i = 1#1) (w : F .f32) (M1 : Memref sig .tc .vmem S1x400x10000 .f32) (M2 : Memref sig .tc .vmem S10000x128 .f32) (M10 : Memref sig .tc .vmem S10000x128 .f32) (M11 : Memref sig .tc .vmem S10000x128 .f32) (M12 : Memref sig .tc .vmem S10000x64 .f32) (M13 : Memref sig .tc .vmem S2x64x64 .f32)
    (X1 : Vec F S1x400x10000 .f32) (X2 : Vec F S10000x128 .f32) (X10 : Vec F S10000x128 .f32) (X11 : Vec F S10000x128 .f32) (X12 : Vec F S10000x64 .f32) (X13 : Vec F S2x64x64 .f32) (E : Set ℕ) (Q : PUnit → sProp 𝕄) :
    iprop(hv c M1 X1 ∗ hv c M2 X2 ∗ hv c M10 X10 ∗ hv c M11 X11 ∗ hv c M12 X12 ∗ hv c M13 X13 ∗ (iprop(hv c M1 X1 ∗ hv c M2 X2 ∗ hv c M10 X10 ∗ hv c M11 (put (s := S10000x128) X11 (k1_off5 i) S400x64.size (k1_pay851 (all1 X1) (low X11) (rows X2 (k1_off5 i) (k1_off5_inb i hc)) (slabOf0 X13))) ∗ hv c M12 (put (s := S10000x64) X12 (k1_off6 i) S400x64.size (k1_pay852 w (all1 X1) (low X11) (rows X2 (k1_off5 i) (k1_off5_inb i hc)) (slabOf0 X13) (rows X10 (k1_off5 i) (k1_off5_inb i hc)))) ∗ hv c M13 X13) -∗ Q ⟨⟩))
      ⊢ wp frame (wpE (defs₀ (F := F)) Variants.none c none) E (phase2 i M1 M2 M10 M11 M12 M13 w hc) Q := by
  unfold phase2
  unfold hv owns
  iintro ⟨⟨%g1, %h1, H1⟩, ⟨%g2, %h2, H2⟩, ⟨%g10, %h10, H10⟩, ⟨%g11, %h11, H11⟩, ⟨%g12, %h12, H12⟩, ⟨%g13, %h13, H13⟩, Hk⟩
  subst h1; subst h2; subst h10; subst h11; subst h12; subst h13
  sl_exec!
  sl_step
  iapply Hk
  isplitl [H1]
  · iexists _; isplitr; swap; (· iexact H1); ipureintro; exact rfl
  isplitl [H2]
  · iexists _; isplitr; swap; (· iexact H2); ipureintro; exact rfl
  isplitl [H10]
  · iexists _; isplitr; swap; (· iexact H10); ipureintro; exact rfl
  isplitl [H11]
  · iexists _; isplitr; swap; (· iexact H11); ipureintro; exact View.read_writes_cons_put _ _ _ _ [] rfl
  isplitl [H12]
  · iexists _; isplitr; swap; (· iexact H12); ipureintro; exact View.read_writes_cons_put _ _ _ _ [] rfl
  iexists _; isplitr; swap; (· iexact H13); ipureintro; exact rfl

/-- The last phase. -/
theorem phase3_wp (c : Dev nD) (i : grid1.Coords) (hc : k1_cond5 i = 1#1) (M1 : Memref sig .tc .vmem S1x400x10000 .f32) (M2 : Memref sig .tc .vmem S10000x128 .f32) (M4 : Memref sig .tc .vmem S64x40 .f32) (M5 : Memref sig .tc .vmem S1x40 .f32) (M7 : Memref sig .tc .vmem S400x40 .f32) (M8 : Memref sig .tc .vmem S400x40 .f32) (M9 : Memref sig .tc .vmem S2x400x40 .f32) (M10 : Memref sig .tc .vmem S10000x128 .f32) (M11 : Memref sig .tc .vmem S10000x128 .f32) (M12 : Memref sig .tc .vmem S10000x64 .f32) (M13 : Memref sig .tc .vmem S2x64x64 .f32)
    (X1 : Vec F S1x400x10000 .f32) (X2 : Vec F S10000x128 .f32) (X4 : Vec F S64x40 .f32) (X5 : Vec F S1x40 .f32) (X7 : Vec F S400x40 .f32) (X8 : Vec F S400x40 .f32) (X9 : Vec F S2x400x40 .f32) (X10 : Vec F S10000x128 .f32) (X11 : Vec F S10000x128 .f32) (X12 : Vec F S10000x64 .f32) (X13 : Vec F S2x64x64 .f32) (E : Set ℕ) (Q : PUnit → sProp 𝕄) :
    iprop(hv c M1 X1 ∗ hv c M2 X2 ∗ hv c M4 X4 ∗ hv c M5 X5 ∗ hv c M7 X7 ∗ hv c M8 X8 ∗ hv c M9 X9 ∗ hv c M10 X10 ∗ hv c M11 X11 ∗ hv c M12 X12 ∗ hv c M13 X13 ∗ (iprop(hv c M1 X1 ∗ hv c M2 X2 ∗ hv c M4 X4 ∗ hv c M5 X5 ∗ hv c M7 (k1_pay841 (k1_pay836 (rows X10 (k1_off8 i) (k1_off8_inb i hc)) (rows X10 (k1_off7 i) (k1_off7_inb i hc)) (all4 X4) (all5 X5)) (k1_pay837 α α' (all1 X1) (all3 X12) (rows X2 (k1_off7 i) (k1_off7_inb i hc)) (slabOf1 X13) (rows X11 (k1_off7 i) (k1_off7_inb i hc)) (all4 X4) (all5 X5))) ∗ hv c M8 (k1_pay842 (k1_pay836 (rows X10 (k1_off8 i) (k1_off8_inb i hc)) (rows X10 (k1_off7 i) (k1_off7_inb i hc)) (all4 X4) (all5 X5)) (k1_pay837 α α' (all1 X1) (all3 X12) (rows X2 (k1_off7 i) (k1_off7_inb i hc)) (slabOf1 X13) (rows X11 (k1_off7 i) (k1_off7_inb i hc)) (all4 X4) (all5 X5)) (k1_pay838 (rows X10 (k1_off8 i) (k1_off8_inb i hc)) (rows X10 (k1_off7 i) (k1_off7_inb i hc)) (all4 X4) (all5 X5))) ∗ hv c M9 (put (s := S2x400x40) (put (s := S2x400x40) X9 ![0, 0, 0] S1x400x40.size (k1_pay843 (k1_pay836 (rows X10 (k1_off8 i) (k1_off8_inb i hc)) (rows X10 (k1_off7 i) (k1_off7_inb i hc)) (all4 X4) (all5 X5)) (k1_pay838 (rows X10 (k1_off8 i) (k1_off8_inb i hc)) (rows X10 (k1_off7 i) (k1_off7_inb i hc)) (all4 X4) (all5 X5)))) ![1, 0, 0] S1x400x40.size (k1_pay844 (k1_pay837 α α' (all1 X1) (all3 X12) (rows X2 (k1_off7 i) (k1_off7_inb i hc)) (slabOf1 X13) (rows X11 (k1_off7 i) (k1_off7_inb i hc)) (all4 X4) (all5 X5)))) ∗ hv c M10 X10 ∗ hv c M11 X11 ∗ hv c M12 X12 ∗ hv c M13 X13) -∗ Q ⟨⟩))
      ⊢ wp frame (wpE (defs₀ (F := F)) Variants.none c none) E (phase3 i M1 M2 M4 M5 M7 M8 M9 M10 M11 M12 M13 hc) Q := by
  unfold phase3
  unfold hv owns
  iintro ⟨⟨%g1, %h1, H1⟩, ⟨%g2, %h2, H2⟩, ⟨%g4, %h4, H4⟩, ⟨%g5, %h5, H5⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩, Hk⟩
  subst h1; subst h2; subst h4; subst h5; subst h7; subst h8; subst h9; subst h10; subst h11; subst h12; subst h13
  sl_exec!
  sl_step
  iapply Hk
  isplitl [H1]
  · iexists _; isplitr; swap; (· iexact H1); ipureintro; exact rfl
  isplitl [H2]
  · iexists _; isplitr; swap; (· iexact H2); ipureintro; exact rfl
  isplitl [H4]
  · iexists _; isplitr; swap; (· iexact H4); ipureintro; exact rfl
  isplitl [H5]
  · iexists _; isplitr; swap; (· iexact H5); ipureintro; exact rfl
  isplitl [H7]
  · iexists _; isplitr; swap; (· iexact H7); ipureintro; exact View.read_writes_full _ _ _ _ []
  isplitl [H8]
  · iexists _; isplitr; swap; (· iexact H8); ipureintro; exact View.read_writes_full _ _ _ _ []
  isplitl [H9]
  · iexists _; isplitr; swap; (· iexact H9); ipureintro; exact (View.read_writes_cons_put _ _ _ _ _ rfl).trans (congrArg (fun z => put z _ _ _) (View.read_writes_cons_put _ _ _ _ [] rfl))
  isplitl [H10]
  · iexists _; isplitr; swap; (· iexact H10); ipureintro; exact rfl
  isplitl [H11]
  · iexists _; isplitr; swap; (· iexact H11); ipureintro; exact rfl
  isplitl [H12]
  · iexists _; isplitr; swap; (· iexact H12); ipureintro; exact rfl
  iexists _; isplitr; swap; (· iexact H13); ipureintro; exact rfl

end Cert.Phases

end
-- ==== Proof.Region0.lean ====
module

public import proofs.«01_k».proof.Proof.Phases
public import proofs.«01_k».proof.Proof.Gen.KernelIdeal.Points

/-!
The first kernel, which runs once over its whole operands: its run, and what its staging buffers hold.
-/

@[expose] public section

set_option maxRecDepth 65536
set_option maxHeartbeats 0

noncomputable section

namespace Cert.Region0

open Cert.KernelIdeal Cert.KernelIdeal.Gen Cert.Ortho Cert.Body Cert.Phases
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ UU ℕ

variable (V : (c : Dev nD) → (b : Ref sig .tc) → Buf (Elt F) ((c : Thread nD τ).loc b))

/-- The features of both branches, side by side. -/
def both (X0 : Vec F S2x10000x128 .f32) (X1 : Vec F S2x128x64 .f32) (X2 : Vec F S2x1x64 .f32) : Vec F S10000x128 .f32 :=
  k0_pay1 (VecWindow.window (s := S2x10000x128) X0 ![0, 0, 0] S1x10000x128.size inb_S2x10000x128_S1x10000x128_0_0_0)
    (VecWindow.window (s := S2x128x64) X1 ![0, 0, 0] S1x128x64.size inb_S2x128x64_S1x128x64_0_0_0)
    (VecWindow.window (s := S2x1x64) X2 ![0, 0, 0] S1x1x64.size inb_S2x1x64_S1x1x64_0_0_0)
    (VecWindow.window (s := S2x10000x128) X0 ![1, 0, 0] S1x10000x128.size inb_S2x10000x128_S1x10000x128_1_0_0)
    (VecWindow.window (s := S2x128x64) X1 ![1, 0, 0] S1x128x64.size inb_S2x128x64_S1x128x64_1_0_0)
    (VecWindow.window (s := S2x1x64) X2 ![1, 0, 0] S1x1x64.size inb_S2x1x64_S1x1x64_1_0_0)

/-- The kernel run from its operands held. -/
theorem fc_wp (c : Dev nD) (M0 : Memref sig .tc .vmem S2x10000x128 .f32) (h0 : M0.IsWhole) (M1 : Memref sig .tc .vmem S2x128x64 .f32) (h1 : M1.IsWhole)
    (M2 : Memref sig .tc .vmem S2x1x64 .f32) (h2 : M2.IsWhole) (M3 : Memref sig .tc .vmem S10000x128 .f32) (h3 : M3.IsWhole)
    (X0 : Vec F S2x10000x128 .f32) (X1 : Vec F S2x128x64 .f32) (X2 : Vec F S2x1x64 .f32) (X3 : Vec F S10000x128 .f32) (E : Set ℕ) (Q : PUnit → sProp 𝕄) :
    iprop(hv c M0 X0 ∗ hv c M1 X1 ∗ hv c M2 X2 ∗ hv c M3 X3 ∗ (iprop(hv c M0 X0 ∗ hv c M1 X1 ∗ hv c M2 X2 ∗ hv c M3 (both X0 X1 X2)) -∗ Q ⟨⟩))
      ⊢ wp frame (wpE (defs₀ (F := F)) Variants.none c none) E (cc0__fc_body M0 h0 M1 h1 M2 h2 M3 h3) Q := by
  rw [cc0__fc_body_eq_skeleton]
  unfold cc0__fc_body_skel hv owns
  iintro ⟨⟨%g0, %e0, H0⟩, ⟨%g1, %e1, H1⟩, ⟨%g2, %e2, H2⟩, ⟨%g3, %e3, H3⟩, Hk⟩
  subst e0; subst e1; subst e2; subst e3
  sl_exec!
  sl_step
  iapply Hk
  isplitl [H0]
  · iexists _; isplitr; swap; (· iexact H0); ipureintro; exact rfl
  isplitl [H1]
  · iexists _; isplitr; swap; (· iexact H1); ipureintro; exact rfl
  isplitl [H2]
  · iexists _; isplitr; swap; (· iexact H2); ipureintro; exact rfl
  iexists _; isplitr; swap; (· iexact H3); ipureintro; exact View.read_writes_full _ _ _ _ []

/-- Window `w`'s block of its array. -/
abbrev iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the kernel leaves in its result's buffer. -/
def res (c : Dev nD) : Vec F S10000x128 .f32 := both (iblk V c 0 t0_0) (iblk V c 1 t0_0) (iblk V c 2 t0_0)

/-- What holds before and after: the other kernel's buffers, at anything. -/
abbrev Φc (c : Dev nD) : sProp 𝕄 := Pipeline.scopedRest (Ix := Unit) (Name := ℕ) (U := UU) (Lvl := ℕ) (Val := Elt F) spec0 c

/-- The proof data. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => res V c
    | ⟨_ + 4, h⟩ => absurd h (Nat.not_lt.2 (Nat.le_add_left _ _))
  Φ _ := Φc c
  q _ := fullShare
  owed _ := 0

theorem before0 (c : Dev nD) (d) : (dat V c).before 0 t0_0 d = iblk V c 0 t0_0 :=
  ((dat V c).before_in_eq_fetched 0 rfl (fun _ => rfl) (fun _ _ _ => rfl) (fun _ => rfl) t0_0 d).trans rfl
theorem before1 (c : Dev nD) (d) : (dat V c).before 1 t0_0 d = iblk V c 1 t0_0 :=
  ((dat V c).before_in_eq_fetched 1 rfl (fun _ => rfl) (fun _ _ _ => rfl) (fun _ => rfl) t0_0 d).trans rfl
theorem before2 (c : Dev nD) (d) : (dat V c).before 2 t0_0 d = iblk V c 2 t0_0 :=
  ((dat V c).before_in_eq_fetched 2 rfl (fun _ => rfl) (fun _ _ _ => rfl) (fun _ => rfl) t0_0 d).trans rfl

/-- The library's obligation of the body. -/
theorem body_obligation (c : Dev nD) : BodyObligationLoose (dat V c) (defs₀ (F := F)) Variants.none () Set.univ := fun t => by
  obtain rfl := fin_N0 t
  rw [bigSep_W0, bigSep_W0]
  rw [show (dat V c).Φ t0_0.castSucc = Φc c from rfl, show (dat V c).Φ t0_0.succ = Φc c from rfl,
    show (dat V c).owesAt () t0_0.succ = (dat V c).owesAt () t0_0.castSucc from rfl]
  iintro ⟨HΦ, Howes, ⟨%d0, H0⟩, ⟨%d1, H1⟩, ⟨%d2, H2⟩, ⟨%d3, H3⟩⟩
  rw [before0, before1, before2]
  iapply (fc_wp c _ (hstage0_0 0) _ (hstage0_1 0) _ (hstage0_2 0) _ (hstage0_3 0) _ _ _ _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end Cert.Region0

end
-- ==== Proof.State.lean ====
module

public import proofs.«01_k».proof.Proof.Phases

/-!
What the second kernel's own buffers hold between two points. They are filled a block of four
hundred rows at a time: the two left halves over the first twenty-five points, the right half of one
over the next twenty-five, the right half of the other and the third buffer over the next; the last
twenty-five points read all of them.
-/

@[expose] public section

set_option maxRecDepth 65536

noncomputable section

namespace Cert.State

open Cert.KernelIdeal Cert.KernelIdeal.Gen Cert.Ortho Cert.Body Cert.Phases
open Idealize.ShloMosaic Idealize.ShloMosaic.VecWindow

variable {F : FTy → Type} [FloatOps F]

/-! ## Blocks of rows -/

theorem inbLo (m : Fin 25) : ∀ a, (![400 * m.val, 0] : Fin 2 → ℕ) a + S400x64.size a ≤ S10000x128.size a :=
  Fin.forall_fin_two.mpr ⟨by show 400 * m.val + 400 ≤ 10000; omega, by show 0 + 64 ≤ 128; omega⟩
theorem inbHi (m : Fin 25) : ∀ a, (![400 * m.val, 64] : Fin 2 → ℕ) a + S400x64.size a ≤ S10000x128.size a :=
  Fin.forall_fin_two.mpr ⟨by show 400 * m.val + 400 ≤ 10000; omega, by show 64 + 64 ≤ 128; omega⟩
theorem inb3 (m : Fin 25) : ∀ a, (![400 * m.val, 0] : Fin 2 → ℕ) a + S400x64.size a ≤ S10000x64.size a :=
  Fin.forall_fin_two.mpr ⟨by show 400 * m.val + 400 ≤ 10000; omega, by show 0 + 64 ≤ 64; omega⟩

/-- Block `m` of the left columns, of the right columns, and of a buffer of sixty-four columns. -/
def lo (P : Vec F S10000x128 .f32) (m : Fin 25) : Vec F S400x64 .f32 := rows P ![400 * m.val, 0] (inbLo m)
def hi (P : Vec F S10000x128 .f32) (m : Fin 25) : Vec F S400x64 .f32 := rows P ![400 * m.val, 64] (inbHi m)
def mid (P : Vec F S10000x64 .f32) (m : Fin 25) : Vec F S400x64 .f32 := window (s := S10000x64) P ![400 * m.val, 0] S400x64.size (inb3 m)

theorem rows_lo (P : Vec F S10000x128 .f32) (m : Fin 25) {off : Fin 2 → ℕ} (h) (e : off = ![400 * m.val, 0]) : rows P off h = lo P m := by
  subst e; rfl
theorem rows_hi (P : Vec F S10000x128 .f32) (m : Fin 25) {off : Fin 2 → ℕ} (h) (e : off = ![400 * m.val, 64]) : rows P off h = hi P m := by
  subst e; rfl

/-- An index of a shape of two axes. -/
def ix {a b : ℕ} (i j : ℕ) (hi : i < a) (hj : j < b) : (⟨2, ![a, b]⟩ : Shape).Idx := fun x => match x with | 0 => ⟨i, hi⟩ | 1 => ⟨j, hj⟩

/-- Twenty-five blocks, one above another. -/
def tall (B : Fin 25 → Vec F S400x64 .f32) : Vec F S10000x64 .f32 := fun y =>
  B ⟨(y 0).val / 400, by have : (y 0).val < 10000 := (y 0).isLt; omega⟩
    (ix (a := 400) (b := 64) ((y 0).val % 400) (y 1).val (Nat.mod_lt _ (by omega)) (y 1).isLt)

theorem low_eq {P : Vec F S10000x128 .f32} {B : Fin 25 → Vec F S400x64 .f32} (h : ∀ m, lo P m = B m) : low P = tall B := by
  funext y
  unfold tall
  rw [← h]
  refine congrArg P (funext fun a => Fin.ext ?_)
  match a with
  | 0 => show 0 + 1 * (y 0).val = 400 * ((y 0).val / 400) + 1 * ((y 0).val % 400); omega
  | 1 => show 0 + 1 * (y 1).val = 0 + 1 * (y 1).val; rfl

theorem all3_eq {P : Vec F S10000x64 .f32} {B : Fin 25 → Vec F S400x64 .f32} (h : ∀ m, mid P m = B m) : all3 P = tall B := by
  funext y
  unfold tall
  rw [← h]
  refine congrArg P (funext fun a => Fin.ext ?_)
  match a with
  | 0 => show 0 + 1 * (y 0).val = 400 * ((y 0).val / 400) + 1 * ((y 0).val % 400); omega
  | 1 => show 0 + 1 * (y 1).val = 0 + 1 * (y 1).val; rfl

theorem lo_put_same (P : Vec F S10000x128 .f32) (m : Fin 25) (v : Vec F S400x64 .f32) :
    lo (put (s := S10000x128) P ![400 * m.val, 0] S400x64.size v) m = v := window_put_same (s := S10000x128) P _ _ (inbLo m) v
theorem hi_put_same (P : Vec F S10000x128 .f32) (m : Fin 25) (v : Vec F S400x64 .f32) :
    hi (put (s := S10000x128) P ![400 * m.val, 64] S400x64.size v) m = v := window_put_same (s := S10000x128) P _ _ (inbHi m) v
theorem mid_put_same (P : Vec F S10000x64 .f32) (m : Fin 25) (v : Vec F S400x64 .f32) :
    mid (put (s := S10000x64) P ![400 * m.val, 0] S400x64.size v) m = v := window_put_same (s := S10000x64) P _ _ (inb3 m) v
theorem lo_put_ne (P : Vec F S10000x128 .f32) (m n : Fin 25) (v : Vec F S400x64 .f32) (h : m ≠ n) :
    lo (put (s := S10000x128) P ![400 * n.val, 0] S400x64.size v) m = lo P m :=
  window_put_of_disjoint (s := S10000x128) P _ _ _ _ (inbLo m) v (0 : Fin 2) (by
    have : m.val ≠ n.val := fun e => h (Fin.ext e)
    show 400 * m.val + 400 ≤ 400 * n.val ∨ 400 * n.val + 400 ≤ 400 * m.val; omega)
theorem hi_put_ne (P : Vec F S10000x128 .f32) (m n : Fin 25) (v : Vec F S400x64 .f32) (h : m ≠ n) :
    hi (put (s := S10000x128) P ![400 * n.val, 64] S400x64.size v) m = hi P m :=
  window_put_of_disjoint (s := S10000x128) P _ _ _ _ (inbHi m) v (0 : Fin 2) (by
    have : m.val ≠ n.val := fun e => h (Fin.ext e)
    show 400 * m.val + 400 ≤ 400 * n.val ∨ 400 * n.val + 400 ≤ 400 * m.val; omega)
theorem mid_put_ne (P : Vec F S10000x64 .f32) (m n : Fin 25) (v : Vec F S400x64 .f32) (h : m ≠ n) :
    mid (put (s := S10000x64) P ![400 * n.val, 0] S400x64.size v) m = mid P m :=
  window_put_of_disjoint (s := S10000x64) P _ _ _ _ (inb3 m) v (0 : Fin 2) (by
    have : m.val ≠ n.val := fun e => h (Fin.ext e)
    show 400 * m.val + 400 ≤ 400 * n.val ∨ 400 * n.val + 400 ≤ 400 * m.val; omega)
theorem lo_put_hi (P : Vec F S10000x128 .f32) (m n : Fin 25) (v : Vec F S400x64 .f32) :
    lo (put (s := S10000x128) P ![400 * n.val, 64] S400x64.size v) m = lo P m :=
  window_put_of_disjoint (s := S10000x128) P _ _ _ _ (inbLo m) v (1 : Fin 2) (.inl (by show 0 + 64 ≤ 64; omega))

/-! ## Slabs -/

/-- Both slabs stored, nothing is left of what was there before. -/
theorem mixed_eq (W Y : Vec F S2x64x64 .f32) : mixed W Y = mixed W W := by
  funext y
  unfold mixed put
  by_cases h1 : ∀ a, (![1, 0, 0] : Fin 3 → ℕ) a ≤ (y a).val ∧ (y a).val < (![1, 0, 0] : Fin 3 → ℕ) a + S1x64x64.size a
  · rw [dif_pos h1, dif_pos h1]
  rw [dif_neg h1, dif_neg h1]
  by_cases h0 : ∀ a, (![0, 0, 0] : Fin 3 → ℕ) a ≤ (y a).val ∧ (y a).val < (![0, 0, 0] : Fin 3 → ℕ) a + S1x64x64.size a
  · rw [dif_pos h0, dif_pos h0]
  exfalso
  have b0 : (y 0).val < 2 := (y 0).isLt
  have b1 : (y 1).val < 64 := (y 1).isLt
  have b2 : (y 2).val < 64 := (y 2).isLt
  by_cases hy : (y 0).val = 0
  · exact h0 fun a => by
      match a with
      | 0 => show 0 ≤ (y 0).val ∧ (y 0).val < 0 + 1; omega
      | 1 => show 0 ≤ (y 1).val ∧ (y 1).val < 0 + 64; omega
      | 2 => show 0 ≤ (y 2).val ∧ (y 2).val < 0 + 64; omega
  · exact h1 fun a => by
      match a with
      | 0 => show 1 ≤ (y 0).val ∧ (y 0).val < 1 + 1; omega
      | 1 => show 0 ≤ (y 1).val ∧ (y 1).val < 0 + 64; omega
      | 2 => show 0 ≤ (y 2).val ∧ (y 2).val < 0 + 64; omega

/-- The two slabs of the third result, one after the other. -/
def pair (a b : Vec F S1x400x40 .f32) : Vec F S2x400x40 .f32 :=
  put (s := S2x400x40) (put (s := S2x400x40) (fun _ => θ0) ![0, 0, 0] S1x400x40.size a) ![1, 0, 0] S1x400x40.size b

theorem pair_eq (X : Vec F S2x400x40 .f32) (a b : Vec F S1x400x40 .f32) :
    put (s := S2x400x40) (put (s := S2x400x40) X ![0, 0, 0] S1x400x40.size a) ![1, 0, 0] S1x400x40.size b = pair a b := by
  funext y
  unfold pair put
  by_cases h1 : ∀ a, (![1, 0, 0] : Fin 3 → ℕ) a ≤ (y a).val ∧ (y a).val < (![1, 0, 0] : Fin 3 → ℕ) a + S1x400x40.size a
  · rw [dif_pos h1, dif_pos h1]
  rw [dif_neg h1, dif_neg h1]
  by_cases h0 : ∀ a, (![0, 0, 0] : Fin 3 → ℕ) a ≤ (y a).val ∧ (y a).val < (![0, 0, 0] : Fin 3 → ℕ) a + S1x400x40.size a
  · rw [dif_pos h0, dif_pos h0]
  exfalso
  have b0 : (y 0).val < 2 := (y 0).isLt
  have b1 : (y 1).val < 400 := (y 1).isLt
  have b2 : (y 2).val < 40 := (y 2).isLt
  by_cases hy : (y 0).val = 0
  · exact h0 fun a => by
      match a with
      | 0 => show 0 ≤ (y 0).val ∧ (y 0).val < 0 + 1; omega
      | 1 => show 0 ≤ (y 1).val ∧ (y 1).val < 0 + 400; omega
      | 2 => show 0 ≤ (y 2).val ∧ (y 2).val < 0 + 40; omega
  · exact h1 fun a => by
      match a with
      | 0 => show 1 ≤ (y 0).val ∧ (y 0).val < 1 + 1; omega
      | 1 => show 0 ≤ (y 1).val ∧ (y 1).val < 0 + 400; omega
      | 2 => show 0 ≤ (y 2).val ∧ (y 2).val < 0 + 40; omega

/-! ## The offsets -/

theorem off1_eq (i : grid1.Coords) (h : (i 0).val < 25) : k1_off1 i = ![400 * (i 0).val, 0] := by
  rw [eq_at1 i]
  exact funext ((by decide +kernel : ∀ n : Fin 100, n.val < 25 → ∀ a, k1_off1 (at1 n) a = (![400 * n.val, 0] : Fin 2 → ℕ) a) (i 0) h)
theorem off2_eq (i : grid1.Coords) (h : (i 0).val < 25) : k1_off2 i = ![400 * (i 0).val, 64] := by
  rw [eq_at1 i]
  exact funext ((by decide +kernel : ∀ n : Fin 100, n.val < 25 → ∀ a, k1_off2 (at1 n) a = (![400 * n.val, 64] : Fin 2 → ℕ) a) (i 0) h)
theorem off3_eq (i : grid1.Coords) (h : 25 ≤ (i 0).val ∧ (i 0).val < 50) : k1_off3 i = ![400 * ((i 0).val - 25), 0] := by
  rw [eq_at1 i]
  exact funext ((by decide +kernel : ∀ n : Fin 100, 25 ≤ n.val ∧ n.val < 50 → ∀ a, k1_off3 (at1 n) a = (![400 * (n.val - 25), 0] : Fin 2 → ℕ) a) (i 0) h)
theorem off4_eq (i : grid1.Coords) (h : 25 ≤ (i 0).val ∧ (i 0).val < 50) : k1_off4 i = ![400 * ((i 0).val - 25), 64] := by
  rw [eq_at1 i]
  exact funext ((by decide +kernel : ∀ n : Fin 100, 25 ≤ n.val ∧ n.val < 50 → ∀ a, k1_off4 (at1 n) a = (![400 * (n.val - 25), 64] : Fin 2 → ℕ) a) (i 0) h)
theorem off5_eq (i : grid1.Coords) (h : 50 ≤ (i 0).val ∧ (i 0).val < 75) : k1_off5 i = ![400 * ((i 0).val - 50), 64] := by
  rw [eq_at1 i]
  exact funext ((by decide +kernel : ∀ n : Fin 100, 50 ≤ n.val ∧ n.val < 75 → ∀ a, k1_off5 (at1 n) a = (![400 * (n.val - 50), 64] : Fin 2 → ℕ) a) (i 0) h)
theorem off6_eq (i : grid1.Coords) (h : 50 ≤ (i 0).val ∧ (i 0).val < 75) : k1_off6 i = ![400 * ((i 0).val - 50), 0] := by
  rw [eq_at1 i]
  exact funext ((by decide +kernel : ∀ n : Fin 100, 50 ≤ n.val ∧ n.val < 75 → ∀ a, k1_off6 (at1 n) a = (![400 * (n.val - 50), 0] : Fin 2 → ℕ) a) (i 0) h)
theorem off7_eq (i : grid1.Coords) (h : 75 ≤ (i 0).val) : k1_off7 i = ![400 * ((i 0).val - 75), 64] := by
  rw [eq_at1 i]
  exact funext ((by decide +kernel : ∀ n : Fin 100, 75 ≤ n.val → ∀ a, k1_off7 (at1 n) a = (![400 * (n.val - 75), 64] : Fin 2 → ℕ) a) (i 0) h)
theorem off8_eq (i : grid1.Coords) (h : 75 ≤ (i 0).val) : k1_off8 i = ![400 * ((i 0).val - 75), 0] := by
  rw [eq_at1 i]
  exact funext ((by decide +kernel : ∀ n : Fin 100, 75 ≤ n.val → ∀ a, k1_off8 (at1 n) a = (![400 * (n.val - 75), 0] : Fin 2 → ℕ) a) (i 0) h)

/-! ## The blocks -/

section

variable (A : Fin 100 → Vec F S1x400x10000 .f32) (X2 : Vec F S10000x128 .f32) (W : Vec F S2x64x64 .f32)
  (X4 : Vec F S64x40 .f32) (X5 : Vec F S1x40 .f32) (w : F .f32)

/-- The weights of the two layers, mixed. -/
def first : Vec F S1x64x64 .f32 := slabOf0 (mixed W W)
def second : Vec F S1x64x64 .f32 := slabOf1 (mixed W W)

/-- The point of phase `p` at block `m`. -/
def at0 (m : Fin 25) : Fin 100 := ⟨m.val, by omega⟩
def at25 (m : Fin 25) : Fin 100 := ⟨25 + m.val, by omega⟩
def at50 (m : Fin 25) : Fin 100 := ⟨50 + m.val, by omega⟩
def at75 (m : Fin 25) : Fin 100 := ⟨75 + m.val, by omega⟩

/-- The blocks each phase leaves. -/
def b1 (m : Fin 25) : Vec F S400x64 .f32 := k1_pay847 (all1 (A (at0 m))) (low X2) (lo X2 m) (first W)
def b2 (m : Fin 25) : Vec F S400x64 .f32 := k1_pay848 w (all1 (A (at0 m))) (low X2) (lo X2 m) (first W) (hi X2 m)
def b3 (m : Fin 25) : Vec F S400x64 .f32 := k1_pay849 (all1 (A (at25 m))) (tall (b1 A X2 W)) (lo X2 m) (second W)
def b4 (m : Fin 25) : Vec F S400x64 .f32 := k1_pay851 (all1 (A (at50 m))) (tall (b2 A X2 W w)) (hi X2 m) (first W)
def b5 (m : Fin 25) : Vec F S400x64 .f32 := k1_pay852 w (all1 (A (at50 m))) (tall (b2 A X2 W w)) (hi X2 m) (first W) (b3 A X2 W m)

/-- The last phase's scores: of the first branch, of the second, and the first's as the softmax takes them. -/
def s1 (m : Fin 25) := k1_pay836 (b1 A X2 W m) (b3 A X2 W m) (all4 X4) (all5 X5)
def s2 (m : Fin 25) := k1_pay837 α α' (all1 (A (at75 m))) (tall (b5 A X2 W w)) (hi X2 m) (second W) (b4 A X2 W w m) (all4 X4) (all5 X5)
def s3 (m : Fin 25) := k1_pay838 (b1 A X2 W m) (b3 A X2 W m) (all4 X4) (all5 X5)

/-- The three results' blocks. -/
def fin (m : Fin 25) : Vec F S400x40 .f32 := k1_pay841 (s1 A X2 W X4 X5 m) (s2 A X2 W X4 X5 w m)
def mean (m : Fin 25) : Vec F S400x40 .f32 := k1_pay842 (s1 A X2 W X4 X5 m) (s2 A X2 W X4 X5 w m) (s3 A X2 W X4 X5 m)
def logs (m : Fin 25) : Vec F S2x400x40 .f32 :=
  pair (k1_pay843 (s1 A X2 W X4 X5 m) (s3 A X2 W X4 X5 m)) (k1_pay844 (s2 A X2 W X4 X5 w m))

/-- What the buffers hold before point `t`. -/
structure Inv (t : ℕ) (P1 P2 : Vec F S10000x128 .f32) (P3 : Vec F S10000x64 .f32) (Y : Vec F S2x64x64 .f32) : Prop where
  y : 0 < t → Y = mixed W W
  e1 : ∀ m : Fin 25, m.val < t → lo P1 m = b1 A X2 W m
  e2 : ∀ m : Fin 25, m.val < t → lo P2 m = b2 A X2 W w m
  e3 : ∀ m : Fin 25, 25 + m.val < t → hi P1 m = b3 A X2 W m
  e4 : ∀ m : Fin 25, 50 + m.val < t → hi P2 m = b4 A X2 W w m
  e5 : ∀ m : Fin 25, 50 + m.val < t → mid P3 m = b5 A X2 W w m

theorem inv_zero (P1 P2 : Vec F S10000x128 .f32) (P3 : Vec F S10000x64 .f32) (Y : Vec F S2x64x64 .f32) : Inv A X2 W w 0 P1 P2 P3 Y :=
  ⟨fun h => absurd h (by omega), fun _ h => absurd h (by omega), fun _ h => absurd h (by omega), fun _ h => absurd h (by omega),
    fun _ h => absurd h (by omega), fun _ h => absurd h (by omega)⟩

variable {A X2 W w} {P1 P2 : Vec F S10000x128 .f32} {P3 : Vec F S10000x64 .f32} {Y : Vec F S2x64x64 .f32}

theorem inv_step0 {Y' : Vec F S2x64x64 .f32} (i : grid1.Coords) (hc : k1_cond2 i = 1#1) (h : Inv A X2 W w (i 0).val P1 P2 P3 Y) (hY : Y' = mixed W W) :
    Inv A X2 W w ((i 0).val + 1)
      (put (s := S10000x128) P1 (k1_off1 i) S400x64.size (k1_pay847 (all1 (A (i 0))) (low X2) (rows X2 (k1_off1 i) (k1_off1_inb i hc)) (slabOf0 Y')))
      (put (s := S10000x128) P2 (k1_off1 i) S400x64.size
        (k1_pay848 w (all1 (A (i 0))) (low X2) (rows X2 (k1_off1 i) (k1_off1_inb i hc)) (slabOf0 Y') (rows X2 (k1_off2 i) (k1_off2_inb i hc))))
      P3 Y' := by
  have hi0 := (cond2_iff i).1 hc
  subst hY
  obtain ⟨m, hm⟩ : ∃ m : Fin 25, m.val = (i 0).val := ⟨⟨_, hi0⟩, rfl⟩
  have hA : A (i 0) = A (at0 m) := congrArg A (Fin.ext hm.symm)
  have o1 : k1_off1 i = ![400 * m.val, 0] := by rw [off1_eq i hi0, hm]
  have o2 : k1_off2 i = ![400 * m.val, 64] := by rw [off2_eq i hi0, hm]
  rw [rows_lo X2 m _ o1, rows_hi X2 m _ o2, o1, hA]
  refine ⟨fun _ => rfl, fun n hn => ?_, fun n hn => ?_, fun n hn => ?_, fun n hn => ?_, fun n hn => ?_⟩
  · by_cases e : n = m
    · subst e; exact lo_put_same ..
    · rw [lo_put_ne _ _ _ _ e]; exact h.e1 n (by have : n.val ≠ m.val := fun q => e (Fin.ext q); omega)
  · by_cases e : n = m
    · subst e; exact lo_put_same ..
    · rw [lo_put_ne _ _ _ _ e]; exact h.e2 n (by have : n.val ≠ m.val := fun q => e (Fin.ext q); omega)
  · omega
  · omega
  · omega

theorem inv_step1 (i : grid1.Coords) (hc : k1_cond3 i = 1#1) (h : Inv A X2 W w (i 0).val P1 P2 P3 Y) :
    Inv A X2 W w ((i 0).val + 1)
      (put (s := S10000x128) P1 (k1_off4 i) S400x64.size (k1_pay849 (all1 (A (i 0))) (low P1) (rows X2 (k1_off3 i) (k1_off3_inb i hc)) (slabOf1 Y)))
      P2 P3 Y := by
  have hi0 := (cond3_iff i).1 hc
  obtain ⟨m, hm⟩ : ∃ m : Fin 25, 25 + m.val = (i 0).val := ⟨⟨(i 0).val - 25, by omega⟩, by dsimp only; omega⟩
  have hA : A (i 0) = A (at25 m) := congrArg A (Fin.ext hm.symm)
  have o3 : k1_off3 i = ![400 * m.val, 0] := by rw [off3_eq i hi0, ← hm, Nat.add_sub_cancel_left]
  have o4 : k1_off4 i = ![400 * m.val, 64] := by rw [off4_eq i hi0, ← hm, Nat.add_sub_cancel_left]
  have hY := h.y (by omega)
  have hL : low P1 = tall (b1 A X2 W) := low_eq fun n => h.e1 n (by omega)
  rw [rows_lo X2 m _ o3, o4, hA, hL, hY]
  refine ⟨fun _ => rfl, fun n hn => ?_, fun n hn => h.e2 n (by omega), fun n hn => ?_, fun n hn => ?_, fun n hn => ?_⟩
  · rw [lo_put_hi]; exact h.e1 n (by omega)
  · by_cases e : n = m
    · subst e; exact hi_put_same ..
    · rw [hi_put_ne _ _ _ _ e]; exact h.e3 n (by have : n.val ≠ m.val := fun q => e (Fin.ext q); omega)
  · omega
  · omega

theorem inv_step2 (i : grid1.Coords) (hc : k1_cond4 i = 1#1) (h : Inv A X2 W w (i 0).val P1 P2 P3 Y) :
    Inv A X2 W w ((i 0).val + 1) P1
      (put (s := S10000x128) P2 (k1_off5 i) S400x64.size (k1_pay851 (all1 (A (i 0))) (low P2) (rows X2 (k1_off5 i) (k1_off5_inb i hc)) (slabOf0 Y)))
      (put (s := S10000x64) P3 (k1_off6 i) S400x64.size
        (k1_pay852 w (all1 (A (i 0))) (low P2) (rows X2 (k1_off5 i) (k1_off5_inb i hc)) (slabOf0 Y) (rows P1 (k1_off5 i) (k1_off5_inb i hc)))) Y := by
  have hi0 := (cond4_iff i).1 hc
  obtain ⟨m, hm⟩ : ∃ m : Fin 25, 50 + m.val = (i 0).val := ⟨⟨(i 0).val - 50, by omega⟩, by dsimp only; omega⟩
  have hA : A (i 0) = A (at50 m) := congrArg A (Fin.ext hm.symm)
  have o5 : k1_off5 i = ![400 * m.val, 64] := by rw [off5_eq i hi0, ← hm, Nat.add_sub_cancel_left]
  have o6 : k1_off6 i = ![400 * m.val, 0] := by rw [off6_eq i hi0, ← hm, Nat.add_sub_cancel_left]
  have hY := h.y (by omega)
  have hL : low P2 = tall (b2 A X2 W w) := low_eq fun n => h.e2 n (by omega)
  rw [rows_hi X2 m _ o5, rows_hi P1 m _ o5, o5, o6, hA, hL, hY, h.e3 m (by omega)]
  refine ⟨fun _ => rfl, fun n hn => h.e1 n (by omega), fun n hn => ?_, fun n hn => h.e3 n (by omega), fun n hn => ?_, fun n hn => ?_⟩
  · rw [lo_put_hi]; exact h.e2 n (by omega)
  · by_cases e : n = m
    · subst e; exact hi_put_same ..
    · rw [hi_put_ne _ _ _ _ e]; exact h.e4 n (by have : n.val ≠ m.val := fun q => e (Fin.ext q); omega)
  · by_cases e : n = m
    · subst e; exact mid_put_same ..
    · rw [mid_put_ne _ _ _ _ e]; exact h.e5 n (by have : n.val ≠ m.val := fun q => e (Fin.ext q); omega)

theorem inv_step3 (i : grid1.Coords) (hc : k1_cond5 i = 1#1) (h : Inv A X2 W w (i 0).val P1 P2 P3 Y) : Inv A X2 W w ((i 0).val + 1) P1 P2 P3 Y := by
  have hi0 := (cond5_iff i).1 hc
  exact ⟨fun _ => h.y (by omega), fun n _ => h.e1 n (by omega), fun n _ => h.e2 n (by omega), fun n _ => h.e3 n (by omega),
    fun n _ => h.e4 n (by omega), fun n _ => h.e5 n (by omega)⟩

/-- What the last phase reads. -/
theorem reads3 (i : grid1.Coords) (hc : k1_cond5 i = 1#1) (h : Inv A X2 W w (i 0).val P1 P2 P3 Y) (m : Fin 25) (hm : 75 + m.val = (i 0).val) :
    A (i 0) = A (at75 m) ∧ all3 P3 = tall (b5 A X2 W w) ∧ rows X2 (k1_off7 i) (k1_off7_inb i hc) = hi X2 m ∧ Y = mixed W W
      ∧ rows P1 (k1_off8 i) (k1_off8_inb i hc) = b1 A X2 W m ∧ rows P1 (k1_off7 i) (k1_off7_inb i hc) = b3 A X2 W m
      ∧ rows P2 (k1_off7 i) (k1_off7_inb i hc) = b4 A X2 W w m := by
  have hi0 := (cond5_iff i).1 hc
  have o7 : k1_off7 i = ![400 * m.val, 64] := by rw [off7_eq i hi0, ← hm, Nat.add_sub_cancel_left]
  have o8 : k1_off8 i = ![400 * m.val, 0] := by rw [off8_eq i hi0, ← hm, Nat.add_sub_cancel_left]
  refine ⟨congrArg A (Fin.ext hm.symm), all3_eq fun n => h.e5 n (by omega), rows_hi X2 m _ o7, h.y (by omega), ?_, ?_, ?_⟩
  · rw [rows_lo P1 m _ o8]; exact h.e1 m (by omega)
  · rw [rows_hi P1 m _ o7]; exact h.e3 m (by omega)
  · rw [rows_hi P2 m _ o7]; exact h.e4 m (by omega)

end

end Cert.State

end
-- ==== Proof.Mega.lean ====
module

public import proofs.«01_k».proof.Proof.State

/-!
The second kernel's body at a point of its grid: from the buffers as the points before leave them it
runs to its return and leaves them as the point after expects; in the last twenty-five points it
also leaves its block of each of the three results, which the earlier points leave alone.
-/

@[expose] public section

set_option maxRecDepth 65536
set_option maxHeartbeats 0

noncomputable section

namespace Cert.Mega

open Cert.KernelIdeal Cert.KernelIdeal.Gen Cert.Ortho Cert.Body Cert.Phases Cert.State
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ UU ℕ

/-- The scalar's load: it gives the one value of its operand. -/
theorem smem_wp (c : Dev nD) (M6 : Memref sig .tc .smem S1x1 .f32) (X6 : Vec F S1x1 .f32)
    (k : F .f32 → Prog (TpuEff nD τ sig (Elt F) Λ₀ .tc) PUnit) (E : Set ℕ) (Q : PUnit → sProp 𝕄) :
    iprop(hv c M6 X6 ∗ (hv c M6 X6 -∗ wp frame (wpE (defs₀ (F := F)) Variants.none c none) E (k (cell X6)) Q))
      ⊢ wp frame (wpE (defs₀ (F := F)) Variants.none c none) E
        ((smemLoad M6 (Rect.unit (s := S1x1) ![0, 0] S1x1.size inb_S1x1_S1x1_0_0) numel1_S1x1 rfl : Prog (TpuEff nD τ sig (Elt F) Λ₀ .tc) (Elt F .f32)) >>= k) Q := by
  unfold hv owns
  iintro ⟨⟨%g6, %h6, H6⟩, Hk⟩
  subst h6
  rw [wp_bind]
  sl_exec!
  iapply Hk
  iexists _; isplitr; swap; (· iexact H6); ipureintro; exact rfl

variable (c : Dev nD) (i : grid1.Coords) (M1 : Memref sig .tc .vmem S1x400x10000 .f32) (h1 : M1.IsWhole) (M2 : Memref sig .tc .vmem S10000x128 .f32) (h2 : M2.IsWhole) (M3 : Memref sig .tc .vmem S2x64x64 .f32) (h3 : M3.IsWhole) (M4 : Memref sig .tc .vmem S64x40 .f32) (h4 : M4.IsWhole) (M5 : Memref sig .tc .vmem S1x40 .f32) (h5 : M5.IsWhole) (M6 : Memref sig .tc .smem S1x1 .f32) (h6 : M6.IsWhole) (M7 : Memref sig .tc .vmem S400x40 .f32) (h7 : M7.IsWhole) (M8 : Memref sig .tc .vmem S400x40 .f32) (h8 : M8.IsWhole) (M9 : Memref sig .tc .vmem S2x400x40 .f32) (h9 : M9.IsWhole) (M10 : Memref sig .tc .vmem S10000x128 .f32) (h10 : M10.IsWhole) (M11 : Memref sig .tc .vmem S10000x128 .f32) (h11 : M11.IsWhole) (M12 : Memref sig .tc .vmem S10000x64 .f32) (h12 : M12.IsWhole) (M13 : Memref sig .tc .vmem S2x64x64 .f32) (h13 : M13.IsWhole)
variable (A : Fin 100 → Vec F S1x400x10000 .f32) (X1 : Vec F S1x400x10000 .f32) (X2 : Vec F S10000x128 .f32) (X3 : Vec F S2x64x64 .f32) (X4 : Vec F S64x40 .f32) (X5 : Vec F S1x40 .f32) (X6 : Vec F S1x1 .f32) (X7 : Vec F S400x40 .f32) (X8 : Vec F S400x40 .f32) (X9 : Vec F S2x400x40 .f32) (X10 : Vec F S10000x128 .f32) (X11 : Vec F S10000x128 .f32) (X12 : Vec F S10000x64 .f32) (X13 : Vec F S2x64x64 .f32)

/-- The first point: both layers’ weights are mixed, then the first block is stored. -/
theorem at_first (hi : (i 0).val = 0) (hA : X1 = A (i 0)) (hI : Inv A X2 X3 (cell X6) (i 0).val X10 X11 X12 X13) (E : Set ℕ) (Q : PUnit → sProp 𝕄) :
    iprop(hv c M1 X1 ∗ hv c M2 X2 ∗ hv c M3 X3 ∗ hv c M4 X4 ∗ hv c M5 X5 ∗ hv c M6 X6 ∗ hv c M7 X7 ∗ hv c M8 X8 ∗ hv c M9 X9 ∗ hv c M10 X10 ∗ hv c M11 X11 ∗ hv c M12 X12 ∗ hv c M13 X13 ∗ (iprop((∃ P1 P2 P3 Y, ⌜Inv A X2 X3 (cell X6) ((i 0).val + 1) P1 P2 P3 Y⌝ ∗ hv c M10 P1 ∗ hv c M11 P2 ∗ hv c M12 P3 ∗ hv c M13 Y) ∗ hv c M1 X1 ∗ hv c M2 X2 ∗ hv c M3 X3 ∗ hv c M4 X4 ∗ hv c M5 X5 ∗ hv c M6 X6 ∗ hv c M7 X7 ∗ hv c M8 X8 ∗ hv c M9 X9) -∗ Q ⟨⟩))
      ⊢ wp frame (wpE (defs₀ (F := F)) Variants.none c none) E (cc1__mega_body i M1 h1 M2 h2 M3 h3 M4 h4 M5 h5 M6 h6 M7 h7 M8 h8 M9 h9 M10 h10 M11 h11 M12 h12 M13 h13) Q := by
  have hc := (cond2_iff i).2 (by omega)
  rw [bodyFirst i M1 h1 M2 h2 M3 h3 M4 h4 M5 h5 M6 h6 M7 h7 M8 h8 M9 h9 M10 h10 M11 h11 M12 h12 M13 h13 hi hc]
  subst hA
  iintro ⟨H1, H2, H3, H4, H5, H6, H7, H8, H9, H10, H11, H12, H13, Hk⟩
  iapply smem_wp c M6 X6
  isplitl [H6]; · iexact H6
  iintro H6
  rw [wp_bind]
  iapply prologue_wp
  isplitl [H3]; · iexact H3
  isplitl [H13]; · iexact H13
  iintro ⟨H3, H13⟩
  iapply phase0_wp
  isplitl [H1]; · iexact H1
  isplitl [H2]; · iexact H2
  isplitl [H10]; · iexact H10
  isplitl [H11]; · iexact H11
  isplitl [H13]; · iexact H13
  iintro ⟨H1, H2, H10, H11, H13⟩
  iapply Hk
  isplitl [H10 H11 H12 H13]
  · iexists _; iexists _; iexists _; iexists _; isplitr; swap
    · isplitl [H10]; · iexact H10
      isplitl [H11]; · iexact H11
      isplitl [H12]; · iexact H12
      iexact H13
    ipureintro; exact inv_step0 i hc hI (mixed_eq _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The other points of the first phase. -/
theorem at_phase0 (hi : 0 < (i 0).val ∧ (i 0).val < 25) (hA : X1 = A (i 0)) (hI : Inv A X2 X3 (cell X6) (i 0).val X10 X11 X12 X13) (E : Set ℕ) (Q : PUnit → sProp 𝕄) :
    iprop(hv c M1 X1 ∗ hv c M2 X2 ∗ hv c M3 X3 ∗ hv c M4 X4 ∗ hv c M5 X5 ∗ hv c M6 X6 ∗ hv c M7 X7 ∗ hv c M8 X8 ∗ hv c M9 X9 ∗ hv c M10 X10 ∗ hv c M11 X11 ∗ hv c M12 X12 ∗ hv c M13 X13 ∗ (iprop((∃ P1 P2 P3 Y, ⌜Inv A X2 X3 (cell X6) ((i 0).val + 1) P1 P2 P3 Y⌝ ∗ hv c M10 P1 ∗ hv c M11 P2 ∗ hv c M12 P3 ∗ hv c M13 Y) ∗ hv c M1 X1 ∗ hv c M2 X2 ∗ hv c M3 X3 ∗ hv c M4 X4 ∗ hv c M5 X5 ∗ hv c M6 X6 ∗ hv c M7 X7 ∗ hv c M8 X8 ∗ hv c M9 X9) -∗ Q ⟨⟩))
      ⊢ wp frame (wpE (defs₀ (F := F)) Variants.none c none) E (cc1__mega_body i M1 h1 M2 h2 M3 h3 M4 h4 M5 h5 M6 h6 M7 h7 M8 h8 M9 h9 M10 h10 M11 h11 M12 h12 M13 h13) Q := by
  have hc := (cond2_iff i).2 hi.2
  rw [body0 i M1 h1 M2 h2 M3 h3 M4 h4 M5 h5 M6 h6 M7 h7 M8 h8 M9 h9 M10 h10 M11 h11 M12 h12 M13 h13 hi hc]
  subst hA
  iintro ⟨H1, H2, H3, H4, H5, H6, H7, H8, H9, H10, H11, H12, H13, Hk⟩
  iapply smem_wp c M6 X6
  isplitl [H6]; · iexact H6
  iintro H6
  iapply phase0_wp
  isplitl [H1]; · iexact H1
  isplitl [H2]; · iexact H2
  isplitl [H10]; · iexact H10
  isplitl [H11]; · iexact H11
  isplitl [H13]; · iexact H13
  iintro ⟨H1, H2, H10, H11, H13⟩
  iapply Hk
  isplitl [H10 H11 H12 H13]
  · iexists _; iexists _; iexists _; iexists _; isplitr; swap
    · isplitl [H10]; · iexact H10
      isplitl [H11]; · iexact H11
      isplitl [H12]; · iexact H12
      iexact H13
    ipureintro; exact inv_step0 i hc hI (hI.y hi.1)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The second phase. -/
theorem at_phase1 (hi : 25 ≤ (i 0).val ∧ (i 0).val < 50) (hA : X1 = A (i 0)) (hI : Inv A X2 X3 (cell X6) (i 0).val X10 X11 X12 X13) (E : Set ℕ) (Q : PUnit → sProp 𝕄) :
    iprop(hv c M1 X1 ∗ hv c M2 X2 ∗ hv c M3 X3 ∗ hv c M4 X4 ∗ hv c M5 X5 ∗ hv c M6 X6 ∗ hv c M7 X7 ∗ hv c M8 X8 ∗ hv c M9 X9 ∗ hv c M10 X10 ∗ hv c M11 X11 ∗ hv c M12 X12 ∗ hv c M13 X13 ∗ (iprop((∃ P1 P2 P3 Y, ⌜Inv A X2 X3 (cell X6) ((i 0).val + 1) P1 P2 P3 Y⌝ ∗ hv c M10 P1 ∗ hv c M11 P2 ∗ hv c M12 P3 ∗ hv c M13 Y) ∗ hv c M1 X1 ∗ hv c M2 X2 ∗ hv c M3 X3 ∗ hv c M4 X4 ∗ hv c M5 X5 ∗ hv c M6 X6 ∗ hv c M7 X7 ∗ hv c M8 X8 ∗ hv c M9 X9) -∗ Q ⟨⟩))
      ⊢ wp frame (wpE (defs₀ (F := F)) Variants.none c none) E (cc1__mega_body i M1 h1 M2 h2 M3 h3 M4 h4 M5 h5 M6 h6 M7 h7 M8 h8 M9 h9 M10 h10 M11 h11 M12 h12 M13 h13) Q := by
  have hc := (cond3_iff i).2 hi
  rw [body1 i M1 h1 M2 h2 M3 h3 M4 h4 M5 h5 M6 h6 M7 h7 M8 h8 M9 h9 M10 h10 M11 h11 M12 h12 M13 h13 hi hc]
  subst hA
  iintro ⟨H1, H2, H3, H4, H5, H6, H7, H8, H9, H10, H11, H12, H13, Hk⟩
  iapply smem_wp c M6 X6
  isplitl [H6]; · iexact H6
  iintro H6
  iapply phase1_wp
  isplitl [H1]; · iexact H1
  isplitl [H2]; · iexact H2
  isplitl [H10]; · iexact H10
  isplitl [H13]; · iexact H13
  iintro ⟨H1, H2, H10, H13⟩
  iapply Hk
  isplitl [H10 H11 H12 H13]
  · iexists _; iexists _; iexists _; iexists _; isplitr; swap
    · isplitl [H10]; · iexact H10
      isplitl [H11]; · iexact H11
      isplitl [H12]; · iexact H12
      iexact H13
    ipureintro; exact inv_step1 i hc hI
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The third phase. -/
theorem at_phase2 (hi : 50 ≤ (i 0).val ∧ (i 0).val < 75) (hA : X1 = A (i 0)) (hI : Inv A X2 X3 (cell X6) (i 0).val X10 X11 X12 X13) (E : Set ℕ) (Q : PUnit → sProp 𝕄) :
    iprop(hv c M1 X1 ∗ hv c M2 X2 ∗ hv c M3 X3 ∗ hv c M4 X4 ∗ hv c M5 X5 ∗ hv c M6 X6 ∗ hv c M7 X7 ∗ hv c M8 X8 ∗ hv c M9 X9 ∗ hv c M10 X10 ∗ hv c M11 X11 ∗ hv c M12 X12 ∗ hv c M13 X13 ∗ (iprop((∃ P1 P2 P3 Y, ⌜Inv A X2 X3 (cell X6) ((i 0).val + 1) P1 P2 P3 Y⌝ ∗ hv c M10 P1 ∗ hv c M11 P2 ∗ hv c M12 P3 ∗ hv c M13 Y) ∗ hv c M1 X1 ∗ hv c M2 X2 ∗ hv c M3 X3 ∗ hv c M4 X4 ∗ hv c M5 X5 ∗ hv c M6 X6 ∗ hv c M7 X7 ∗ hv c M8 X8 ∗ hv c M9 X9) -∗ Q ⟨⟩))
      ⊢ wp frame (wpE (defs₀ (F := F)) Variants.none c none) E (cc1__mega_body i M1 h1 M2 h2 M3 h3 M4 h4 M5 h5 M6 h6 M7 h7 M8 h8 M9 h9 M10 h10 M11 h11 M12 h12 M13 h13) Q := by
  have hc := (cond4_iff i).2 hi
  rw [body2 i M1 h1 M2 h2 M3 h3 M4 h4 M5 h5 M6 h6 M7 h7 M8 h8 M9 h9 M10 h10 M11 h11 M12 h12 M13 h13 hi hc]
  subst hA
  iintro ⟨H1, H2, H3, H4, H5, H6, H7, H8, H9, H10, H11, H12, H13, Hk⟩
  iapply smem_wp c M6 X6
  isplitl [H6]; · iexact H6
  iintro H6
  iapply phase2_wp
  isplitl [H1]; · iexact H1
  isplitl [H2]; · iexact H2
  isplitl [H10]; · iexact H10
  isplitl [H11]; · iexact H11
  isplitl [H12]; · iexact H12
  isplitl [H13]; · iexact H13
  iintro ⟨H1, H2, H10, H11, H12, H13⟩
  iapply Hk
  isplitl [H10 H11 H12 H13]
  · iexists _; iexists _; iexists _; iexists _; isplitr; swap
    · isplitl [H10]; · iexact H10
      isplitl [H11]; · iexact H11
      isplitl [H12]; · iexact H12
      iexact H13
    ipureintro; exact inv_step2 i hc hI
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The last phase. -/
theorem at_phase3 (hi : 75 ≤ (i 0).val) (hA : X1 = A (i 0)) (hI : Inv A X2 X3 (cell X6) (i 0).val X10 X11 X12 X13) (m : Fin 25) (hm : 75 + m.val = (i 0).val) (E : Set ℕ) (Q : PUnit → sProp 𝕄) :
    iprop(hv c M1 X1 ∗ hv c M2 X2 ∗ hv c M3 X3 ∗ hv c M4 X4 ∗ hv c M5 X5 ∗ hv c M6 X6 ∗ hv c M7 X7 ∗ hv c M8 X8 ∗ hv c M9 X9 ∗ hv c M10 X10 ∗ hv c M11 X11 ∗ hv c M12 X12 ∗ hv c M13 X13 ∗ (iprop((∃ P1 P2 P3 Y, ⌜Inv A X2 X3 (cell X6) ((i 0).val + 1) P1 P2 P3 Y⌝ ∗ hv c M10 P1 ∗ hv c M11 P2 ∗ hv c M12 P3 ∗ hv c M13 Y) ∗ hv c M1 X1 ∗ hv c M2 X2 ∗ hv c M3 X3 ∗ hv c M4 X4 ∗ hv c M5 X5 ∗ hv c M6 X6 ∗ hv c M7 (fin A X2 X3 X4 X5 (cell X6) m) ∗ hv c M8 (mean A X2 X3 X4 X5 (cell X6) m) ∗ hv c M9 (logs A X2 X3 X4 X5 (cell X6) m)) -∗ Q ⟨⟩))
      ⊢ wp frame (wpE (defs₀ (F := F)) Variants.none c none) E (cc1__mega_body i M1 h1 M2 h2 M3 h3 M4 h4 M5 h5 M6 h6 M7 h7 M8 h8 M9 h9 M10 h10 M11 h11 M12 h12 M13 h13) Q := by
  have hc := (cond5_iff i).2 hi
  rw [body3 i M1 h1 M2 h2 M3 h3 M4 h4 M5 h5 M6 h6 M7 h7 M8 h8 M9 h9 M10 h10 M11 h11 M12 h12 M13 h13 hi hc]
  subst hA
  iintro ⟨H1, H2, H3, H4, H5, H6, H7, H8, H9, H10, H11, H12, H13, Hk⟩
  iapply smem_wp c M6 X6
  isplitl [H6]; · iexact H6
  iintro H6
  iapply phase3_wp
  isplitl [H1]; · iexact H1
  isplitl [H2]; · iexact H2
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H4, H5, H7, H8, H9, H10, H11, H12, H13⟩
  obtain ⟨e1, e2, e3, e4, e5, e6, e7⟩ := reads3 i hc hI m hm
  rw [pair_eq, e1, e2, e3, e5, e6, e7]
  rw [show slabOf1 X13 = second X3 from congrArg slabOf1 e4]
  iapply Hk
  isplitl [H10 H11 H12 H13]
  · iexists _; iexists _; iexists _; iexists _; isplitr; swap
    · isplitl [H10]; · iexact H10
      isplitl [H11]; · iexact H11
      isplitl [H12]; · iexact H12
      iexact H13
    ipureintro; exact inv_step3 i hc hI
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Mega

end
-- ==== Proof.Region1.lean ====
module

public import proofs.«01_k».proof.Proof.Mega
public import proofs.«01_k».proof.Proof.Gen.KernelIdeal.Points

/-!
The second kernel in the program: what its staging buffers and its own buffers hold at every point, from
any contents of the program's buffers. `Seg1` proves that the body keeps it.
-/

@[expose] public section

set_option maxRecDepth 65536
set_option maxHeartbeats 0

noncomputable section

namespace Cert.Region1

open Cert.KernelIdeal Cert.KernelIdeal.Gen Cert.Ortho Cert.Body Cert.Phases Cert.State Cert.Mega
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ UU ℕ

variable (V : (c : Dev nD) → (b : Ref sig .tc) → Buf (Elt F) ((c : Thread nD τ).loc b))

/-- Window `w`'s block of its array at point `t`. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N1 : cfg1.N = 100 := N_1
def pt (n : Fin 100) : Fin cfg1.N := ⟨n.val, lt_of_lt_of_eq n.isLt N1.symm⟩
theorem coord_eq : ∀ t : Fin cfg1.N, (grid1.coords t 0).val = t.val := (by decide +kernel : ∀ t : Fin grid1.N, (grid1.coords t 0).val = t.val)
theorem pt_coord (t : Fin cfg1.N) : pt (grid1.coords t 0) = t := Fin.ext (coord_eq t)

/-- The operands: the tile of the adjacency at each point, and the whole arrays. -/
def tile (c : Dev nD) (n : Fin 100) : Vec F S1x400x10000 .f32 := iblk V c 0 (pt n)
def feat (c : Dev nD) : Vec F S10000x128 .f32 := iblk V c 1 (pt 0)
def wts (c : Dev nD) : Vec F S2x64x64 .f32 := iblk V c 2 (pt 0)
def outW (c : Dev nD) : Vec F S64x40 .f32 := iblk V c 3 (pt 0)
def outB (c : Dev nD) : Vec F S1x40 .f32 := iblk V c 4 (pt 0)
def mixW (c : Dev nD) : Vec F S1x1 .f32 := iblk V c 5 (pt 0)

/-- The block of the results a point works on. -/
def blockAt (t : Fin cfg1.N) : Fin 25 := ⟨t.val % 25, Nat.mod_lt _ (by omega)⟩

/-- The three results' blocks. -/
def finB (c : Dev nD) (m : Fin 25) := State.fin (tile V c) (feat V c) (wts V c) (outW V c) (outB V c) (cell (mixW V c)) m
def meanB (c : Dev nD) (m : Fin 25) := State.mean (tile V c) (feat V c) (wts V c) (outW V c) (outB V c) (cell (mixW V c)) m
def logsB (c : Dev nD) (m : Fin 25) := State.logs (tile V c) (feat V c) (wts V c) (outW V c) (outB V c) (cell (mixW V c)) m

/-- What holds between two points. -/
def Φc (c : Dev nD) (t : ℕ) : sProp 𝕄 :=
  iprop((∃ P1 P2 P3 Y, ⌜Inv (tile V c) (feat V c) (wts V c) (cell (mixW V c)) t P1 P2 P3 Y⌝ ∗ hv c (Memref.whole cc1_scratch0) P1
    ∗ hv c (Memref.whole cc1_scratch1) P2 ∗ hv c (Memref.whole cc1_scratch2) P3 ∗ hv c (Memref.whole cc1_scratch3) Y)
    ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f))

/-- The proof data: the arrays as found, the inputs' buffers left as fetched, the results' at their blocks. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => finB V c (blockAt t)
    | ⟨7, _⟩ => meanB V c (blockAt t)
    | ⟨8, _⟩ => logsB V c (blockAt t)
    | ⟨_ + 9, h⟩ => absurd h (Nat.not_lt.2 (Nat.le_add_left _ _))
  Φ t := Φc V c t.val
  q _ := fullShare
  owed _ := 0

/-- What the body finds in an input's buffer is its block. -/
theorem before0 (c : Dev nD) (t : Fin cfg1.N) (d) : (dat V c).before 0 t d = tile V c (grid1.coords t 0) := by
  refine ((dat V c).before_in_eq_fetched 0 rfl (fun _ => rfl) (fun _ _ _ => rfl) (fun _ => rfl) t d).trans ?_
  unfold tile
  rw [pt_coord]
  rfl
theorem before1 (c : Dev nD) (t : Fin cfg1.N) (d) : (dat V c).before 1 t d = feat V c :=
  ((dat V c).before_in_eq_fetched 1 rfl (fun _ => rfl) (fun _ _ _ => rfl) (fun _ => rfl) t d).trans rfl
theorem before2 (c : Dev nD) (t : Fin cfg1.N) (d) : (dat V c).before 2 t d = wts V c :=
  ((dat V c).before_in_eq_fetched 2 rfl (fun _ => rfl) (fun _ _ _ => rfl) (fun _ => rfl) t d).trans rfl
theorem before3 (c : Dev nD) (t : Fin cfg1.N) (d) : (dat V c).before 3 t d = outW V c :=
  ((dat V c).before_in_eq_fetched 3 rfl (fun _ => rfl) (fun _ _ _ => rfl) (fun _ => rfl) t d).trans rfl
theorem before4 (c : Dev nD) (t : Fin cfg1.N) (d) : (dat V c).before 4 t d = outB V c :=
  ((dat V c).before_in_eq_fetched 4 rfl (fun _ => rfl) (fun _ _ _ => rfl) (fun _ => rfl) t d).trans rfl
theorem before5 (c : Dev nD) (t : Fin cfg1.N) (d) : (dat V c).before 5 t d = mixW V c :=
  ((dat V c).before_in_eq_fetched 5 rfl (fun _ => rfl) (fun _ _ _ => rfl) (fun _ => rfl) t d).trans rfl

theorem flush6 : ∀ t : Fin cfg1.N, t.val < 75 → (cfg1.win 6).flush t = false := (by decide +kernel : ∀ t : Fin grid1.N, t.val < 75 → win1_6.flush t = false)
theorem flush7 : ∀ t : Fin cfg1.N, t.val < 75 → (cfg1.win 7).flush t = false := (by decide +kernel : ∀ t : Fin grid1.N, t.val < 75 → win1_7.flush t = false)
theorem flush8 : ∀ t : Fin cfg1.N, t.val < 75 → (cfg1.win 8).flush t = false := (by decide +kernel : ∀ t : Fin grid1.N, t.val < 75 → win1_8.flush t = false)

/-- What a point leaves of a result's buffer: its block in the last phase, what was found before. -/
def leaves (c : Dev nD) (t : Fin cfg1.N) (w : Fin cfg1.W) : sProp 𝕄 :=
  if t.val < 75 then iprop(∃ d, owns (c : Thread nD τ) ((cfg1.win w).stage (cfg1.slots t w)) fullShare ((dat V c).before w t d))
  else owns (c : Thread nD τ) ((cfg1.win w).stage (cfg1.slots t w)) fullShare ((dat V c).after w t)

theorem idle_lt (t : Fin cfg1.N) (h : t.val < 75) : (!(k1_cond5 (cfg1.grid.coords t) == 1#1)) = true := by
  have : ¬ k1_cond5 (grid1.coords t) = 1#1 := mt (cond5_iff _).1 (by have := coord_eq t; omega)
  rw [Bool.not_eq_true', beq_eq_false_iff_ne]; exact this
theorem idle_ge (t : Fin cfg1.N) (h : ¬ t.val < 75) : (!(k1_cond5 (cfg1.grid.coords t) == 1#1)) = false := by
  have : k1_cond5 (grid1.coords t) = 1#1 := (cond5_iff _).2 (by have := coord_eq t; omega)
  rw [Bool.not_eq_false', beq_iff_eq]; exact this

/-- The body at one point, from the invariant and the blocks found to the invariant and what it leaves. -/
theorem body_point (c : Dev nD) (t : Fin cfg1.N) (Q : PUnit → sProp 𝕄) :
    iprop(Φc V c t.val ∗ hv c (st1_0 t) (tile V c (grid1.coords t 0)) ∗ hv c (st1_1 t) (feat V c) ∗ hv c (st1_2 t) (wts V c) ∗ hv c (st1_3 t) (outW V c)
        ∗ hv c (st1_4 t) (outB V c) ∗ hv c (st1_5 t) (mixW V c)
        ∗ (∃ d, owns (c : Thread nD τ) (st1_6 t) fullShare ((dat V c).before 6 t d))
        ∗ (∃ d, owns (c : Thread nD τ) (st1_7 t) fullShare ((dat V c).before 7 t d))
        ∗ (∃ d, owns (c : Thread nD τ) (st1_8 t) fullShare ((dat V c).before 8 t d))
        ∗ (iprop(Φc V c (t.val + 1) ∗ hv c (st1_0 t) (tile V c (grid1.coords t 0)) ∗ hv c (st1_1 t) (feat V c) ∗ hv c (st1_2 t) (wts V c)
          ∗ hv c (st1_3 t) (outW V c) ∗ hv c (st1_4 t) (outB V c) ∗ hv c (st1_5 t) (mixW V c) ∗ leaves V c t 6 ∗ leaves V c t 7 ∗ leaves V c t 8) -∗ Q ⟨⟩))
      ⊢ wp frame (wpE (defs₀ (F := F)) Variants.none c none) Set.univ (bodyAt1 t) Q := by
  have ht : (grid1.coords t 0).val = t.val := coord_eq t
  unfold Φc
  iintro ⟨⟨⟨%P1, %P2, %P3, %Y, %hI, H10, H11, H12, H13⟩, HR⟩, H1, H2, H3, H4, H5, H6, ⟨%d7, H7⟩, ⟨%d8, H8⟩, ⟨%d9, H9⟩, Hk⟩
  rw [← ht] at hI
  by_cases hlt : t.val < 75
  · by_cases h0 : t.val = 0
    · iapply at_first (hi := by omega) (hA := rfl) (hI := hI)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨HI, H1, H2, H3, H4, H5, H6, H7, H8, H9⟩
      iapply Hk
      isplitl [HI HR]
      · isplitl [HI]; · rw [← ht]; iexact HI
        iexact HR
      isplitl [H1]; · iexact H1
      isplitl [H2]; · iexact H2
      isplitl [H3]; · iexact H3
      isplitl [H4]; · iexact H4
      isplitl [H5]; · iexact H5
      isplitl [H6]; · iexact H6
      unfold leaves; rw [if_pos hlt, if_pos hlt, if_pos hlt]
      isplitl [H7]; · iexists _; iexact H7
      isplitl [H8]; · iexists _; iexact H8
      iexists _; iexact H9
    by_cases h1 : t.val < 25
    · iapply at_phase0 (hi := by omega) (hA := rfl) (hI := hI)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨HI, H1, H2, H3, H4, H5, H6, H7, H8, H9⟩
      iapply Hk
      isplitl [HI HR]
      · isplitl [HI]; · rw [← ht]; iexact HI
        iexact HR
      isplitl [H1]; · iexact H1
      isplitl [H2]; · iexact H2
      isplitl [H3]; · iexact H3
      isplitl [H4]; · iexact H4
      isplitl [H5]; · iexact H5
      isplitl [H6]; · iexact H6
      unfold leaves; rw [if_pos hlt, if_pos hlt, if_pos hlt]
      isplitl [H7]; · iexists _; iexact H7
      isplitl [H8]; · iexists _; iexact H8
      iexists _; iexact H9
    by_cases h2 : t.val < 50
    · iapply at_phase1 (hi := by omega) (hA := rfl) (hI := hI)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨HI, H1, H2, H3, H4, H5, H6, H7, H8, H9⟩
      iapply Hk
      isplitl [HI HR]
      · isplitl [HI]; · rw [← ht]; iexact HI
        iexact HR
      isplitl [H1]; · iexact H1
      isplitl [H2]; · iexact H2
      isplitl [H3]; · iexact H3
      isplitl [H4]; · iexact H4
      isplitl [H5]; · iexact H5
      isplitl [H6]; · iexact H6
      unfold leaves; rw [if_pos hlt, if_pos hlt, if_pos hlt]
      isplitl [H7]; · iexists _; iexact H7
      isplitl [H8]; · iexists _; iexact H8
      iexists _; iexact H9
    iapply at_phase2 (hi := by omega) (hA := rfl) (hI := hI)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨HI, H1, H2, H3, H4, H5, H6, H7, H8, H9⟩
    iapply Hk
    isplitl [HI HR]
    · isplitl [HI]; · rw [← ht]; iexact HI
      iexact HR
    isplitl [H1]; · iexact H1
    isplitl [H2]; · iexact H2
    isplitl [H3]; · iexact H3
    isplitl [H4]; · iexact H4
    isplitl [H5]; · iexact H5
    isplitl [H6]; · iexact H6
    unfold leaves; rw [if_pos hlt, if_pos hlt, if_pos hlt]
    isplitl [H7]; · iexists _; iexact H7
    isplitl [H8]; · iexists _; iexact H8
    iexists _; iexact H9
  · have hm : 75 + (blockAt t).val = (grid1.coords t 0).val := by
      have : t.val < 100 := N1 ▸ t.isLt
      show 75 + t.val % 25 = _; omega
    iapply at_phase3 (hi := by omega) (hA := rfl) (hI := hI) (m := blockAt t) (hm := hm)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨HI, H1, H2, H3, H4, H5, H6, H7, H8, H9⟩
    iapply Hk
    isplitl [HI HR]
    · isplitl [HI]; · rw [← ht]; iexact HI
      iexact HR
    isplitl [H1]; · iexact H1
    isplitl [H2]; · iexact H2
    isplitl [H3]; · iexact H3
    isplitl [H4]; · iexact H4
    isplitl [H5]; · iexact H5
    isplitl [H6]; · iexact H6
    unfold leaves; rw [if_neg hlt, if_neg hlt, if_neg hlt]
    isplitl [H7]; · iexact H7
    isplitl [H8]; · iexact H8
    iexact H9

end Cert.Region1

end
-- ==== Proof.Seg1.lean ====
module

public import proofs.«01_k».proof.Proof.Region1

/-!
The second kernel keeps its invariant, at every point of its grid.
-/

@[expose] public section

set_option maxRecDepth 65536
set_option maxHeartbeats 0

noncomputable section

namespace Cert.Region1

open Cert.KernelIdeal Cert.KernelIdeal.Gen Cert.Ortho Cert.Body Cert.Phases Cert.State Cert.Mega
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ UU ℕ

variable (V : (c : Dev nD) → (b : Ref sig .tc) → Buf (Elt F) ((c : Thread nD τ).loc b))

/-- What a point leaves of a result's buffer, as the library asks it. -/
theorem leaves_out (c : Dev nD) (t : Fin cfg1.N) (w : Fin cfg1.W) (h1 : t.val < 75 → cfg1.idle w (cfg1.grid.coords t) = true)
    (h2 : ¬ t.val < 75 → cfg1.idle w (cfg1.grid.coords t) = false) (h3 : t.val < 75 → (cfg1.win w).flush t = false) (hl : cfg1.loose w = false) :
    leaves V c t w ⊢ (dat V c).leaves w t := by
  unfold leaves Dat.leaves
  by_cases h : t.val < 75
  · rw [if_pos h, h1 h, h3 h]
  · rw [if_neg h, h2 h, hl]

/-- The library's obligation of the body. -/
theorem body_obligation (c : Dev nD) : BodyObligationLoose (dat V c) (defs₀ (F := F)) Variants.none () Set.univ := fun t => by
  rw [bigSep_W1, bigSep_W1]
  rw [show (dat V c).Φ t.castSucc = Φc V c t.val from rfl, show (dat V c).Φ t.succ = Φc V c (t.val + 1) from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, H6, H7, H8⟩
  rw [before0, before1, before2, before3, before4, before5]
  iapply (body_point V c t _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨HΦ, H0, H1, H2, H3, H4, H5, H6, H7, H8⟩
  isplitl [HΦ]; · iexact HΦ
  isplitl [Howes]; · iexact Howes
  isplitl [H0]
  · rw [show tile V c (grid1.coords t 0) = (dat V c).after 0 t from by unfold tile; rw [pt_coord]; rfl]; iexact H0
  isplitl [H1]
  · iexact H1
  isplitl [H2]
  · iexact H2
  isplitl [H3]
  · iexact H3
  isplitl [H4]
  · iexact H4
  isplitl [H5]
  · iexact H5
  isplitl [H6]; · iapply (leaves_out V c t 6 (idle_lt t) (idle_ge t) (flush6 t) rfl); iexact H6
  isplitl [H7]; · iapply (leaves_out V c t 7 (idle_lt t) (idle_ge t) (flush7 t) rfl); iexact H7
  iapply (leaves_out V c t 8 (idle_lt t) (idle_ge t) (flush8 t) rfl); iexact H8

end Cert.Region1

end
-- ==== Proof.Segs.lean ====
module

public import proofs.«01_k».proof.Proof.Region0
public import proofs.«01_k».proof.Proof.Seg1
public import proofs.«01_k».proof.Proof.Gen.KernelIdeal.Regions

/-!
The two kernels as segments of the program: each from the buffers at the contents it finds to the buffers
with its results written.
-/

@[expose] public section

set_option maxRecDepth 65536
set_option maxHeartbeats 400000

noncomputable section

namespace Cert.Segs

open Cert.KernelIdeal Cert.KernelIdeal.Gen Cert.Phases
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0

/-- The buffers' contents on entering the first kernel. -/
def at0 (c : Dev nD) (b : Ref sig .tc) : Buf (Elt F) ((c : Thread nD τ).loc b) := V1 m c b
/-- The features the first kernel leaves. -/
def features (c : Dev nD) : Buf (Elt F) ((c : Thread nD τ).loc main_v5) := (Region0.dat (at0 m) c).arrAt 3 cfg0.N
/-- The contents after the first kernel. -/
def W2 (c : Dev nD) : Valuation τ sig (Elt F) := Function.update (V1 m c) main_v5 (features m c)
def at1 (c : Dev nD) (b : Ref sig .tc) : Buf (Elt F) ((c : Thread nD τ).loc b) := W2 m c b
/-- The three results the second kernel leaves. -/
def final (c : Dev nD) : Buf (Elt F) ((c : Thread nD τ).loc main_v6_0) := (Region1.dat (at1 m) c).arrAt 6 cfg1.N
def means (c : Dev nD) : Buf (Elt F) ((c : Thread nD τ).loc main_v6_1) := (Region1.dat (at1 m) c).arrAt 7 cfg1.N
def logits (c : Dev nD) : Buf (Elt F) ((c : Thread nD τ).loc main_v6_2) := (Region1.dat (at1 m) c).arrAt 8 cfg1.N
/-- The contents at the end. -/
def W3 (c : Dev nD) : Valuation τ sig (Elt F) :=
  Function.update (Function.update (Function.update (W2 m c) main_v6_0 (final m c)) main_v6_1 (means m c)) main_v6_2 (logits m c)
def at2 (c : Dev nD) (b : Ref sig .tc) : Buf (Elt F) ((c : Thread nD τ).loc b) := W3 m c b

theorem at1_of (c : Dev nD) (b : Ref sig .tc) (h : b ≠ main_v5) : at1 m c b = at0 m c b :=
  Function.update_of_ne (StableHlo.devRef_ne_of_ne h) _ _
theorem at1_v5 (c : Dev nD) : at1 m c main_v5 = features m c := by
  unfold at1 W2; rw [Function.update_self]
theorem at2_of (c : Dev nD) (b : Ref sig .tc) (h0 : b ≠ main_v6_0) (h1 : b ≠ main_v6_1) (h2 : b ≠ main_v6_2) :
    at2 m c b = at1 m c b := by
  unfold at2 W3
  rw [Function.update_of_ne (StableHlo.devRef_ne_of_ne h2), Function.update_of_ne (StableHlo.devRef_ne_of_ne h1),
    Function.update_of_ne (StableHlo.devRef_ne_of_ne h0)]
  rfl
theorem at2_v2 (c : Dev nD) : at2 m c main_v6_2 = logits m c := by
  unfold at2 W3; rw [Function.update_self]
theorem at2_v1 (c : Dev nD) : at2 m c main_v6_1 = means m c := by
  unfold at2 W3
  rw [Function.update_of_ne (StableHlo.devRef_ne_of_ne (by decide : main_v6_1 ≠ main_v6_2)), Function.update_self]
theorem at2_v0 (c : Dev nD) : at2 m c main_v6_0 = final m c := by
  unfold at2 W3
  rw [Function.update_of_ne (StableHlo.devRef_ne_of_ne (by decide : main_v6_0 ≠ main_v6_2)),
    Function.update_of_ne (StableHlo.devRef_ne_of_ne (by decide : main_v6_0 ≠ main_v6_1)), Function.update_self]

/-- The proof data of the two kernels. -/
def pdats : (p : Fin 2) → (c : Dev nD) → Dat τ (Elt F) Unit ℕ UU ℕ (Pipeline.pin (pcfgs (F := F)) adm p) c
  | ⟨0, _⟩ => fun c => Region0.dat (at0 m) c
  | ⟨1, _⟩ => fun c => Region1.dat (at1 m) c

set_option backward.isDefEq.respectTransparency.types false in
/-- The first kernel as a segment: from the buffers at the contents it finds to those with its results written. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := Region0.body_obligation (at0 m) c
  hwaits := Pipeline.hwaits_of_owed_zero _ _ _ _ L lv 0 fun _ _ => rfl
  pre c := iprop(unscopedBufs c (at0 m c) ∗ ∃ W, owes (c : Thread nD τ) (0 : CellTallies nD τ sig Unit) W)
  post c := iprop(unscopedBufs c (at1 m c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (at0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Region0.Φc c from rfl]
    iintro ⟨-, -, Hr⟩; iexact Hr
  hout c := by
    rw [Pipeline.ownSems0_none, show (pdats m 0 c).Φ (Fin.last _) = Region0.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (at0 m c) (at1 m c) ((pdats m 0 c).arrAt · cfg0.N)
      (fun w => by
        fin_cases w
        · exact ((pdats m 0 c).arrAt_in 0 rfl _).trans (at1_of m c main_arg0 (by decide)).symm
        · exact ((pdats m 0 c).arrAt_in 1 rfl _).trans (at1_of m c main_v0 (by decide)).symm
        · exact ((pdats m 0 c).arrAt_in 2 rfl _).trans (at1_of m c main_v1 (by decide)).symm
        · exact (at1_v5 m c).symm)
      (fun b hb => at1_of m c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The buffers the second kernel finds, as its invariant before the first point, -/
theorem enter1 (c : Dev nD) : (Pipeline.scopedRest (Ix := Unit) (Name := ℕ) (U := UU) (Lvl := ℕ) (Val := Elt F) spec1 c : sProp 𝕄) ⊢ Region1.Φc (at1 m) c 0 := by
  rw [scopedRest1_eq]
  unfold Region1.Φc hv
  simp only [owns_whole_eq]
  iintro ⟨R0, R1, R2, R3, ⟨%P1, H1⟩, ⟨%P2, H2⟩, ⟨%P3, H3⟩, ⟨%Y, H4⟩⟩
  isplitl [H1 H2 H3 H4]
  · iexists P1; iexists P2; iexists P3; iexists Y
    isplitr; · ipureintro; exact State.inv_zero ..
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    iexists _; isplitr; swap; (· iexact H4); ipureintro; rfl
  isplitl [R0]; · iexact R0
  isplitl [R1]; · iexact R1
  isplitl [R2]; · iexact R2
  iexact R3

/-- and its invariant after the last, as those buffers again. -/
theorem leave1 (c : Dev nD) (t : ℕ) : (Region1.Φc (at1 m) c t : sProp 𝕄) ⊢ Pipeline.scopedRest (Ix := Unit) (Name := ℕ) (U := UU) (Lvl := ℕ) (Val := Elt F) spec1 c := by
  rw [scopedRest1_eq]
  unfold Region1.Φc hv
  simp only [owns_whole_eq]
  iintro ⟨⟨%P1, %P2, %P3, %Y, -, ⟨%f1, -, H1⟩, ⟨%f2, -, H2⟩, ⟨%f3, -, H3⟩, ⟨%f4, -, H4⟩⟩, R0, R1, R2, R3⟩
  isplitl [R0]; · iexact R0
  isplitl [R1]; · iexact R1
  isplitl [R2]; · iexact R2
  isplitl [R3]; · iexact R3
  isplitl [H1]; · iexists _; iexact H1
  isplitl [H2]; · iexists _; iexact H2
  isplitl [H3]; · iexists _; iexact H3
  iexists _; iexact H4

set_option backward.isDefEq.respectTransparency.types false in
/-- The second kernel as a segment: from the buffers at the contents it finds to those with its results written. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := Region1.body_obligation (at1 m) c
  hwaits := Pipeline.hwaits_of_owed_zero _ _ _ _ L lv 1 fun _ _ => rfl
  pre c := iprop(unscopedBufs c (at1 m c) ∗ ∃ W, owes (c : Thread nD τ) (0 : CellTallies nD τ sig Unit) W)
  post c := iprop(unscopedBufs c (at2 m c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (at1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Region1.Φc (at1 m) c 0 from rfl]
    iintro ⟨-, -, Hr⟩; iapply (enter1 m c); iexact Hr
  hout c := by
    rw [Pipeline.ownSems0_none, show (pdats m 1 c).Φ (Fin.last _) = Region1.Φc (at1 m) c _ from rfl]
    iintro Hr
    isplitr; · iempintro
    isplitr; · iempintro
    iapply (leave1 m c _); iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (at1 m c) (at2 m c) ((pdats m 1 c).arrAt · cfg1.N)
      (fun w => by
        fin_cases w
        · exact ((pdats m 1 c).arrAt_in 0 rfl _).trans (at2_of m c main_arg1 (by decide) (by decide) (by decide)).symm
        · exact ((pdats m 1 c).arrAt_in 1 rfl _).trans (at2_of m c main_v5 (by decide) (by decide) (by decide)).symm
        · exact ((pdats m 1 c).arrAt_in 2 rfl _).trans (at2_of m c main_arg2 (by decide) (by decide) (by decide)).symm
        · exact ((pdats m 1 c).arrAt_in 3 rfl _).trans (at2_of m c main_v2 (by decide) (by decide) (by decide)).symm
        · exact ((pdats m 1 c).arrAt_in 4 rfl _).trans (at2_of m c main_v3 (by decide) (by decide) (by decide)).symm
        · exact ((pdats m 1 c).arrAt_in 5 rfl _).trans (at2_of m c main_v4 (by decide) (by decide) (by decide)).symm
        · exact (at2_v0 m c).symm
        · exact (at2_v1 m c).symm
        · exact (at2_v2 m c).symm)
      (fun b hb => at2_of m c b (fun h => hb (h ▸ Finset.mem_image.mpr ⟨6, Finset.mem_univ _, rfl⟩))
        (fun h => hb (h ▸ Finset.mem_image.mpr ⟨7, Finset.mem_univ _, rfl⟩)) (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch's own resources: the staging counters', and no other. -/
def u₀ : UU := (initOf (Pipeline.cells cfgs cellOf_inj) (Pipeline.launchToks cfgs cellOf_inj), 1)

/-- What goes along with the buffers: each core owes nothing. -/
abbrev free (c : Dev nD) : sProp 𝕄 := iprop(∃ W, owes (c : Thread nD τ) (0 : CellTallies nD τ sig Unit) W)

/-- The buffers outside the kernels at a valuation, in the two forms. -/
theorem held_eq (c : Dev nD) (W : Valuation τ sig (Elt F)) :
    (StableHlo.held (c : Thread nD τ) (Pipeline.ucRefs τ sig) W : sProp 𝕄) = unscopedBufs c (fun b => W b) :=
  (Pipeline.unscopedBufs_held c W).symm

theorem enter0 (c : Dev nD) : iprop(StableHlo.held (c : Thread nD τ) (Pipeline.ucRefs τ sig) (V1 m c) ∗ free c) ⊢ (reg0 m).pre c :=
  Entails.of_eq (congrArg (fun X => iprop(X ∗ free c)) (held_eq c (V1 m c)))
theorem between (c : Dev nD) : (reg0 m).post c ⊢ (reg1 m).pre c := .rfl
theorem leave2 (c : Dev nD) : (reg1 m).post c ⊢ iprop(StableHlo.held (c : Thread nD τ) (Pipeline.ucRefs τ sig) (W3 m c) ∗ free c) :=
  Entails.of_eq (congrArg (fun X => iprop(X ∗ free c)) (held_eq c (W3 m c)).symm)

/-- Read off the last contents. -/
theorem read_end (c : Dev nD) (s' : Phys nD τ sig (Elt F)) :
    iprop(StableHlo.held (c : Thread nD τ) (Pipeline.ucRefs τ sig) (W3 m c) ∗ SI s')
      ⊢ (|={Set.univ}=> iprop(⌜∀ b : Ref sig .tc, ¬ b.isScoped → s'.mem.mem ((c.tc : Thread nD τ).loc b) = at2 m c b⌝ ∗ SI s') : sProp 𝕄) := by
  unfold StableHlo.held
  iintro ⟨Hh, HSI⟩
  ihave Hr := (pointsTo_read_all (Pipeline.ucRefs τ sig) (fun b => ((c : Thread nD τ).1, b)) (W3 m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, hb⟩)
  · iexact HSI

end Cert.Segs

end
-- ==== Proof.Run.lean ====
module

public import proofs.«01_k».proof.Proof.Segs

/-!
The program run from its launch: the host's operations, the first kernel, the second, and what every buffer
outside the kernels holds at the end.
-/

@[expose] public section

set_option maxRecDepth 65536
set_option maxHeartbeats 400000

noncomputable section

namespace Cert.Run

open Cert.KernelIdeal Cert.KernelIdeal.Gen Cert.Phases Cert.Segs
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

variable (m : (ℓ : Loc nD τ sig) → Buf (Elt F) ℓ) (ρ : Dev nD → PrngReg)

set_option backward.isDefEq.respectTransparency.types false in
/-- Every weakly fair run of the program from any memory with its counters at zero ends, with every buffer outside
    the kernels at the contents above and every counter at zero. -/
theorem run_main : θ_run defs (onTc (τ := τ) (main (F := F))) ⟨m, fun _ => 0, ρ⟩ (fun r =>
    (∀ c : Dev nD, ∀ b : Ref sig .tc, ¬ b.isScoped → r.2.mem ((c.tc : Thread nD τ).loc b) = at2 m c b) ∧ r.2.sem = fun _ => 0) := by
  refine Pipeline.θ_run_regions_kit_dev_sems (pcfgs (F := F)) adm (pdats m) () cellOf_inj embL defs₀ Variants.none L lv m ρ main
    (segs m Variants.none L lv (fun _ c => free c) () (pdats m) (reg0 m) (reg1 m))
    (fun c Q => by
      rewrite [main_chain c, Seg.run_eq_chain,
        show (segs m Variants.none L lv (fun _ c => free c) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ free c))
    (Tₙ := fun c => StableHlo.held (c : Thread nD τ) (Pipeline.ucRefs τ sig) (W3 m c))
    (hch := fun c => ⟨.rfl, enter0 m c, between m c, leave2 m c⟩)
    (hinit := ?_) (QY := fun c s => ∀ b : Ref sig .tc, ¬ b.isScoped → s.mem ((c.tc : Thread nD τ).loc b) = at2 m c b)
    (hfin := fun c s' => read_end m c s') (hQ := fun _ h hz => ⟨h, funext fun g => hz g (.inr (regions_no_unscoped g.2))⟩)
  refine Pipeline.initEach L lv fun c => ?_
  rw [show unscopedBufs c (fun b => m ((c : Thread nD τ).loc b)) = StableHlo.held (c : Thread nD τ) (Pipeline.ucRefs τ sig) (V0 m c) from Pipeline.unscopedBufs_held c (V0 m c)]
  iintro ⟨⟨Hh, -, HO, -, -, -⟩, -⟩
  imodintro
  isplitl [Hh]; · iexact Hh
  iexists ∅; iexact HO

end Cert.Run

end
-- ==== Proof.Frames.lean ====
module

public import proofs.«01_k».proof.Proof.Run
public import proofs.«01_k».proof.Proof.Gen.Kernel
public import proofs.«01_k».proof.Proof.Gen.ReferenceIdeal.Run
public import proofs.«01_k».proof.Defs

/-!
The kernel's run leaves its arguments as they were and its counters at zero.
-/

@[expose] public section

set_option maxRecDepth 65536

noncomputable section

namespace Cert.Frames

open Cert.KernelIdeal Cert.KernelIdeal.Gen Cert.Segs
open Idealize.ShloMosaic Idealize.SL.Sem Idealize.ShloMosaic.TcCoe

variable {F : FTy → Type} [FloatOps F]
variable (m : (ℓ : Loc nD τ sig) → Buf (Elt F) ℓ) (ρ : Dev nD → PrngReg)

/-- An argument's buffer, written by nothing, ends as the launch found it. -/
theorem kept (c : Dev nD) (b : Ref sig .tc) (h : b ∉ hostOps0_W) (h5 : b ≠ main_v5) (h0 : b ≠ main_v6_0) (h1 : b ≠ main_v6_1)
    (h2 : b ≠ main_v6_2) : at2 m c b = m ((c.tc : Thread nD τ).loc b) :=
  (at2_of m c b h0 h1 h2).trans ((at1_of m c b h5).trans (V1_of m c b h))

/-- What every buffer outside the kernels holds at the end, from any memory, whatever the numbers are. -/
theorem frame : θ_run defs (onTc (τ := τ) (main (F := F))) ⟨m, fun _ => 0, ρ⟩ (fun r =>
    (∀ c : Dev nD, ∀ b : Ref sig .tc, ¬ b.isScoped → b ∉ hostOps0_W → b ≠ main_v5 → b ≠ main_v6_0 → b ≠ main_v6_1 → b ≠ main_v6_2 →
      r.2.mem ((c.tc : Thread nD τ).loc b) = m ((c.tc : Thread nD τ).loc b)) ∧ r.2.sem = fun _ => 0) :=
  (θ_run defs _ _).mono (fun _ h => ⟨fun c b hs h' h5 h0 h1 h2 => (h.1 c b hs).trans (kept m c b h' h5 h0 h1 h2), h.2⟩)
    (Run.run_main m ρ)

theorem frame_ideal : Cert.quiescent_KernelIdeal := fun m ρ _ =>
  (θ_run defs _ _).mono (fun _ h => ⟨fun c => by
    refine ⟨?_, ?_, ?_, ?_, ?_, ?_, ?_, ?_⟩ <;> exact h.1 c _ (by decide) (by decide) (by decide) (by decide) (by decide) (by decide), h.2⟩)
    (frame m ρ)

/-- The reference declares no counter, and its run writes no argument. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Frames

end
-- ==== Proof.Transfer.lean ====
module

public import proofs.«01_k».proof.Proof.Frames

/-!
The kernel as printed and the kernel its ideal claims speak of are one program read at two kinds of numbers, so what is
proved of the second whatever the numbers are holds of the first.
-/

@[expose] public section

set_option maxRecDepth 65536
set_option maxHeartbeats 4000000
set_option backward.isDefEq.respectTransparency.types false

noncomputable section

namespace Cert.Transfer

open Idealize.ShloMosaic Idealize.SL.Sem Idealize.ShloMosaic.TcCoe

variable {F : FTy → Type} [FloatOps F]

theorem main_eq : @Cert.Kernel.main F _ = @Cert.KernelIdeal.main F _ := rfl
theorem body0_eq : @Cert.Kernel.cc0__fc_body F _ Cert.Kernel.Gen.facts = @Cert.KernelIdeal.cc0__fc_body F _ Cert.KernelIdeal.Gen.facts := rfl
theorem body1_eq : @Cert.Kernel.cc1__mega_body F _ Cert.Kernel.Gen.facts = @Cert.KernelIdeal.cc1__mega_body F _ Cert.KernelIdeal.Gen.facts := rfl
theorem call0_eq (a) : @Cert.Kernel.defs₀ F _ Cert.Kernel.Gen.facts .tc 0 a = @Cert.KernelIdeal.defs₀ F _ Cert.KernelIdeal.Gen.facts .tc 0 a := rfl
theorem call1_eq (a) : @Cert.Kernel.defs₀ F _ Cert.Kernel.Gen.facts .tc 1 a = @Cert.KernelIdeal.defs₀ F _ Cert.KernelIdeal.Gen.facts .tc 1 a := rfl

theorem defs₀_eq : @Cert.Kernel.defs₀ F _ Cert.Kernel.Gen.facts = @Cert.KernelIdeal.defs₀ F _ Cert.KernelIdeal.Gen.facts := by
  funext p l a
  cases p with
  | tc =>
    revert a
    match l with
    | 0 => exact call0_eq
    | 1 => exact call1_eq
  | scScalar _ => rfl
  | scVector _ _ => rfl

theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

theorem frame_printed : Cert.quiescent_Kernel := fun m ρ _ =>
  (congrArg (fun d => θ_run d (onTc (τ := Cert.Kernel.τ) (Cert.Kernel.main (F := Bits))) ⟨m, fun _ => 0, ρ⟩ _) defs_eq).mpr
    ((θ_run Cert.KernelIdeal.defs _ _).mono (fun _ h => ⟨fun c => by
      refine ⟨?_, ?_, ?_, ?_, ?_, ?_, ?_, ?_⟩ <;> exact h.1 c _ (by decide) (by decide) (by decide) (by decide) (by decide) (by decide), h.2⟩)
      (Frames.frame (F := Bits) m ρ))

end Cert.Transfer

end
-- ==== Proof.Factor.lean ====
module

public import Mathlib.Analysis.SpecialFunctions.Pow.Real
public import Mathlib.Algebra.BigOperators.Fin
public import Mathlib.Algebra.BigOperators.Field

/-!
The Cholesky factor of a real matrix, its inverse, and the product of a matrix with the inverse's transpose: as the
recursions by which the two programs find them, and that these agree.
-/

@[expose] public section

noncomputable section

namespace Cert.Factor

open Finset

/-- What is left of the matrix `A` after `k` columns of its factor are taken off. -/
def S (A : ℕ → ℕ → ℝ) : ℕ → ℕ → ℕ → ℝ
  | 0, i, j => A i j
  | k + 1, i, j => S A k i j - S A k i k * S A k j k / S A k k k

/-- The factor's diagonal. -/
def D (A : ℕ → ℕ → ℝ) (k : ℕ) : ℝ := Real.sqrt (S A k k k)

/-- The factor. -/
def L (A : ℕ → ℕ → ℝ) (i k : ℕ) : ℝ := if k ≤ i then S A k i k / D A k else 0

/-- The factor's inverse, row by row. -/
def V (A : ℕ → ℕ → ℝ) (j r : ℕ) : ℝ := ((if r = j then 1 else 0) - ∑ q : Fin j, L A j q * V A q r) / D A j
termination_by j
decreasing_by exact q.isLt

/-- `W` times the inverse's transpose. -/
def X (A W : ℕ → ℕ → ℝ) (i j : ℕ) : ℝ := ∑ r ∈ range 64, W i r * V A j r

theorem V_eq (A : ℕ → ℕ → ℝ) (j r : ℕ) : V A j r = ((if r = j then 1 else 0) - ∑ q ∈ range j, L A j q * V A q r) / D A j := by
  rw [V, Finset.sum_range]

/-- The product's columns solve the factor's equations, each from the ones before it. -/
theorem X_eq (A W : ℕ → ℕ → ℝ) (i : ℕ) {j : ℕ} (hj : j < 64) : X A W i j = (W i j - ∑ q ∈ range j, X A W i q * L A j q) / D A j := by
  have h : ∀ q, X A W i q * L A j q = ∑ r ∈ range 64, W i r * (L A j q * V A q r) := fun q => by
    unfold X; rw [Finset.sum_mul]; exact Finset.sum_congr rfl fun r _ => by ring
  have h1 : W i j = ∑ r ∈ range 64, W i r * (if r = j then 1 else 0) := by
    simp [hj]
  rw [Finset.sum_congr rfl fun q _ => h q, Finset.sum_comm]
  rw [h1, ← Finset.sum_sub_distrib, Finset.sum_div]
  unfold X
  refine Finset.sum_congr rfl fun r _ => ?_
  rw [V_eq, ← Finset.mul_sum]; ring

theorem S_symm {A : ℕ → ℕ → ℝ} (hA : ∀ i j, A i j = A j i) (k i j : ℕ) : S A k i j = S A k j i := by
  induction k generalizing i j with
  | zero => exact hA i j
  | succ k ih => simp only [S]; rw [ih i j]; ring

theorem D_mul {A : ℕ → ℕ → ℝ} {k : ℕ} (h : 0 < S A k k k) : D A k * D A k = S A k k k := Real.mul_self_sqrt h.le
theorem D_pos {A : ℕ → ℕ → ℝ} {k : ℕ} (h : 0 < S A k k k) : 0 < D A k := Real.sqrt_pos.2 h

/-- Taking a column off is taking off its outer product with itself. -/
theorem S_succ {A : ℕ → ℕ → ℝ} {k i j : ℕ} (h : 0 < S A k k k) (hi : k ≤ i) (hj : k ≤ j) :
    S A (k + 1) i j = S A k i j - L A i k * L A j k := by
  unfold L; rw [if_pos hi, if_pos hj, div_mul_div_comm, D_mul h]; rfl

theorem S_add {A : ℕ → ℕ → ℝ} {k i j : ℕ} (h : ∀ k < 64, 0 < S A k k k) (n : ℕ) (hk : k + n ≤ 64) (hi : k + n ≤ i + 1) (hj : k + n ≤ j + 1) :
    S A (k + n) i j = S A k i j - ∑ q ∈ range n, L A i (k + q) * L A j (k + q) := by
  induction n with
  | zero => simp
  | succ n ih =>
    rw [← add_assoc, S_succ (h _ (by omega)) (by omega) (by omega), ih (by omega) (by omega) (by omega), Finset.sum_range_succ]; ring

theorem S_sum {A : ℕ → ℕ → ℝ} {k i j : ℕ} (h : ∀ k < 64, 0 < S A k k k) (hk : k ≤ 64) (hi : k ≤ i + 1) (hj : k ≤ j + 1) :
    S A k i j = A i j - ∑ q ∈ range k, L A i q * L A j q := by
  have := S_add (k := 0) h k (by omega) (by omega) (i := i) (j := j) (by omega)
  simpa [S] using this

/-! ## The diagonal is positive -/

/-- The columns of `T`, each with the multiples of the ones before it taken off that `S` takes off. -/
def R (A T : ℕ → ℕ → ℝ) : ℕ → ℕ → ℕ → ℝ
  | 0, r, i => T r i
  | k + 1, r, i => R A T k r i - S A k i k / S A k k k * R A T k r k

/-- A Gram matrix with a positive multiple of the identity added keeps a positive diagonal. -/
theorem pos_of {A W : ℕ → ℕ → ℝ} {e : ℝ} (he : 0 < e) (hA : ∀ i j, A i j = (∑ r ∈ range 64, W r i * W r j) + if i = j then e else 0) : ∀ k < 64, 0 < S A k k k := by
  set B : ℕ → ℕ → ℝ := fun r i => if r = i then Real.sqrt e else 0
  have hB : ∀ k r i, k ≤ r → k ≤ i → R A B k r i = B r i := fun k => by
    induction k with
    | zero => intros; rfl
    | succ k ih =>
      intro r i hr hi
      simp only [R]; rw [ih r i (by omega) (by omega), ih r k (by omega) le_rfl]
      simp [B, show r ≠ k by omega]
  have key : ∀ k ≤ 64, (∀ i < 64, ∀ j < 64, S A k i j = (∑ r ∈ range 64, R A W k r i * R A W k r j) + ∑ r ∈ range 64, R A B k r i * R A B k r j) := by
    intro k
    induction k with
    | zero =>
      intro _ i hi j hj
      simp only [S, R, hA, B]
      congr 1
      by_cases h : i = j
      · subst h; simp [hi, Real.mul_self_sqrt he.le]
      · rw [if_neg h]; symm; refine Finset.sum_eq_zero fun r _ => ?_
        by_cases h1 : r = i
        · subst h1; simp [h]
        · simp [h1]
    | succ k ih =>
      intro hk i hi j hj
      have ih := ih (by omega)
      have hkk := ih k (by omega) k (by omega)
      have hp : 0 < S A k k k := by
        rw [hkk]
        refine add_pos_of_nonneg_of_pos (Finset.sum_nonneg fun r _ => mul_self_nonneg _) ?_
        refine Finset.sum_pos' (fun r _ => mul_self_nonneg _) ⟨k, by simp; omega, ?_⟩
        rw [hB k k k le_rfl le_rfl]; simp [B]; positivity
      have ex : ∀ T : ℕ → ℕ → ℝ, ∑ r ∈ range 64, R A T (k + 1) r i * R A T (k + 1) r j
          = ∑ r ∈ range 64, R A T k r i * R A T k r j - S A k j k / S A k k k * ∑ r ∈ range 64, R A T k r i * R A T k r k
            - S A k i k / S A k k k * ∑ r ∈ range 64, R A T k r j * R A T k r k
            + S A k i k / S A k k k * (S A k j k / S A k k k) * ∑ r ∈ range 64, R A T k r k * R A T k r k := by
        intro T
        simp only [Finset.mul_sum, ← Finset.sum_sub_distrib, ← Finset.sum_add_distrib]
        refine Finset.sum_congr rfl fun r _ => ?_
        simp only [R]; ring
      rw [ex, ex]
      have e1 := ih i hi j hj
      have e2 := ih i hi k (by omega)
      have e3 := ih j hj k (by omega)
      simp only [S]
      have : S A k i k * S A k j k / S A k k k = S A k j k / S A k k k * S A k i k + S A k i k / S A k k k * S A k j k
          - S A k i k / S A k k k * (S A k j k / S A k k k) * S A k k k := by field_simp; ring
      rw [this]
      linear_combination e1 - S A k j k / S A k k k * e2 - S A k i k / S A k k k * e3
        + S A k i k / S A k k k * (S A k j k / S A k k k) * hkk
  intro k hk
  rw [key k hk.le k hk k hk]
  refine add_pos_of_nonneg_of_pos (Finset.sum_nonneg fun r _ => mul_self_nonneg _) ?_
  refine Finset.sum_pos' (fun r _ => mul_self_nonneg _) ⟨k, by simp; omega, ?_⟩
  rw [hB k k k le_rfl le_rfl]; simp [B]; positivity

end Cert.Factor

end
-- ==== Proof.Read.lean ====
module

public import Idealize.ShloMosaic.Lib.MatmulPlain
public import Idealize.ShloMosaic.Lib.IdealHost
public import Idealize.ShloMosaic.Lib.ValueLayout
public import Idealize.ShloMosaic.Lib.ValueLayoutCasts
public import Idealize.ShloMosaic.Lib.KernelVsHost
public import Idealize.ShloMosaic.Lib.Pipeline.Value
public import Idealize.ShloMosaic.PureOps.Ideal.Laws

/-!
A matrix of extended reals read at row and column numbers, and each operation of the programs read so.
-/

@[expose] public section

noncomputable section

namespace Cert.Read

open Idealize.ShloMosaic Idealize.ShloMosaic.ValueIdx Finset

variable {a b c d : ℕ}

/-- A matrix's entry; zero outside it. -/
def el (A : (⟨2, ![a, b]⟩ : Shape).Idx → EReal) (i j : ℕ) : EReal := if h : i < a ∧ j < b then A (ix2 ⟨i, h.1⟩ ⟨j, h.2⟩) else 0

theorem el_of (A : (⟨2, ![a, b]⟩ : Shape).Idx → EReal) {i j : ℕ} (hi : i < a) (hj : j < b) : el A i j = A (ix2 ⟨i, hi⟩ ⟨j, hj⟩) :=
  dif_pos ⟨hi, hj⟩

/-- Two matrices with the same entries are the same. -/
theorem ext_el {A B : (⟨2, ![a, b]⟩ : Shape).Idx → EReal} (h : ∀ i j, i < a → j < b → el A i j = el B i j) : A = B := by
  funext x
  rw [eq_ix2 x]
  have := h (x 0).val (x 1).val (idx2_lt0 x) (idx2_lt1 x)
  rwa [el_of A (idx2_lt0 x) (idx2_lt1 x), el_of B (idx2_lt0 x) (idx2_lt1 x)] at this

theorem el_mulf (A B : FVec Ideal ⟨2, ![a, b]⟩ .f32) (i j : ℕ) : el (mulf A B) i j = el A i j * el B i j := by
  unfold el; split <;> [rfl; simp]
theorem el_addf (A B : FVec Ideal ⟨2, ![a, b]⟩ .f32) (i j : ℕ) : el (addf A B) i j = el A i j + el B i j := by
  unfold el; split <;> [rfl; simp]
theorem el_subf (A B : FVec Ideal ⟨2, ![a, b]⟩ .f32) (i j : ℕ) : el (subf A B) i j = el A i j - el B i j := by
  unfold el; split <;> [rfl; simp]
theorem el_maximumf (A B : FVec Ideal ⟨2, ![a, b]⟩ .f32) (i j : ℕ) : el (maximumf A B) i j = max (el A i j) (el B i j) := by
  unfold el; split <;> [rfl; simp]
theorem el_splat (x : Ideal .f32) {i j : ℕ} (hi : i < a) (hj : j < b) : el (broadcast (⟨2, ![a, b]⟩ : Shape) x) i j = x := el_of _ hi hj
theorem el_rsqrt (A : FVec Ideal ⟨2, ![a, b]⟩ .f32) {i j : ℕ} (hi : i < a) (hj : j < b) : el (rsqrt A) i j = Ideal.rsqrt (el A i j) := by
  rw [el_of _ hi hj, el_of _ hi hj]; rfl
theorem el_tanh (A : FVec Ideal ⟨2, ![a, b]⟩ .f32) {i j : ℕ} (hi : i < a) (hj : j < b) : el (tanh A) i j = Ideal.tanh (el A i j) := by
  rw [el_of _ hi hj, el_of _ hi hj]; rfl

/-- A block of a matrix. -/
theorem el_slice (o0 o1 : ℕ) (A : (⟨2, ![a, b]⟩ : Shape).Idx → EReal) (h : (⟨2, ![a, b]⟩ : Shape).Slices ![o0, o1] ⟨2, ![c, d]⟩) {i j : ℕ} (hi : i < c) (hj : j < d) :
    el (extractStridedSlice ⟨2, ![c, d]⟩ ![o0, o1] A h) i j = el A (o0 + i) (o1 + j) := by
  have h0 : o0 + c ≤ a := h.2 0
  have h1 : o1 + d ≤ b := h.2 1
  rw [el_of _ hi hj, el_of _ (show o0 + i < a by omega) (show o1 + j < b by omega)]
  refine extractStridedSlice_apply _ _ _ _ _ fun x => ?_
  match x with
  | ⟨0, _⟩ => rfl
  | ⟨1, _⟩ => rfl

theorem el_transpose (A : (⟨2, ![a, b]⟩ : Shape).Idx → EReal) (h : (⟨2, ![a, b]⟩ : Shape).Transposes [1, 0] ⟨2, ![b, a]⟩) (i j : ℕ) :
    el (transpose ⟨2, ![b, a]⟩ [1, 0] A h) i j = el A j i := by
  unfold el
  by_cases h' : i < b ∧ j < a
  · rw [dif_pos h', dif_pos h'.symm]; exact transpose_ix2_apply _ _ _ _
  · rw [dif_neg h', dif_neg (fun h => h' h.symm)]

/-- A column repeated. -/
theorem el_bcol (A : (⟨2, ![a, 1]⟩ : Shape).Idx → EReal) (h : (⟨2, ![a, 1]⟩ : Shape).Broadcasts ⟨2, ![a, b]⟩) {i j : ℕ} (hi : i < a) (hj : j < b) :
    el (broadcastTo ⟨2, ![a, b]⟩ A h) i j = el A i 0 := by
  rw [el_of _ hi hj, el_of _ hi Nat.one_pos]
  refine broadcastTo_apply _ _ _ _ fun x => ?_
  match x with
  | ⟨0, _⟩ =>
    show i = if a = 1 then 0 else i
    split <;> omega
  | ⟨1, _⟩ => rfl
/-- A row repeated. -/
theorem el_brow (A : (⟨2, ![1, b]⟩ : Shape).Idx → EReal) (h : (⟨2, ![1, b]⟩ : Shape).Broadcasts ⟨2, ![a, b]⟩) {i j : ℕ} (hi : i < a) (hj : j < b) :
    el (broadcastTo ⟨2, ![a, b]⟩ A h) i j = el A 0 j := by
  rw [el_of _ hi hj, el_of _ Nat.one_pos hj]
  exact broadcastTo_1b_ab_apply _ _ _ _

/-- A product accumulated into zero. -/
theorem el_matmul (A : FVec Ideal ⟨2, ![a, b]⟩ .f32) (B : FVec Ideal ⟨2, ![b, c]⟩ .f32) {i j : ℕ} (hi : i < a) (hj : j < c) :
    el (matmul (DotDims.plain a b c) none A B (constant ⟨2, ![a, c]⟩ .f32 0x00000000#32)) i j = ∑ k ∈ range b, el A i k * el B k j := by
  rw [el_of _ hi hj]
  show FloatOps.matmul _ _ _ _ _ _ = _
  rw [Ideal.matmul_plain_apply, constant_apply, Ideal.ofBits_zero_f32, zero_add, Finset.sum_range]
  exact Finset.sum_congr rfl fun k _ => by rw [el_of _ hi k.isLt, el_of _ k.isLt hj]

/-- Eight columns side by side. -/
theorem el_concat (K : ℕ) (f : Fin 8 → FVec Ideal ⟨2, ![a, K]⟩ .f32) (h : Shape.Concatenates ((List.ofFn fun n : Fin 8 => (⟨⟨2, ![a, K]⟩, f n⟩ : (s : Shape) × (s.Idx → EReal))).map (·.1)) ⟨2, ![a, d]⟩ 1)
    {i j : ℕ} (n : Fin 8) (hi : i < a) (hj : j < K) (hd : n.val * K + j < d) :
    el (concatenate (⟨2, ![a, d]⟩ : Shape) 1 (List.ofFn fun n : Fin 8 => (⟨⟨2, ![a, K]⟩, f n⟩ : (s : Shape) × (s.Idx → EReal))) h) i (n.val * K + j) = el (f n) i j := by
  rw [el_of _ hi hd, el_of _ hi hj]
  refine concatenate_ofFn_apply 1 f h rfl K rfl _ n ?_ _ ?_ ?_
  · show (n.val * K + j) / K = n.val
    rw [mul_comm, Nat.mul_add_div (by omega), Nat.div_eq_of_lt hj]; omega
  · show j = (n.val * K + j) % K
    rw [mul_comm, Nat.mul_add_mod, Nat.mod_eq_of_lt hj]
  · intro x hx
    match x with
    | ⟨0, _⟩ => rfl
    | ⟨1, _⟩ => exact absurd rfl hx

theorem coe_sum {ι : Type} (s : Finset ι) (f : ι → ℝ) : ∑ i ∈ s, (f i : EReal) = ((∑ i ∈ s, f i : ℝ) : EReal) := by
  classical
  induction s using Finset.induction_on with
  | empty => simp
  | insert x s hx ih => rw [Finset.sum_insert hx, Finset.sum_insert hx, ih, EReal.coe_add]

theorem coe_dot {n : ℕ} {f g : ℕ → EReal} (f' g' : ℕ → ℝ) (hf : ∀ k < n, f k = f' k) (hg : ∀ k < n, g k = g' k) :
    ∑ k ∈ range n, f k * g k = ((∑ k ∈ range n, f' k * g' k : ℝ) : EReal) := by
  rw [← coe_sum]
  exact Finset.sum_congr rfl fun k hk => by rw [hf k (mem_range.1 hk), hg k (mem_range.1 hk), EReal.coe_mul]

theorem rsqrt_coe {x : ℝ} (h : 0 < x) : Ideal.rsqrt (x : EReal) = ((1 / Real.sqrt x : ℝ) : EReal) := by
  show (if x < 0 then ⊥ else if x = 0 then ⊤ else (((Real.sqrt x)⁻¹ : ℝ) : EReal)) = _
  rw [if_neg h.not_gt, if_neg h.ne', one_div]
theorem sqrt_coe {x : ℝ} (h : 0 < x) : Ideal.sqrt (x : EReal) = (Real.sqrt x : EReal) := by
  show (if x < 0 then ⊥ else (Real.sqrt x : EReal)) = _
  rw [if_neg h.not_gt]

theorem ofBits_one : Ideal.ofBits .f32 0x3F800000#32 = 1 := by
  simp [Ideal.ofBits, Ideal.ieee, -EReal.coe_mul]; norm_num

end Cert.Read

end
-- ==== Proof.Solve.lean ====
module

public import proofs.«01_k».proof.Proof.Ortho
public import proofs.«01_k».proof.Proof.Factor
public import proofs.«01_k».proof.Proof.Read
public import Idealize.ShloMosaic.Lib.Pointwise.Contract

/-!
What the kernel's factorisation and solve compute of a real matrix: the matrix times the transposed inverse of the
factor of its Gram matrix.
-/

@[expose] public section

set_option maxRecDepth 65536

noncomputable section

namespace Cert.Solve

open Idealize.ShloMosaic Idealize.ShloMosaic.ValueIdx Cert.KernelIdeal Cert.Ortho Cert.Read Finset
open Cert.Factor (S D L X)

/-! ## Pieces of a matrix -/

theorem el_pan (A : FVec Ideal S64x64 .f32) {p i j : ℕ} (hp : p < 8) (hi : i < 64) (hj : j < 8) : el (pan A (8 * p)) i j = el A i (8 * p + j) := by
  unfold pan; rw [dif_pos (show 8 * p + 8 ≤ 64 by omega), el_slice _ _ _ _ hi hj, zero_add]
theorem el_col (A : FVec Ideal S64x64 .f32) {c i : ℕ} (hc : c < 64) (hi : i < 64) : el (col A c) i 0 = el A i c := by
  unfold col; rw [dif_pos (show c + 1 ≤ 64 by omega), el_slice _ _ _ _ hi Nat.one_pos, zero_add]; rfl
theorem el_ent (A : FVec Ideal S64x64 .f32) {r c : ℕ} (hr : r < 64) (hc : c < 64) : el (ent A r c) 0 0 = el A r c := by
  unfold ent; rw [dif_pos (show r + 1 ≤ 64 ∧ c + 1 ≤ 64 by omega), el_slice _ _ _ _ Nat.one_pos Nat.one_pos]; rfl
theorem el_pcol (A : FVec Ideal S64x8 .f32) {j i : ℕ} (hj : j < 8) (hi : i < 64) : el (pcol A j) i 0 = el A i j := by
  unfold pcol; rw [dif_pos (show j + 1 ≤ 8 by omega), el_slice _ _ _ _ hi Nat.one_pos, zero_add]; rfl
theorem el_prow (A : FVec Ideal S64x8 .f32) {r j : ℕ} (hr : r < 64) (hj : j < 8) : el (prow A r) 0 j = el A r j := by
  unfold prow; rw [dif_pos (show r + 1 ≤ 64 by omega), el_slice _ _ _ _ Nat.one_pos hj, zero_add]; rfl
theorem el_pent (A : FVec Ideal S64x8 .f32) {r j : ℕ} (hr : r < 64) (hj : j < 8) : el (pent A r j) 0 0 = el A r j := by
  unfold pent; rw [dif_pos (show r + 1 ≤ 64 ∧ j + 1 ≤ 8 by omega), el_slice _ _ _ _ Nat.one_pos Nat.one_pos]; rfl

theorem el_glue (f : ℕ → FVec Ideal S64x1 .f32) {i j : ℕ} (hi : i < 64) (hj : j < 8) :
    el (glue (f 0) (f 1) (f 2) (f 3) (f 4) (f 5) (f 6) (f 7)) i j = el (f j) i 0 := by
  have := el_concat (a := 64) (d := 8) 1 (fun n => f n) Facts₀.concatenates_S64x1_S64x1_S64x1_S64x1_S64x1_S64x1_S64x1_S64x1_S64x8_d1 (j := 0) ⟨j, hj⟩ hi Nat.one_pos (by simpa using hj)
  simp only [mul_one, add_zero] at this
  exact this
theorem el_gluePan (f : ℕ → FVec Ideal S64x8 .f32) {i p j : ℕ} (hi : i < 64) (hp : p < 8) (hj : j < 8) :
    el (gluePan (f 0) (f 1) (f 2) (f 3) (f 4) (f 5) (f 6) (f 7)) i (8 * p + j) = el (f p) i j := by
  have := el_concat (a := 64) (d := 64) 8 (fun n => f n) Facts₀.concatenates_S64x8_S64x8_S64x8_S64x8_S64x8_S64x8_S64x8_S64x8_S64x64_d1 (j := j) ⟨p, hp⟩ hi hj (by simp; omega)
  rw [mul_comm]; exact this

/-! ## Masks -/

theorem rowI_at (k : S64x1.Idx) : rowI k = BitVec.ofNat 32 (k 0).val := iota_single_apply ..
theorem laneI_at (k : S1x64.Idx) : laneI k = BitVec.ofNat 32 (k 1).val := iota_single_apply ..
theorem lane8I_at (k : S1x8.Idx) : lane8I k = BitVec.ofNat 32 (k 1).val := iota_single_apply ..
theorem row8I_at (k : S8x1.Idx) : row8I k = BitVec.ofNat 32 (k 0).val := iota_single_apply ..

theorem sge_word : ∀ i c : Fin 64, IntOp.cmpi .sge (BitVec.ofNat 32 i) (BitVec.ofNat 32 c) = if c ≤ i then 1#1 else 0#1 := by decide +kernel
theorem sgt_word : ∀ i c : Fin 64, IntOp.cmpi .sgt (BitVec.ofNat 32 i) (BitVec.ofNat 32 c) = if c < i then 1#1 else 0#1 := by decide +kernel
theorem eq_word : ∀ i c : Fin 64, IntOp.cmpi .eq (BitVec.ofNat 32 i) (BitVec.ofNat 32 c) = if i = c then 1#1 else 0#1 := by decide +kernel

theorem el_geM {i c : ℕ} (hi : i < 64) (hc : c < 64) : el (geM (F := Ideal) c) i 0 = if c ≤ i then 1 else 0 := by
  rw [el_of _ hi Nat.one_pos]
  show Scalar.select (IntOp.cmpi .sge (rowI _) (BitVec.ofNat 32 c)) (Ideal.ofBits .f32 0x3F800000#32) (Ideal.ofBits .f32 0x00000000#32) = _
  rw [rowI_at, show IntOp.cmpi .sge (BitVec.ofNat 32 i) (BitVec.ofNat 32 c) = if c ≤ i then 1#1 else 0#1 from sge_word ⟨i, hi⟩ ⟨c, hc⟩, ofBits_one, Ideal.ofBits_zero_f32]
  split <;> rfl
theorem el_gtM {i c : ℕ} (hi : i < 64) (hc : c < 64) : el (gtM (F := Ideal) c) i 0 = if c < i then 1 else 0 := by
  rw [el_of _ hi Nat.one_pos]
  show Scalar.select (IntOp.cmpi .sgt (rowI _) (BitVec.ofNat 32 c)) (Ideal.ofBits .f32 0x3F800000#32) (Ideal.ofBits .f32 0x00000000#32) = _
  rw [rowI_at, show IntOp.cmpi .sgt (BitVec.ofNat 32 i) (BitVec.ofNat 32 c) = if c < i then 1#1 else 0#1 from sgt_word ⟨i, hi⟩ ⟨c, hc⟩, ofBits_one, Ideal.ofBits_zero_f32]
  split <;> rfl
theorem el_gtL {i c : ℕ} (hi : i < 8) (hc : c < 8) : el (gtL (F := Ideal) c) 0 i = if c < i then 1 else 0 := by
  rw [el_of _ Nat.one_pos hi]
  show Scalar.select (IntOp.cmpi .sgt (lane8I _) (BitVec.ofNat 32 c)) (Ideal.ofBits .f32 0x3F800000#32) (Ideal.ofBits .f32 0x00000000#32) = _
  rw [lane8I_at, show IntOp.cmpi .sgt (BitVec.ofNat 32 i) (BitVec.ofNat 32 c) = if c < i then 1#1 else 0#1 from sgt_word ⟨i, by omega⟩ ⟨c, by omega⟩, ofBits_one, Ideal.ofBits_zero_f32]
  split <;> rfl

theorem toFloat_bit (P : Prop) [Decidable P] : (FloatOps.sitofp .f32 ((if P then 1#1 else 0#1 : BitVec 1).setWidth 32) : Ideal .f32) = if P then 1 else 0 := by
  split
  · show (((1 : BitVec 32).toInt : ℝ) : EReal) = 1
    rw [show (1 : BitVec 32).toInt = 1 by decide]; norm_num
  · show (((0 : BitVec 32).toInt : ℝ) : EReal) = 0
    rw [show (0 : BitVec 32).toInt = 0 by decide]; norm_num

theorem el_eye {i j : ℕ} (hi : i < 64) (hj : j < 64) : el (eye (F := Ideal)) i j = if i = j then 1 else 0 := by
  rw [el_of _ hi hj]
  show FloatOps.sitofp .f32 ((IntOp.cmpi .eq (broadcastTo S64x64 rowI Facts₀.broadcasts_S64x1_S64x64 (ValueIdx.ix2 ⟨i, hi⟩ ⟨j, hj⟩)) (broadcastTo S64x64 laneI Facts₀.broadcasts_S1x64_S64x64 (ValueIdx.ix2 ⟨i, hi⟩ ⟨j, hj⟩))).setWidth 32) = _
  rw [show broadcastTo S64x64 rowI Facts₀.broadcasts_S64x1_S64x64 (ValueIdx.ix2 ⟨i, hi⟩ ⟨j, hj⟩) = BitVec.ofNat 32 i from (rowI_at _).trans rfl,
    show broadcastTo S64x64 laneI Facts₀.broadcasts_S1x64_S64x64 (ValueIdx.ix2 ⟨i, hi⟩ ⟨j, hj⟩) = BitVec.ofNat 32 j from (laneI_at _).trans rfl,
    eq_word ⟨i, hi⟩ ⟨j, hj⟩, toFloat_bit]
  simp only [Fin.mk.injEq]

theorem el_sel {p q j : ℕ} (hp : p < 8) (hq : q < 8) (hj : j < 64) : el (sel (F := Ideal) (8 * p)) q j = if j = 8 * p + q then 1 else 0 := by
  rw [el_of _ hq hj]
  show FloatOps.sitofp .f32 ((IntOp.cmpi .eq (broadcastTo S8x64 laneI Facts₀.broadcasts_S1x64_S8x64 (ValueIdx.ix2 ⟨q, hq⟩ ⟨j, hj⟩))
    (broadcastTo S8x64 (addi row8I (broadcast S8x1 (BitVec.ofNat 32 (8 * p)))) Facts₀.broadcasts_S8x1_S8x64 (ValueIdx.ix2 ⟨q, hq⟩ ⟨j, hj⟩))).setWidth 32) = _
  rw [show broadcastTo S8x64 laneI Facts₀.broadcasts_S1x64_S8x64 (ValueIdx.ix2 ⟨q, hq⟩ ⟨j, hj⟩) = BitVec.ofNat 32 j from (laneI_at _).trans rfl,
    show broadcastTo S8x64 (addi row8I (broadcast S8x1 (BitVec.ofNat 32 (8 * p)))) Facts₀.broadcasts_S8x1_S8x64 (ValueIdx.ix2 ⟨q, hq⟩ ⟨j, hj⟩)
      = BitVec.ofNat 32 q + BitVec.ofNat 32 (8 * p) from congrArg (· + _) ((row8I_at _).trans rfl), ← BitVec.ofNat_add, add_comm q,
    eq_word ⟨j, hj⟩ ⟨8 * p + q, by omega⟩, toFloat_bit]
  simp only [Fin.mk.injEq]

/-! ## The Gram matrix -/

/-- The number the program adds on the Gram matrix's diagonal. -/
def eps : ℝ := 13743895 / 2 ^ 37

theorem eps_pos : 0 < eps := by unfold eps; positivity

theorem ofBits_eps : Ideal.ofBits .f32 0x38D1B717#32 = (eps : EReal) := by
  unfold eps; simp [Ideal.ofBits, Ideal.ieee, -EReal.coe_mul]; norm_num

/-- The Gram matrix of a real matrix. -/
def G (w : ℕ → ℕ → ℝ) (i j : ℕ) : ℝ := (∑ r ∈ range 64, w r i * w r j) + if i = j then eps else 0

theorem G_symm (w : ℕ → ℕ → ℝ) (i j : ℕ) : G w i j = G w j i := by
  unfold G; simp only [mul_comm, eq_comm]

theorem G_pos (w : ℕ → ℕ → ℝ) : ∀ k < 64, 0 < S (G w) k k k := Cert.Factor.pos_of eps_pos fun _ _ => rfl

theorem coe_ite (P : Prop) [Decidable P] (x y : ℝ) : (((if P then x else y : ℝ)) : EReal) = if P then (x : EReal) else (y : EReal) := by split <;> rfl

/-- The entries of a matrix are the real numbers `w`. -/
def Reads (W : FVec Ideal S64x64 .f32) (w : ℕ → ℕ → ℝ) : Prop := ∀ i j, i < 64 → j < 64 → el W i j = (w i j : EReal)

theorem el_gramdot (A B : FVec Ideal S64x64 .f32) {i j : ℕ} (hi : i < 64) (hj : j < 64) :
    el (matmul dot_S64x64_S64x64_S64x64_0_0_1_1_n_n none A B (constant S64x64 .f32 0x00000000#32)) i j = ∑ k ∈ range 64, el A k i * el B k j := by
  rw [el_of _ hi hj]
  show Ideal.matmul _ _ _ _ _ = _
  rw [Idealize.ShloMosaic.Ideal.matmul_apply₁_of (K := 64) dot_S64x64_S64x64_S64x64_0_0_1_1_n_n rfl rfl A B _ _ (fun k => ValueIdx.ix2 k ⟨i, hi⟩) (fun k => ValueIdx.ix2 k ⟨j, hj⟩)
    (fun k => by rw [Shape.Idx.norm_def]; funext x; match x with | ⟨0, _⟩ => rfl | ⟨1, _⟩ => rfl)
    (fun k => by rw [Shape.Idx.norm_def]; funext x; match x with | ⟨0, _⟩ => rfl | ⟨1, _⟩ => rfl),
    constant_apply, Ideal.ofBits_zero_f32, zero_add, Finset.sum_range]
  exact Finset.sum_congr rfl fun k _ => by rw [el_of _ k.isLt hi, el_of _ k.isLt hj]

theorem el_gram {W : FVec Ideal S64x64 .f32} {w : ℕ → ℕ → ℝ} (hW : Reads W w) {i j : ℕ} (hi : i < 64) (hj : j < 64) :
    el (gram W) i j = (G w i j : EReal) := by
  unfold gram G
  rw [el_addf, el_gramdot _ _ hi hj, el_mulf, el_splat _ hi hj, el_eye hi hj, coe_dot (fun k => w k i) (fun k => w k j)
    (fun k hk => hW k i hk hi) (fun k hk => hW k j hk hj), show (Scalar.ofBits .f32 0x38D1B717#32 : Ideal .f32) = (eps : EReal) from ofBits_eps, EReal.coe_add, coe_ite]
  split <;> simp

/-! ## The factor -/

section
variable {A : ℕ → ℕ → ℝ} (hA : ∀ i j, A i j = A j i) (hS : ∀ k < 64, 0 < S A k k k)

theorem el_rinv {B : FVec Ideal S64x8 .f32} {p j : ℕ} (hp : p < 8) (hj : j < 8) (hS : ∀ k < 64, 0 < S A k k k)
    (h : el B (8 * p + j) j = (S A (8 * p + j) (8 * p + j) (8 * p + j) : EReal)) :
    el (rinv p j B) 0 0 = ((1 / D A (8 * p + j) : ℝ) : EReal) := by
  unfold rinv
  rw [el_rsqrt _ Nat.one_pos Nat.one_pos, el_pent _ (by omega) hj, h, rsqrt_coe (hS _ (by omega))]; rfl

include hA hS in
theorem el_panAt {B : FVec Ideal S64x64 .f32} {p : ℕ} (hp : p < 8)
    (hB : ∀ i j, 8 * p ≤ i → 8 * p ≤ j → i < 64 → j < 64 → el B i j = (S A (8 * p) i j : EReal)) {j : ℕ} :
    j ≤ 8 → ∀ i j', 8 * p + j ≤ i → i < 64 → j ≤ j' → j' < 8 → el (panAt p B j) i j' = (S A (8 * p + j) i (8 * p + j') : EReal) := by
  induction j with
  | zero =>
    intro _ i j' hi hi' _ hj'
    rw [panAt_zero, el_pan _ hp hi' hj', hB _ _ (by omega) (by omega) hi' (by omega)]; rfl
  | succ j ih =>
    intro hj i j' hi hi' hjj hj'
    have ih := ih (by omega)
    have hs := hS (8 * p + j) (by omega)
    have hr := el_rinv (B := panAt p B j) hp (show j < 8 by omega) hS (ih _ _ le_rfl (by omega) le_rfl (by omega))
    unfold upd at *
    rw [panAt_succ, el_subf, ih i j' (by omega) hi' (by omega) hj']
    unfold upd
    rw [el_mulf, el_bcol _ _ hi' hj', el_brow _ _ hi' hj', el_mulf, el_mulf, el_mulf, el_bcol _ _ Nat.one_pos hj', el_mulf,
      el_pcol _ (by omega) hi', el_prow _ (by omega) hj', el_gtM hi' (by omega), el_gtL hj' (by omega), hr, if_pos (by omega), if_pos (by omega),
      ih i j (by omega) hi' le_rfl (by omega), ih (8 * p + j) j' le_rfl (by omega) (by omega) hj', mul_one, mul_one,
      ← EReal.coe_mul, ← EReal.coe_mul, ← EReal.coe_mul, ← EReal.coe_sub]
    congr 1
    have hd := D_mul' hs
    show _ = S A (8 * p + j) i (8 * p + j') - S A (8 * p + j) i (8 * p + j) * S A (8 * p + j) (8 * p + j') (8 * p + j) / S A (8 * p + j) (8 * p + j) (8 * p + j)
    rw [Cert.Factor.S_symm hA (8 * p + j) (8 * p + j) (8 * p + j'), ← hd]
    have := (Cert.Factor.D_pos hs).ne'
    field_simp
where D_mul' {k : ℕ} (h : 0 < S A k k k) : D A k * D A k = S A k k k := Cert.Factor.D_mul h

include hA hS in
theorem el_lpan {B : FVec Ideal S64x64 .f32} {p : ℕ} (hp : p < 8)
    (hB : ∀ i j, 8 * p ≤ i → 8 * p ≤ j → i < 64 → j < 64 → el B i j = (S A (8 * p) i j : EReal)) {i j : ℕ} (hi : i < 64) (hj : j < 8) :
    el (lpan p B) i j = (L A i (8 * p + j) : EReal) := by
  refine (el_glue (fun j => lcol p j (panAt p B j)) hi hj).trans ?_
  have hr := el_rinv (B := panAt p B j) hp hj hS (el_panAt hA hS hp hB hj.le _ _ le_rfl (by omega) le_rfl hj)
  unfold lcol L
  rw [el_mulf, el_mulf, el_geM hi (by omega)]
  split
  · rename_i h
    rw [el_brow _ _ hi Nat.one_pos, hr, el_pcol _ hj hi, el_panAt hA hS hp hB hj.le _ _ h hi le_rfl hj, mul_one, ← EReal.coe_mul, mul_one_div]
  · rw [mul_zero]; rfl
end

variable {W : FVec Ideal S64x64 .f32} {w : ℕ → ℕ → ℝ} (hW : Reads W w)

include hW in
theorem el_left {p : ℕ} : p < 8 → ∀ i j, 8 * p ≤ i → 8 * p ≤ j → i < 64 → j < 64 → el (left W p) i j = (S (G w) (8 * p) i j : EReal) := by
  induction p with
  | zero =>
    intro _ i j _ _ hi hj
    rw [left_zero, el_gram hW hi hj]; rfl
  | succ p ih =>
    intro hp i j hi hj hi' hj'
    have ih := ih (by omega)
    have hl := fun (i : ℕ) (hi : i < 64) (k : ℕ) (hk : k < 8) => el_lpan (G_symm w) (G_pos w) (show p < 8 by omega) ih hi hk
    rw [left_succ, el_subf, show dot_S64x8_S8x64_S64x64_1_0_0_1_n_n = DotDims.plain 64 8 64 from rfl, el_matmul _ _ hi' hj',
      coe_dot (fun k => L (G w) i (8 * p + k)) (fun k => L (G w) j (8 * p + k)) (hl i hi') (fun k hk => by rw [el_transpose, hl j hj' k hk]),
      ih i j (by omega) (by omega) hi' hj', ← EReal.coe_sub, ← Cert.Factor.S_add (G_pos w) 8 (by omega) (by omega) (by omega)]
    rfl

include hW in
theorem el_fac {i c : ℕ} (hi : i < 64) (hc : c < 64) : el (fac W) i c = (L (G w) i c : EReal) := by
  have h := el_gluePan (fun p => lpan p (left W p)) hi (show c / 8 < 8 by omega) (Nat.mod_lt c (show 0 < 8 by decide))
  rw [Nat.div_add_mod] at h
  refine h.trans ((el_lpan (G_symm w) (G_pos w) (by omega) (el_left hW (by omega)) hi (by omega)).trans ?_)
  rw [Nat.div_add_mod]

include hW in
theorem el_recip {p j : ℕ} (hp : p < 8) (hj : j < 8) : el (recip W p j) 0 0 = ((1 / D (G w) (8 * p + j) : ℝ) : EReal) :=
  el_rinv hp hj (G_pos w) (el_panAt (G_symm w) (G_pos w) hp (el_left hW hp) hj.le _ _ le_rfl (by omega) le_rfl hj)

/-! ## The solve -/

include hW in
theorem el_acc8 {p : ℕ} (hp : p < 8) {Y : FVec Ideal S64x64 .f32}
    (hY : ∀ r q, r < 64 → q < 64 → el Y r q = ((if q < 8 * p then X (G w) w r q else 0 : ℝ) : EReal)) {r j : ℕ} (hr : r < 64) (hj : j < 8) :
    el (acc8 W p Y) r j = ((∑ q ∈ range (8 * p), X (G w) w r q * L (G w) (8 * p + j) q : ℝ) : EReal) := by
  unfold acc8
  rw [show dot_S64x64_S64x8_S64x8_1_0_0_1_n_n = DotDims.plain 64 64 8 from rfl, el_matmul _ _ hr hj,
    coe_dot (fun q => if q < 8 * p then X (G w) w r q else 0) (fun q => L (G w) (8 * p + j) q) (fun q hq => hY r q hr hq)
    (fun q hq => by rw [el_pan _ hp hq hj, el_transpose, el_fac hW (by omega) hq])]
  congr 1
  rw [← Finset.sum_subset (s₁ := range (8 * p)) (fun x hx => by rw [mem_range] at *; omega)
    (fun x _ hx => by rw [mem_range] at hx; rw [if_neg hx, zero_mul])]
  exact Finset.sum_congr rfl fun x hx => by rw [if_pos (mem_range.1 hx)]

include hW in
theorem el_accAt {p : ℕ} (hp : p < 8) {a : FVec Ideal S64x8 .f32} {r j : ℕ} (hr : r < 64) (hj : j < 8)
    (ha : el a r j = ((∑ q ∈ range (8 * p), X (G w) w r q * L (G w) (8 * p + j) q : ℝ) : EReal)) {x : ℕ → FVec Ideal S64x1 .f32} {i : ℕ} :
    i ≤ j → (∀ i' < i, el (x i') r 0 = (X (G w) w r (8 * p + i') : EReal)) →
      el (accAt (fac W) p j a x i) r 0 = ((∑ q ∈ range (8 * p + i), X (G w) w r q * L (G w) (8 * p + j) q : ℝ) : EReal) := by
  induction i with
  | zero => intro _ _; rw [accAt_zero, el_pcol _ hj hr, ha]; rfl
  | succ i ih =>
    intro hi hx
    rw [accAt_succ, el_addf, ih (by omega) (fun i' h => hx i' (by omega)), el_mulf, hx i (by omega), el_brow _ _ hr Nat.one_pos, el_ent _ (by omega) (by omega),
      el_fac hW (by omega) (by omega), ← EReal.coe_mul, ← EReal.coe_add, ← add_assoc, Finset.sum_range_succ]

include hW in
theorem el_xcol {p : ℕ} (hp : p < 8) {a : FVec Ideal S64x8 .f32} {r : ℕ} (hr : r < 64)
    (ha : ∀ j < 8, el a r j = ((∑ q ∈ range (8 * p), X (G w) w r q * L (G w) (8 * p + j) q : ℝ) : EReal)) (j : ℕ) :
    j < 8 → el (xcol W p j a (xs W p a j)) r 0 = (X (G w) w r (8 * p + j) : EReal) := by
  induction j using Nat.strong_induction_on with
  | _ j ih =>
    intro hj
    unfold xcol
    rw [el_mulf, el_subf, el_col _ (by omega) hr, hW _ _ hr (by omega), el_accAt hW hp hr hj (ha j hj) le_rfl
      (fun i hi => by rw [xs_eq _ _ _ hi, ih i hi (by omega)]), el_brow _ _ hr Nat.one_pos, el_recip hW hp hj, ← EReal.coe_sub, ← EReal.coe_mul,
      Cert.Factor.X_eq _ _ _ (show 8 * p + j < 64 by omega), mul_one_div]

theorem sum_pick (f : ℕ → ℝ) (p q : ℕ) : (∑ k ∈ range 8, f (8 * p + k) * if q = 8 * p + k then 1 else 0) = if 8 * p ≤ q ∧ q < 8 * p + 8 then f q else 0 := by
  split
  · rename_i h
    rw [Finset.sum_eq_single (q - 8 * p), if_pos (by omega), mul_one, Nat.add_sub_cancel' h.1]
    · intro k _ hk; rw [if_neg (by omega), mul_zero]
    · intro hk; exact absurd (mem_range.2 (by omega)) hk
  · exact Finset.sum_eq_zero fun k hk => by rw [mem_range] at hk; rw [if_neg (by omega), mul_zero]

include hW in
theorem el_sol {p : ℕ} : p ≤ 8 → ∀ r q, r < 64 → q < 64 → el (sol W p) r q = ((if q < 8 * p then X (G w) w r q else 0 : ℝ) : EReal) := by
  induction p with
  | zero =>
    intro _ r q hr hq
    rw [sol_zero, el_splat _ hr hq, if_neg (by omega)]
    exact Ideal.ofBits_zero_f32
  | succ p ih =>
    intro hp r q hr hq
    have ih := ih (by omega)
    have hx : ∀ j < 8, el (xpan W p (acc8 W p (sol W p))) r j = (X (G w) w r (8 * p + j) : EReal) := fun j hj => (el_glue (fun i => xs W p (acc8 W p (sol W p)) 8 i) hr hj).trans (by
      rw [xs_eq _ _ _ hj, el_xcol hW (by omega) hr (fun j hj => el_acc8 hW (by omega) ih hr hj) j hj])
    rw [sol_succ, el_addf, ih r q hr hq, show dot_S64x8_S8x64_S64x64_1_0_0_1_n_n = DotDims.plain 64 8 64 from rfl, el_matmul _ _ hr hq,
      coe_dot (fun k => X (G w) w r (8 * p + k)) (fun k => if q = 8 * p + k then 1 else 0) hx
      (fun k hk => by rw [el_sel (by omega) hk hq, coe_ite]; rfl), ← EReal.coe_add, sum_pick]
    congr 1
    by_cases h1 : q < 8 * p
    · rw [if_pos h1, if_neg (by omega), if_pos (by omega), add_zero]
    · by_cases h2 : q < 8 * p + 8
      · rw [if_neg h1, if_pos (by omega), if_pos (by omega), zero_add]
      · rw [if_neg h1, if_neg (by omega), if_neg (by omega), zero_add]

include hW in
/-- The matrix a layer multiplies by, of real weights. -/
theorem el_mix (θ θ' : ℝ) {r q : ℕ} (hr : r < 64) (hq : q < 64) :
    el (mix (F := Ideal) (θ : EReal) (θ' : EReal) W) r q = ((θ * X (G w) w r q + θ' * (if r = q then 1 else 0) : ℝ) : EReal) := by
  unfold mix
  rw [el_addf, el_mulf, el_mulf, el_splat _ hr hq, el_splat _ hr hq, el_sol hW le_rfl r q hr hq, if_pos (by omega), el_eye hr hq,
    EReal.coe_add, EReal.coe_mul, EReal.coe_mul, coe_ite]
  rfl

end Cert.Solve

end
-- ==== Proof.Spec.lean ====
module

public import proofs.«01_k».proof.Proof.Solve
public import Idealize.ShloMosaic.Lib.Pointwise

/-!
The network as formulas over the real numbers: what both programs are shown to compute.
-/

@[expose] public section

noncomputable section

namespace Cert.Spec

open Idealize.ShloMosaic

/-- The inputs: everything but the last linear layer is real. -/
structure Ins where
  x : Fin 2 → Fin 10000 → Fin 128 → ℝ
  adj : Fin 2 → Fin 10000 → Fin 10000 → ℝ
  cw : Fin 2 → ℕ → ℕ → ℝ
  fw : Fin 2 → Fin 64 → Fin 128 → ℝ
  fb : Fin 2 → Fin 64 → ℝ
  w : ℝ
  u : Fin 40 → Fin 64 → EReal
  v : Fin 40 → EReal

/-- A literal's real number. -/
def lit (b : BitVec 32) : ℝ := (Ideal.ofBits .f32 b).toReal

theorem lit_of {b : BitVec 32} {x : ℝ} (h : Ideal.ofBits .f32 b = (x : EReal)) : Ideal.ofBits .f32 b = (lit b : EReal) := by
  unfold lit; rw [h, EReal.toReal_coe]

theorem lit_a : Ideal.ofBits .f32 0x3ECF991F#32 = (lit 0x3ECF991F#32 : EReal) := lit_of (x := _) (by simp [Ideal.ofBits, Ideal.ieee, -EReal.coe_mul]; rfl)
theorem lit_b : Ideal.ofBits .f32 0x3F183370#32 = (lit 0x3F183370#32 : EReal) := lit_of (x := _) (by simp [Ideal.ofBits, Ideal.ieee, -EReal.coe_mul]; rfl)
theorem lit_c : Ideal.ofBits .f32 0x3E647FBE#32 = (lit 0x3E647FBE#32 : EReal) := lit_of (x := _) (by simp [Ideal.ofBits, Ideal.ieee, -EReal.coe_mul]; rfl)
theorem lit_d : Ideal.ofBits .f32 0x3F46E010#32 = (lit 0x3F46E010#32 : EReal) := lit_of (x := _) (by simp [Ideal.ofBits, Ideal.ieee, -EReal.coe_mul]; rfl)
theorem lit_e : Ideal.ofBits .f32 0x3F666666#32 = (lit 0x3F666666#32 : EReal) := lit_of (x := _) (by simp [Ideal.ofBits, Ideal.ieee, -EReal.coe_mul]; rfl)
theorem lit_f : Ideal.ofBits .f32 0x3DCCCCCD#32 = (lit 0x3DCCCCCD#32 : EReal) := lit_of (x := _) (by simp [Ideal.ofBits, Ideal.ieee, -EReal.coe_mul]; rfl)

/-- The first linear layer of branch `k`. -/
def feat (I : Ins) (k : Fin 2) (r : Fin 10000) (h : Fin 64) : ℝ := max ((∑ f, I.x k r f * I.fw k h f) + I.fb k h) 0

/-- The orthonormalised weights of a layer. -/
def ortho (I : Ins) (i : Fin 2) (q h : Fin 64) : ℝ := Cert.Factor.X (Cert.Solve.G (I.cw i)) (I.cw i) q h

/-- What a layer multiplies: the neighbours' rows and the branch's own features. -/
def sup {n : ℕ} (a : Fin n → Fin 10000 → ℝ) (ft : Fin n → Fin 64 → ℝ) (z : Fin 10000 → Fin 64 → ℝ) (r : Fin n) (q : Fin 64) : ℝ :=
  lit 0x3F666666#32 * (∑ m, a r m * z m q) + lit 0x3DCCCCCD#32 * ft r q

/-- A layer. -/
def conv {n : ℕ} (t t' : ℝ) (o : Fin 64 → Fin 64 → ℝ) (a : Fin n → Fin 10000 → ℝ) (ft : Fin n → Fin 64 → ℝ) (z : Fin 10000 → Fin 64 → ℝ) (r : Fin n) (h : Fin 64) : ℝ :=
  max (Real.tanh (t * (∑ q, sup a ft z r q * o q h) + t' * sup a ft z r h)) 0

/-- The two layers. -/
def layer0 {n : ℕ} (I : Ins) (a : Fin n → Fin 10000 → ℝ) (ft : Fin n → Fin 64 → ℝ) (z : Fin 10000 → Fin 64 → ℝ) (r : Fin n) (h : Fin 64) : ℝ :=
  conv (lit 0x3ECF991F#32) (lit 0x3F183370#32) (ortho I 0) a ft z r h
def layer1 {n : ℕ} (I : Ins) (a : Fin n → Fin 10000 → ℝ) (ft : Fin n → Fin 64 → ℝ) (z : Fin 10000 → Fin 64 → ℝ) (r : Fin n) (h : Fin 64) : ℝ :=
  conv (lit 0x3E647FBE#32) (lit 0x3F46E010#32) (ortho I 1) a ft z r h

/-- The first branch's two layers, and the second's with their inputs. -/
def f1 (I : Ins) : Fin 10000 → Fin 64 → ℝ := layer0 I (I.adj 0) (feat I 0) (feat I 0)
def f2 (I : Ins) : Fin 10000 → Fin 64 → ℝ := layer1 I (I.adj 0) (feat I 0) (f1 I)
def za (I : Ins) (r : Fin 10000) (h : Fin 64) : ℝ := I.w * feat I 1 r h + (1 - I.w) * f1 I r h
def f3 (I : Ins) : Fin 10000 → Fin 64 → ℝ := layer0 I (I.adj 1) (feat I 1) (za I)
def zb (I : Ins) (r : Fin 10000) (h : Fin 64) : ℝ := I.w * f3 I r h + (1 - I.w) * f2 I r h
def f4 (I : Ins) : Fin 10000 → Fin 64 → ℝ := layer1 I (I.adj 1) (feat I 1) (zb I)

/-- The scores of a branch. -/
def score (I : Ins) (p q : Fin 10000 → Fin 64 → ℝ) (r : Fin 10000) (c : Fin 40) : EReal := (∑ h, ((p r h : EReal) + (q r h : EReal)) * I.u c h) + I.v c
def score1 (I : Ins) : Fin 10000 → Fin 40 → EReal := score I (f1 I) (f2 I)
def score2 (I : Ins) : Fin 10000 → Fin 40 → EReal := score I (f3 I) (f4 I)

/-- The logarithm of the softmax of a row of scores. -/
def peak (z : Fin 40 → EReal) : EReal := Finset.univ.fold max (Ideal.ofBits .f32 0xFF800000#32) z
def logSoftmax (z : Fin 40 → EReal) (c : Fin 40) : EReal := z c - peak z - Ideal.log (∑ k, Ideal.exp (z k - peak z))

/-! ## Reading sums of reals -/

theorem coe_sumF {n : ℕ} (f : Fin n → ℝ) : ∑ k, (f k : EReal) = ((∑ k, f k : ℝ) : EReal) := Cert.Read.coe_sum _ _
theorem coe_max (x y : ℝ) : max (x : EReal) (y : EReal) = ((max x y : ℝ) : EReal) := (EReal.coe_strictMono.monotone.map_max).symm
theorem tanh_coe (x : ℝ) : Ideal.tanh (x : EReal) = (Real.tanh x : EReal) := rfl

/-- A layer in the form that multiplies by one matrix. -/
theorem conv_eq {n : ℕ} (t t' : ℝ) (o : Fin 64 → Fin 64 → ℝ) (a : Fin n → Fin 10000 → ℝ) (ft : Fin n → Fin 64 → ℝ) (z : Fin 10000 → Fin 64 → ℝ) (r : Fin n) (h : Fin 64) :
    max (Real.tanh (∑ q, sup a ft z r q * (t * o q h + t' * (if q.val = h.val then 1 else 0)))) 0 = conv t t' o a ft z r h := by
  unfold conv
  congr 2
  have : ∀ q : Fin 64, sup a ft z r q * (t * o q h + t' * (if q.val = h.val then 1 else 0)) = t * (sup a ft z r q * o q h) + (if q = h then t' * sup a ft z r q else 0) := fun q => by
    simp only [Fin.ext_iff]
    split <;> ring
  rw [Finset.sum_congr rfl fun q _ => this q, Finset.sum_add_distrib, ← Finset.mul_sum, Finset.sum_ite_eq' Finset.univ h, if_pos (Finset.mem_univ _)]

end Cert.Spec

end
-- ==== Proof.KerVals.lean ====
module

public import proofs.«01_k».proof.Proof.Spec
public import proofs.«01_k».proof.Proof.State

/-!
The entries of the kernel's blocks, as the formulas.
-/

@[expose] public section

set_option maxRecDepth 65536

noncomputable section

namespace Cert.KerVals

open Cert.KernelIdeal Cert.KernelIdeal.Gen Cert.Ortho Cert.Body Cert.Phases
open Idealize.ShloMosaic
open Cert.Spec

/-! ## The operations -/

section
variable (a : Vec Ideal S1x400x10000 .f32) (z : Vec Ideal S10000x64 .f32) (f : Vec Ideal S400x64 .f32) (o : Vec Ideal S1x64x64 .f32) (w : Ideal .f32) (p : Vec Ideal S400x64 .f32)
  (u : Vec Ideal S64x40 .f32) (v : Vec Ideal S1x40 .f32) (s t : FVec Ideal S400x40 .f32) (i : Fin 400) (h : Fin 64) (c : Fin 40)

/-- A layer's entry as the kernel computes it. -/
def lay (al al' : Ideal .f32) : EReal := max (Ideal.tanh (∑ q, (al * ∑ j, a (ix3 0 i j) * z (ix2 j q) + al' * f (ix2 i q)) * o (ix3 0 q h))) 0

theorem p846 : k1_pay846 a z f o (ix2 i h) = lay a z f o i h α α' := by
  unfold k1_pay846 lay; pointwise; rfl
theorem p847 : k1_pay847 a z f o (ix2 i h) = lay a z f o i h α α' := by
  rw [← p846]; unfold k1_pay847; pointwise
theorem p848 : k1_pay848 w a z f o p (ix2 i h) = w * p (ix2 i h) + (1 - w) * lay a z f o i h α α' := by
  rw [← p846]; unfold k1_pay848; pointwise
theorem p849 : k1_pay849 a z f o (ix2 i h) = lay a z f o i h α α' := by
  unfold k1_pay849 lay; pointwise; rfl
theorem p850 : k1_pay850 a z f o (ix2 i h) = lay a z f o i h α α' := by
  unfold k1_pay850 lay; pointwise; rfl
theorem p851 : k1_pay851 a z f o (ix2 i h) = lay a z f o i h α α' := by
  rw [← p850]; unfold k1_pay851; pointwise
theorem p852 : k1_pay852 w a z f o p (ix2 i h) = w * lay a z f o i h α α' + (1 - w) * p (ix2 i h) := by
  rw [← p850]; unfold k1_pay852; pointwise
theorem p836 : k1_pay836 f p u v (ix2 i c) = ∑ x, (f (ix2 i x) + p (ix2 i x)) * u (ix2 x c) + v (ix2 0 c) := by
  unfold k1_pay836 k1_pay834 k1_pay835; pointwise
theorem p837 (al al' : Ideal .f32) : k1_pay837 al al' a z f o p u v (ix2 i c) = ∑ x, (p (ix2 i x) + lay a z f o i x al al') * u (ix2 x c) + v (ix2 0 c) := by
  unfold k1_pay837 k1_pay834 k1_pay835 lay; pointwise
theorem p838 : k1_pay838 f p u v (ix2 i 0) = peak fun k => k1_pay836 f p u v (ix2 i k) := by
  unfold k1_pay838 peak; pointwise
theorem p839 (q : FVec Ideal S400x1 .f32) (hq : q (ix2 i 0) = peak fun k => s (ix2 i k)) : k1_pay839 s q (ix2 i c) = logSoftmax (fun k => s (ix2 i k)) c := by
  unfold k1_pay839 logSoftmax; pointwise; simp only [hq]
theorem p840 : k1_pay840 s (ix2 i c) = logSoftmax (fun k => s (ix2 i k)) c := by
  unfold k1_pay840 logSoftmax peak; pointwise
theorem p841 : k1_pay841 s t (ix2 i c) = logSoftmax (fun k => s (ix2 i k) + t (ix2 i k)) c := by
  unfold k1_pay841 logSoftmax peak; pointwise
theorem half : Ideal.ofBits .f32 0x3F000000#32 = ((1 / 2 : ℝ) : EReal) := by
  simp [Ideal.ofBits, Ideal.ieee, -EReal.coe_mul]; norm_num
theorem p842 (q : FVec Ideal S400x1 .f32) (hq : q (ix2 i 0) = peak fun k => s (ix2 i k)) :
    k1_pay842 s t q (ix2 i c) = (logSoftmax (fun k => s (ix2 i k)) c + logSoftmax (fun k => t (ix2 i k)) c) * ((1 / 2 : ℝ) : EReal) := by
  rw [← p839 s i c q hq, ← p840 t i c, mul_comm, ← half]; unfold k1_pay842; pointwise
theorem p843 (q : FVec Ideal S400x1 .f32) (hq : q (ix2 i 0) = peak fun k => s (ix2 i k)) : k1_pay843 s q (ix3 0 i c) = logSoftmax (fun k => s (ix2 i k)) c := by
  rw [← p839 s i c q hq]; unfold k1_pay843; pointwise
theorem p844 : k1_pay844 s (ix3 0 i c) = logSoftmax (fun k => s (ix2 i k)) c := by
  rw [← p840]; unfold k1_pay844; pointwise
end

/-! ## The windows -/

open Idealize.ShloMosaic.VecWindow Cert.State

/-- Row `i` of block `m`. -/
def row (m : Fin 25) (i : Fin 400) : Fin 10000 := ⟨400 * m.val + i.val, by omega⟩
/-- Column `h` of the left half and of the right half. -/
def left (h : Fin 64) : Fin 128 := ⟨h.val, by omega⟩
def right (h : Fin 64) : Fin 128 := ⟨64 + h.val, by omega⟩

theorem all1_at (X : Vec Ideal S1x400x10000 .f32) (i : Fin 400) (j : Fin 10000) : all1 X (ix3 0 i j) = X (ix3 0 i j) :=
  congrArg X (funext fun a => Fin.ext (by
    match a with
    | 0 => rfl
    | 1 => show 0 + 1 * i.val = i.val; omega
    | 2 => show 0 + 1 * j.val = j.val; omega))
theorem all4_at (X : Vec Ideal S64x40 .f32) (h : Fin 64) (c : Fin 40) : all4 X (ix2 h c) = X (ix2 h c) :=
  congrArg X (funext fun a => Fin.ext (by
    match a with
    | 0 => show 0 + 1 * h.val = h.val; omega
    | 1 => show 0 + 1 * c.val = c.val; omega))
theorem all5_at (X : Vec Ideal S1x40 .f32) (c : Fin 40) : all5 X (ix2 0 c) = X (ix2 0 c) :=
  congrArg X (funext fun a => Fin.ext (by
    match a with
    | 0 => rfl
    | 1 => show 0 + 1 * c.val = c.val; omega))
theorem low_at (X : Vec Ideal S10000x128 .f32) (r : Fin 10000) (h : Fin 64) : low X (ix2 r h) = X (ix2 r (left h)) :=
  congrArg X (funext fun a => Fin.ext (by
    match a with
    | 0 => show 0 + 1 * r.val = r.val; omega
    | 1 => show 0 + 1 * h.val = h.val; omega))
theorem lo_at (X : Vec Ideal S10000x128 .f32) (m : Fin 25) (i : Fin 400) (h : Fin 64) : lo X m (ix2 i h) = X (ix2 (row m i) (left h)) :=
  congrArg X (funext fun a => Fin.ext (by
    match a with
    | 0 => show 400 * m.val + 1 * i.val = 400 * m.val + i.val; omega
    | 1 => show 0 + 1 * h.val = h.val; omega))
theorem hi_at (X : Vec Ideal S10000x128 .f32) (m : Fin 25) (i : Fin 400) (h : Fin 64) : hi X m (ix2 i h) = X (ix2 (row m i) (right h)) :=
  congrArg X (funext fun a => Fin.ext (by
    match a with
    | 0 => show 400 * m.val + 1 * i.val = 400 * m.val + i.val; omega
    | 1 => show 64 + 1 * h.val = 64 + h.val; omega))
theorem tall_at (B : Fin 25 → Vec Ideal S400x64 .f32) (g : Fin 10000 → Fin 64 → ℝ) (hB : ∀ m i h, B m (ix2 i h) = (g (row m i) h : EReal)) (r : Fin 10000) (h : Fin 64) :
    tall B (ix2 r h) = (g r h : EReal) := by
  have hr : r.val / 400 < 25 := by omega
  have e : row ⟨r.val / 400, hr⟩ ⟨r.val % 400, Nat.mod_lt _ (by omega)⟩ = r := Fin.ext (by show 400 * (r.val / 400) + r.val % 400 = r.val; omega)
  have := hB ⟨r.val / 400, hr⟩ ⟨r.val % 400, Nat.mod_lt _ (by omega)⟩ h
  rw [e] at this
  refine Eq.trans (congrArg (B ⟨r.val / 400, hr⟩) (funext fun a => Fin.ext ?_)) this
  match a with
  | 0 => rfl
  | 1 => rfl

theorem first_eq (W : Vec Ideal S2x64x64 .f32) : first W = mixSlab θ0 θ0' (slabOf0 W) := by
  unfold first
  exact (window_put_of_disjoint (s := S2x64x64) _ _ _ _ _ _ _ (0 : Fin 3) (.inl (by show 0 + 1 ≤ 1; omega))).trans (window_put_same (s := S2x64x64) _ _ _ _ _)
theorem second_eq (W : Vec Ideal S2x64x64 .f32) : second W = mixSlab θ1 θ1' (slabOf1 W) := by
  unfold second
  exact window_put_same (s := S2x64x64) _ _ _ _ _

theorem pair_left (a b : Vec Ideal S1x400x40 .f32) (i : Fin 400) (c : Fin 40) : pair a b (ix3 0 i c) = a (ix3 0 i c) := by
  have e := congrFun ((window_put_of_disjoint (s := S2x400x40) (put (s := S2x400x40) (fun _ => θ0 (F := Ideal)) ![0, 0, 0] S1x400x40.size a) ![1, 0, 0] S1x400x40.size ![0, 0, 0] S1x400x40.size
    (inb_S2x400x40_S1x400x40_0_0_0) b (0 : Fin 3) (.inl (by show 0 + 1 ≤ 1; omega))).trans (window_put_same (s := S2x400x40) _ _ _ _ _)) (ix3 0 i c)
  refine Eq.trans (congrArg (pair a b) (funext fun x => Fin.ext ?_)) e
  match x with
  | 0 => rfl
  | 1 => show i.val = 0 + 1 * i.val; omega
  | 2 => show c.val = 0 + 1 * c.val; omega
theorem pair_right (a b : Vec Ideal S1x400x40 .f32) (i : Fin 400) (c : Fin 40) : pair a b (ix3 1 i c) = b (ix3 0 i c) := by
  have e := congrFun (window_put_same (s := S2x400x40) (put (s := S2x400x40) (fun _ => θ0 (F := Ideal)) ![0, 0, 0] S1x400x40.size a) ![1, 0, 0] S1x400x40.size
    (inb_S2x400x40_S1x400x40_1_0_0) b) (ix3 0 i c)
  refine Eq.trans (congrArg (pair a b) (funext fun x => Fin.ext ?_)) e
  match x with
  | 0 => rfl
  | 1 => show i.val = 0 + 1 * i.val; omega
  | 2 => show c.val = 0 + 1 * c.val; omega

/-! ## The weights -/

theorem mixSlab_at (t t' : ℝ) (v : Vec Ideal S1x64x64 .f32) (w : ℕ → ℕ → ℝ) (hv : ∀ i j : Fin 64, v (ix3 0 i j) = (w i j : EReal)) (q h : Fin 64) :
    mixSlab (F := Ideal) (t : EReal) (t' : EReal) v (ix3 0 q h) = ((t * Cert.Factor.X (Cert.Solve.G w) w q h + t' * (if q.val = h.val then 1 else 0) : ℝ) : EReal) := by
  have hW : Cert.Solve.Reads (shapeCast S64x64 v shapeCasts_S1x64x64_S64x64) w := fun i j hi hj => by
    rw [Cert.Read.el_of _ hi hj, ← hv ⟨i, hi⟩ ⟨j, hj⟩]
    pointwise
  rw [← Cert.Solve.el_mix hW t t' q.isLt h.isLt, Cert.Read.el_of _ q.isLt h.isLt]
  unfold mixSlab
  pointwise
  rfl

/-- A layer's entry over real operands. -/
theorem lay_real {a : Vec Ideal S1x400x10000 .f32} {z : Vec Ideal S10000x64 .f32} {f : Vec Ideal S400x64 .f32} {o : Vec Ideal S1x64x64 .f32} {i : Fin 400} {r : Fin 10000}
    {ad : Fin 10000 → Fin 10000 → ℝ} {ft s : Fin 10000 → Fin 64 → ℝ} {oo : Fin 64 → Fin 64 → ℝ} {t t' : ℝ} (h : Fin 64)
    (ha : ∀ j, a (ix3 0 i j) = (ad r j : EReal)) (hz : ∀ j q, z (ix2 j q) = (s j q : EReal)) (hf : ∀ q, f (ix2 i q) = (ft r q : EReal))
    (ho : ∀ q h : Fin 64, o (ix3 0 q h) = ((t * oo q h + t' * (if q.val = h.val then 1 else 0) : ℝ) : EReal)) :
    lay a z f o i h α α' = (conv t t' oo ad ft s r h : EReal) := by
  have e : (α : Ideal .f32) = (lit 0x3F666666#32 : EReal) := lit_e
  have e' : (α' : Ideal .f32) = (lit 0x3DCCCCCD#32 : EReal) := lit_f
  unfold lay
  simp only [e, e', ha, hz, hf, ho, ← EReal.coe_mul, coe_sumF, ← EReal.coe_add, tanh_coe, ← EReal.coe_zero, coe_max]
  rw [← conv_eq]
  rfl

/-! ## The blocks -/

section
variable {A : Fin 100 → Vec Ideal S1x400x10000 .f32} {X2 : Vec Ideal S10000x128 .f32} {W : Vec Ideal S2x64x64 .f32}
  {X4 : Vec Ideal S64x40 .f32} {X5 : Vec Ideal S1x40 .f32} {w : Ideal .f32} {I : Ins}
  (hA0 : ∀ m i j, A (at0 m) (ix3 0 i j) = (I.adj 0 (row m i) j : EReal)) (hA1 : ∀ m i j, A (at25 m) (ix3 0 i j) = (I.adj 0 (row m i) j : EReal))
  (hA2 : ∀ m i j, A (at50 m) (ix3 0 i j) = (I.adj 1 (row m i) j : EReal)) (hA3 : ∀ m i j, A (at75 m) (ix3 0 i j) = (I.adj 1 (row m i) j : EReal))
  (hL : ∀ r h, X2 (ix2 r (left h)) = (feat I 0 r h : EReal)) (hR : ∀ r h, X2 (ix2 r (right h)) = (feat I 1 r h : EReal))
  (hW : ∀ (k : Fin 2) (q h : Fin 64), W (ix3 k q h) = (I.cw k q h : EReal)) (hU : ∀ h c, X4 (ix2 h c) = I.u c h) (hV : ∀ c, X5 (ix2 0 c) = I.v c) (hw : w = (I.w : EReal))

include hW in
theorem first_at (q h : Fin 64) :
    first W (ix3 0 q h) = ((lit 0x3ECF991F#32 * ortho I 0 q h + lit 0x3F183370#32 * (if q.val = h.val then 1 else 0) : ℝ) : EReal) := by
  have e : (θ0 : Ideal .f32) = (lit 0x3ECF991F#32 : EReal) := lit_a
  have e' : (θ0' : Ideal .f32) = (lit 0x3F183370#32 : EReal) := lit_b
  rw [first_eq, e, e']
  refine mixSlab_at _ _ _ _ (fun i j => ?_) q h
  rw [← hW]
  refine congrArg W (funext fun a => Fin.ext ?_)
  match a with
  | 0 => rfl
  | 1 => show 0 + 1 * i.val = i.val; omega
  | 2 => show 0 + 1 * j.val = j.val; omega

include hW in
theorem second_at (q h : Fin 64) :
    second W (ix3 0 q h) = ((lit 0x3E647FBE#32 * ortho I 1 q h + lit 0x3F46E010#32 * (if q.val = h.val then 1 else 0) : ℝ) : EReal) := by
  have e : (θ1 : Ideal .f32) = (lit 0x3E647FBE#32 : EReal) := lit_c
  have e' : (θ1' : Ideal .f32) = (lit 0x3F46E010#32 : EReal) := lit_d
  rw [second_eq, e, e']
  refine mixSlab_at _ _ _ _ (fun i j => ?_) q h
  rw [← hW]
  refine congrArg W (funext fun a => Fin.ext ?_)
  match a with
  | 0 => rfl
  | 1 => show 0 + 1 * i.val = i.val; omega
  | 2 => show 0 + 1 * j.val = j.val; omega

include hW hL hA0 in
theorem lay0_at (m i h) : lay (all1 (A (at0 m))) (low X2) (lo X2 m) (first W) i h α α' = (f1 I (row m i) h : EReal) :=
  lay_real (r := row m i) h (fun j => (all1_at _ i j).trans (hA0 m i j)) (fun j q => (low_at X2 j q).trans (hL j q)) (fun q => (lo_at X2 m i q).trans (hL _ q)) (first_at hW)
include hW hL hA0 in
theorem b1_at (m i h) : b1 A X2 W m (ix2 i h) = (f1 I (row m i) h : EReal) := (p847 ..).trans (lay0_at hA0 hL hW m i h)
include hW hL hA0 hR hw in
theorem b2_at (m i h) : b2 A X2 W w m (ix2 i h) = (za I (row m i) h : EReal) := by
  unfold b2
  rw [p848, lay0_at hA0 hL hW, hw, hi_at, hR]
  simp only [← EReal.coe_one, ← EReal.coe_sub, ← EReal.coe_mul, ← EReal.coe_add]
  rfl
include hW hL hA0 hA1 in
theorem b3_at (m i h) : b3 A X2 W m (ix2 i h) = (f2 I (row m i) h : EReal) :=
  (p849 ..).trans (lay_real (r := row m i) h (fun j => (all1_at _ i j).trans (hA1 m i j)) (tall_at _ _ (b1_at hA0 hL hW)) (fun q => (lo_at X2 m i q).trans (hL _ q)) (second_at hW))
include hW hL hR hA0 hA2 hw in
theorem lay2_at (m i h) : lay (all1 (A (at50 m))) (tall (b2 A X2 W w)) (hi X2 m) (first W) i h α α' = (f3 I (row m i) h : EReal) :=
  lay_real (r := row m i) h (fun j => (all1_at _ i j).trans (hA2 m i j)) (tall_at _ _ (b2_at hA0 hL hR hW hw)) (fun q => (hi_at X2 m i q).trans (hR _ q)) (first_at hW)
include hW hL hR hA0 hA2 hw in
theorem b4_at (m i h) : b4 A X2 W w m (ix2 i h) = (f3 I (row m i) h : EReal) := (p851 ..).trans (lay2_at hA0 hA2 hL hR hW hw m i h)
include hW hL hR hA0 hA1 hA2 hw in
theorem b5_at (m i h) : b5 A X2 W w m (ix2 i h) = (zb I (row m i) h : EReal) := by
  unfold b5
  rw [p852, lay2_at hA0 hA2 hL hR hW hw, hw, b3_at hA0 hA1 hL hW]
  simp only [← EReal.coe_one, ← EReal.coe_sub, ← EReal.coe_mul, ← EReal.coe_add]
  rfl

include hU hV in
theorem scored (p q : Fin 10000 → Fin 64 → ℝ) (r : Fin 10000) (c : Fin 40) :
    ∑ x, ((p r x : EReal) + (q r x : EReal)) * all4 X4 (ix2 x c) + all5 X5 (ix2 0 c) = score I p q r c :=
  congrArg₂ (· + ·) (Finset.sum_congr rfl fun x _ => congrArg (fun t => ((p r x : EReal) + (q r x : EReal)) * t) ((all4_at X4 x c).trans (hU x c))) ((all5_at X5 c).trans (hV c))
include hW hL hA0 hA1 hU hV in
theorem s1_at (m i) : (fun c => s1 A X2 W X4 X5 m (ix2 i c)) = score1 I (row m i) := funext fun c => by
  unfold s1
  rw [p836]
  simp only [b1_at hA0 hL hW, b3_at hA0 hA1 hL hW]
  exact scored hU hV _ _ _ _
include hW hL hR hA0 hA1 hA2 hA3 hw hU hV in
theorem s2_at (m i) : (fun c => s2 A X2 W X4 X5 w m (ix2 i c)) = score2 I (row m i) := funext fun c => by
  unfold s2
  rw [p837]
  have e : ∀ h, lay (all1 (A (at75 m))) (tall (b5 A X2 W w)) (hi X2 m) (second W) i h α α' = (f4 I (row m i) h : EReal) := fun h =>
    lay_real (r := row m i) h (fun j => (all1_at _ i j).trans (hA3 m i j)) (tall_at _ _ (b5_at hA0 hA1 hA2 hL hR hW hw)) (fun q => (hi_at X2 m i q).trans (hR _ q)) (second_at hW)
  simp only [b4_at hA0 hA2 hL hR hW hw, e]
  exact scored hU hV _ _ _ _
theorem s3_at (m : Fin 25) (i : Fin 400) : s3 A X2 W X4 X5 m (ix2 i 0) = peak fun k => s1 A X2 W X4 X5 m (ix2 i k) := p838 ..

include hW hL hR hA0 hA1 hA2 hA3 hw hU hV
theorem fin_at (m i c) : State.fin A X2 W X4 X5 w m (ix2 i c) = logSoftmax (fun k => score1 I (row m i) k + score2 I (row m i) k) c := by
  rw [← s1_at hA0 hA1 hL hW hU hV m i, ← s2_at hA0 hA1 hA2 hA3 hL hR hW hU hV hw m i]
  exact p841 ..
theorem mean_at (m i c) : mean A X2 W X4 X5 w m (ix2 i c) = (logSoftmax (score1 I (row m i)) c + logSoftmax (score2 I (row m i)) c) * ((1 / 2 : ℝ) : EReal) := by
  rw [← s1_at hA0 hA1 hL hW hU hV m i, ← s2_at hA0 hA1 hA2 hA3 hL hR hW hU hV hw m i]
  exact p842 _ _ _ _ _ (s3_at m i)
theorem logs_left (m i c) : logs A X2 W X4 X5 w m (ix3 0 i c) = logSoftmax (score1 I (row m i)) c := by
  rw [← s1_at hA0 hA1 hL hW hU hV m i]
  exact (pair_left ..).trans (p843 _ _ _ _ (s3_at m i))
theorem logs_right (m i c) : logs A X2 W X4 X5 w m (ix3 1 i c) = logSoftmax (score2 I (row m i)) c := by
  rw [← s2_at hA0 hA1 hA2 hA3 hL hR hW hU hV hw m i]
  exact (pair_right ..).trans (p844 ..)
end

end Cert.KerVals

end
-- ==== Proof.Arrays.lean ====
module

public import proofs.«01_k».proof.Proof.KerVals
public import proofs.«01_k».proof.Proof.Segs
public import Idealize.ShloMosaic.Lib.StableHlo.RunRead

/-!
The kernels' operands read off the arguments.
-/

@[expose] public section

set_option maxRecDepth 65536

noncomputable section

namespace Cert.Arrays

open Cert.KernelIdeal Cert.KernelIdeal.Gen Cert.Phases Cert.KerVals
open Idealize.ShloMosaic
open Idealize.ShloMosaic.TcCoe Idealize.ShloMosaic.Tactic Idealize.ShloMosaic.StableHlo
open Idealize.SL.Sem
open Idealize.ShloMosaic.Pipeline (Dat)

variable (V : (c : Dev nD) → (b : Ref sig .tc) → Buf (Elt Ideal) ((c : Thread nD τ).loc b)) (c : Dev nD)

/-! ## The second kernel's operands -/

theorem index0 : ∀ t : Fin cfg1.N, win1_0.index t 0 = t.val / 50 ∧ win1_0.index t 1 = t.val % 25 ∧ win1_0.index t 2 = 0 :=
  (by decide +kernel : ∀ t : Fin grid1.N, win1_0.index t 0 = t.val / 50 ∧ win1_0.index t 1 = t.val % 25 ∧ win1_0.index t 2 = 0)

theorem tile_at (n : Fin 100) (k : Fin 2) (m : Fin 25) (hk : n.val / 50 = k.val) (hm : n.val % 25 = m.val) (i : Fin 400) (j : Fin 10000) :
    Region1.tile V c n (ix3 0 i j) = (V c main_arg1 : FVec Ideal S2x10000x10000 .f32) (ix3 k (row m i) j) := by
  have e := index0 (Region1.pt n)
  unfold Region1.tile
  refine congrArg (V c main_arg1) (funext fun a => Fin.ext ?_)
  match a with
  | 0 => show win1_0.index (Region1.pt n) 0 * 1 + 1 * 0 = k.val; rw [e.1]; show n.val / 50 * 1 + 1 * 0 = k.val; omega
  | 1 => show win1_0.index (Region1.pt n) 1 * 400 + 1 * i.val = 400 * m.val + i.val; rw [e.2.1]; show n.val % 25 * 400 + 1 * i.val = _; omega
  | 2 => show win1_0.index (Region1.pt n) 2 * 10000 + 1 * j.val = j.val; rw [e.2.2]; omega

theorem feat_eq : Region1.feat V c = V c main_v5 := by
  unfold Region1.feat
  funext y
  refine congrArg (V c main_v5) (funext fun a => Fin.ext ?_)
  match a with
  | 0 => show 0 * 10000 + 1 * (y 0).val = (y 0).val; omega
  | 1 => show 0 * 128 + 1 * (y 1).val = (y 1).val; omega
theorem wts_eq : Region1.wts V c = V c main_arg2 := by
  unfold Region1.wts
  funext y
  refine congrArg (V c main_arg2) (funext fun a => Fin.ext ?_)
  match a with
  | 0 => show 0 * 2 + 1 * (y 0).val = (y 0).val; omega
  | 1 => show 0 * 64 + 1 * (y 1).val = (y 1).val; omega
  | 2 => show 0 * 64 + 1 * (y 2).val = (y 2).val; omega
theorem outW_eq : Region1.outW V c = V c main_v2 := by
  unfold Region1.outW
  funext y
  refine congrArg (V c main_v2) (funext fun a => Fin.ext ?_)
  match a with
  | 0 => show 0 * 64 + 1 * (y 0).val = (y 0).val; omega
  | 1 => show 0 * 40 + 1 * (y 1).val = (y 1).val; omega
theorem outB_eq : Region1.outB V c = V c main_v3 := by
  unfold Region1.outB
  funext y
  refine congrArg (V c main_v3) (funext fun a => Fin.ext ?_)
  match a with
  | 0 => show 0 * 1 + 1 * (y 0).val = (y 0).val; omega
  | 1 => show 0 * 40 + 1 * (y 1).val = (y 1).val; omega
theorem mixW_eq : Region1.mixW V c = V c main_v4 := by
  unfold Region1.mixW
  funext y
  refine congrArg (V c main_v4) (funext fun a => Fin.ext ?_)
  match a with
  | 0 => show 0 * 1 + 1 * (y 0).val = (y 0).val; omega
  | 1 => show 0 * 1 + 1 * (y 1).val = (y 1).val; omega

/-! ## The first kernel's operands and result -/

theorem in0_eq : Region0.iblk V c 0 t0_0 = V c main_arg0 := by
  funext y
  refine congrArg (V c main_arg0) (funext fun a => Fin.ext ?_)
  match a with
  | 0 => show 0 * 2 + 1 * (y 0).val = (y 0).val; omega
  | 1 => show 0 * 10000 + 1 * (y 1).val = (y 1).val; omega
  | 2 => show 0 * 128 + 1 * (y 2).val = (y 2).val; omega
theorem in1_eq : Region0.iblk V c 1 t0_0 = V c main_v0 := by
  funext y
  refine congrArg (V c main_v0) (funext fun a => Fin.ext ?_)
  match a with
  | 0 => show 0 * 2 + 1 * (y 0).val = (y 0).val; omega
  | 1 => show 0 * 128 + 1 * (y 1).val = (y 1).val; omega
  | 2 => show 0 * 64 + 1 * (y 2).val = (y 2).val; omega
theorem in2_eq : Region0.iblk V c 2 t0_0 = V c main_v1 := by
  funext y
  refine congrArg (V c main_v1) (funext fun a => Fin.ext ?_)
  match a with
  | 0 => show 0 * 2 + 1 * (y 0).val = (y 0).val; omega
  | 1 => show 0 * 1 + 1 * (y 1).val = (y 1).val; omega
  | 2 => show 0 * 64 + 1 * (y 2).val = (y 2).val; omega

theorem out0 : (Region0.dat V c).arrAt 3 cfg0.N = Region0.both (V c main_arg0) (V c main_v0) (V c main_v1) := by
  have hres : Region0.res V c = Region0.both (V c main_arg0) (V c main_v0) (V c main_v1) := by
    unfold Region0.res; rw [in0_eq, in1_eq, in2_eq]
  refine (Region0.dat V c).arrAt_eq_of_cover 3 _ (fun t _ => ?_) fun i => ⟨t0_0, by decide +kernel, ?_⟩
  · rw [← hres]
    rcases fin_N0 t with rfl
    funext y
    show Region0.res V c _ = Region0.res V c _
    refine congrArg (Region0.res V c) (funext fun a => Fin.ext ?_)
    match a with
    | 0 => show (y 0).val = 0 * 10000 + 1 * (y 0).val; omega
    | 1 => show (y 1).val = 0 * 128 + 1 * (y 1).val; omega
  · show i ∈ ((View.whole main_v5).slice (win0_3.rect t0_0)).set
    rw [View.set_slice_whole, Rect.mem_set_unit]
    intro a
    match a with
    | 0 => show 0 * 10000 ≤ (i 0).val ∧ (i 0).val < 0 * 10000 + 10000; have : (i 0).val < 10000 := (i 0).isLt; omega
    | 1 => show 0 * 128 ≤ (i 1).val ∧ (i 1).val < 0 * 128 + 128; have : (i 1).val < 128 := (i 1).isLt; omega

/-! ## The second kernel's results -/

/-- Block `r / 400`, row `r % 400`. -/
def blk (r : ℕ) (h : r < 10000) : Fin 25 := ⟨r / 400, by omega⟩
def rem (r : ℕ) : Fin 400 := ⟨r % 400, Nat.mod_lt _ (by omega)⟩

theorem index6 : ∀ t : Fin cfg1.N, 75 ≤ t.val → (cfg1.win 6).flush t = true ∧ win1_6.index t 0 = t.val - 75 ∧ win1_6.index t 1 = 0 :=
  (by decide +kernel : ∀ t : Fin grid1.N, 75 ≤ t.val → win1_6.flush t = true ∧ win1_6.index t 0 = t.val - 75 ∧ win1_6.index t 1 = 0)
theorem index7 : ∀ t : Fin cfg1.N, 75 ≤ t.val → (cfg1.win 7).flush t = true ∧ win1_7.index t 0 = t.val - 75 ∧ win1_7.index t 1 = 0 :=
  (by decide +kernel : ∀ t : Fin grid1.N, 75 ≤ t.val → win1_7.flush t = true ∧ win1_7.index t 0 = t.val - 75 ∧ win1_7.index t 1 = 0)
theorem index8 : ∀ t : Fin cfg1.N, 75 ≤ t.val → (cfg1.win 8).flush t = true ∧ win1_8.index t 0 = 0 ∧ win1_8.index t 1 = t.val - 75 ∧ win1_8.index t 2 = 0 :=
  (by decide +kernel : ∀ t : Fin grid1.N, 75 ≤ t.val → win1_8.flush t = true ∧ win1_8.index t 0 = 0 ∧ win1_8.index t 1 = t.val - 75 ∧ win1_8.index t 2 = 0)

/-- The results, block by block. -/
def finA : FVec Ideal S10000x40 .f32 := fun i => Region1.finB V c (blk (i 0).val (i 0).isLt) (ix2 (rem (i 0).val) (i 1))
def meanA : FVec Ideal S10000x40 .f32 := fun i => Region1.meanB V c (blk (i 0).val (i 0).isLt) (ix2 (rem (i 0).val) (i 1))
def logsA : FVec Ideal S2x10000x40 .f32 := fun i => Region1.logsB V c (blk (i 1).val (i 1).isLt) (ix3 (i 0) (rem (i 1).val) (i 2))

theorem split (t : Fin cfg1.N) (h : 75 ≤ t.val) (y q : ℕ) (hq : q < 10000) (hy : y < 400) (e : q = (t.val - 75) * 400 + 1 * y) :
    Region1.blockAt t = blk q hq ∧ y = (rem q).val := by
  have ht : t.val < 100 := lt_of_lt_of_eq t.isLt Region1.N1
  constructor
  · refine Fin.ext ?_
    show t.val % 25 = q / 400
    omega
  · show y = q % 400
    omega

/-- The point that writes the block of row `r`. -/
def writer (r : ℕ) (h : r < 10000) : Fin cfg1.N := ⟨75 + r / 400, by have := Region1.N1; omega⟩

theorem out6 : (Region1.dat V c).arrAt 6 cfg1.N = finA V c := by
  refine (Region1.dat V c).arrAt_eq_of_cover 6 (finA V c) (fun t ht => ?_) fun i => ⟨writer (i 0).val (i 0).isLt, (index6 _ (by show 75 ≤ 75 + _; omega)).1, ?_⟩
  · have h75 : 75 ≤ t.val := by
      by_contra h
      rw [Region1.flush6 t (by omega)] at ht
      cases ht
    have e := index6 t h75
    funext y
    show Region1.finB V c (Region1.blockAt t) _ = finA V c (((cfg1.win 6).blk t).view.emb y)
    have h0 : (y 0).val < 400 := (y 0).isLt
    have e0 : ((((cfg1.win 6).blk t).view.emb y : S10000x40.Idx) 0).val = (t.val - 75) * 400 + 1 * (y 0).val := by
      show win1_6.index t 0 * 400 + 1 * (y 0).val = _; rw [e.2.1]
    have e1 : ((((cfg1.win 6).blk t).view.emb y : S10000x40.Idx) 1).val = (y 1).val := by
      show win1_6.index t 1 * 40 + 1 * (y 1).val = _; rw [e.2.2]; omega
    have es := split t h75 (y 0).val _ ((((cfg1.win 6).blk t).view.emb y : S10000x40.Idx) 0).isLt h0 e0
    unfold finA
    rw [es.1]
    refine congrArg (Region1.finB V c _) (funext fun a => Fin.ext ?_)
    match a with
    | 0 => exact es.2
    | 1 => exact e1.symm
  · show i ∈ ((View.whole main_v6_0).slice (win1_6.rect (writer (i 0).val (i 0).isLt))).set
    rw [View.set_slice_whole, Rect.mem_set_unit]
    have e := index6 (writer (i 0).val (i 0).isLt) (by show 75 ≤ 75 + _; omega)
    have hw : (writer (i 0).val (i 0).isLt).val = 75 + (i 0).val / 400 := rfl
    intro a
    match a with
    | 0 => show win1_6.index _ 0 * 400 ≤ (i 0).val ∧ (i 0).val < win1_6.index _ 0 * 400 + 400; rw [e.2.1]; omega
    | 1 => show win1_6.index _ 1 * 40 ≤ (i 1).val ∧ (i 1).val < win1_6.index _ 1 * 40 + 40; rw [e.2.2]; have : (i 1).val < 40 := (i 1).isLt; omega

theorem out7 : (Region1.dat V c).arrAt 7 cfg1.N = meanA V c := by
  refine (Region1.dat V c).arrAt_eq_of_cover 7 (meanA V c) (fun t ht => ?_) fun i => ⟨writer (i 0).val (i 0).isLt, (index7 _ (by show 75 ≤ 75 + _; omega)).1, ?_⟩
  · have h75 : 75 ≤ t.val := by
      by_contra h
      rw [Region1.flush7 t (by omega)] at ht
      cases ht
    have e := index7 t h75
    funext y
    show Region1.meanB V c (Region1.blockAt t) _ = meanA V c (((cfg1.win 7).blk t).view.emb y)
    have h0 : (y 0).val < 400 := (y 0).isLt
    have e0 : ((((cfg1.win 7).blk t).view.emb y : S10000x40.Idx) 0).val = (t.val - 75) * 400 + 1 * (y 0).val := by
      show win1_7.index t 0 * 400 + 1 * (y 0).val = _; rw [e.2.1]
    have e1 : ((((cfg1.win 7).blk t).view.emb y : S10000x40.Idx) 1).val = (y 1).val := by
      show win1_7.index t 1 * 40 + 1 * (y 1).val = _; rw [e.2.2]; omega
    have es := split t h75 (y 0).val _ ((((cfg1.win 7).blk t).view.emb y : S10000x40.Idx) 0).isLt h0 e0
    unfold meanA
    rw [es.1]
    refine congrArg (Region1.meanB V c _) (funext fun a => Fin.ext ?_)
    match a with
    | 0 => exact es.2
    | 1 => exact e1.symm
  · show i ∈ ((View.whole main_v6_1).slice (win1_7.rect (writer (i 0).val (i 0).isLt))).set
    rw [View.set_slice_whole, Rect.mem_set_unit]
    have e := index7 (writer (i 0).val (i 0).isLt) (by show 75 ≤ 75 + _; omega)
    have hw : (writer (i 0).val (i 0).isLt).val = 75 + (i 0).val / 400 := rfl
    intro a
    match a with
    | 0 => show win1_7.index _ 0 * 400 ≤ (i 0).val ∧ (i 0).val < win1_7.index _ 0 * 400 + 400; rw [e.2.1]; omega
    | 1 => show win1_7.index _ 1 * 40 ≤ (i 1).val ∧ (i 1).val < win1_7.index _ 1 * 40 + 40; rw [e.2.2]; have : (i 1).val < 40 := (i 1).isLt; omega

theorem out8 : (Region1.dat V c).arrAt 8 cfg1.N = logsA V c := by
  refine (Region1.dat V c).arrAt_eq_of_cover 8 (logsA V c) (fun t ht => ?_) fun i => ⟨writer (i 1).val (i 1).isLt, (index8 _ (by show 75 ≤ 75 + _; omega)).1, ?_⟩
  · have h75 : 75 ≤ t.val := by
      by_contra h
      rw [Region1.flush8 t (by omega)] at ht
      cases ht
    have e := index8 t h75
    funext y
    show Region1.logsB V c (Region1.blockAt t) _ = logsA V c (((cfg1.win 8).blk t).view.emb y)
    have h0 : (y 1).val < 400 := (y 1).isLt
    have e0 : ((((cfg1.win 8).blk t).view.emb y : S2x10000x40.Idx) 0).val = (y 0).val := by
      show win1_8.index t 0 * 2 + 1 * (y 0).val = _; rw [e.2.1]; omega
    have e1 : ((((cfg1.win 8).blk t).view.emb y : S2x10000x40.Idx) 1).val = (t.val - 75) * 400 + 1 * (y 1).val := by
      show win1_8.index t 1 * 400 + 1 * (y 1).val = _; rw [e.2.2.1]
    have e2 : ((((cfg1.win 8).blk t).view.emb y : S2x10000x40.Idx) 2).val = (y 2).val := by
      show win1_8.index t 2 * 40 + 1 * (y 2).val = _; rw [e.2.2.2]; omega
    have es := split t h75 (y 1).val _ ((((cfg1.win 8).blk t).view.emb y : S2x10000x40.Idx) 1).isLt h0 e1
    unfold logsA
    rw [es.1]
    refine congrArg (Region1.logsB V c _) (funext fun a => Fin.ext ?_)
    match a with
    | 0 => exact e0.symm
    | 1 => exact es.2
    | 2 => exact e2.symm
  · show i ∈ ((View.whole main_v6_2).slice (win1_8.rect (writer (i 1).val (i 1).isLt))).set
    rw [View.set_slice_whole, Rect.mem_set_unit]
    have e := index8 (writer (i 1).val (i 1).isLt) (by show 75 ≤ 75 + _; omega)
    have hw : (writer (i 1).val (i 1).isLt).val = 75 + (i 1).val / 400 := rfl
    intro a
    match a with
    | 0 => show win1_8.index _ 0 * 2 ≤ (i 0).val ∧ (i 0).val < win1_8.index _ 0 * 2 + 2; rw [e.2.1]; have : (i 0).val < 2 := (i 0).isLt; omega
    | 1 => show win1_8.index _ 1 * 400 ≤ (i 1).val ∧ (i 1).val < win1_8.index _ 1 * 400 + 400; rw [e.2.2.1]; omega
    | 2 => show win1_8.index _ 2 * 40 ≤ (i 2).val ∧ (i 2).val < win1_8.index _ 2 * 40 + 40; rw [e.2.2.2]; have : (i 2).val < 40 := (i 2).isLt; omega

/-! ## The features -/

theorem slab_at {n1 n2 : ℕ} (X : (⟨3, ![2, n1, n2]⟩ : Shape).Idx → EReal) (k : Fin 2) (hk) (i : Fin n1) (j : Fin n2) :
    VecWindow.window (s := ⟨3, ![2, n1, n2]⟩) X ![k.val, 0, 0] ![1, n1, n2] hk (ix3 0 i j) = X (ix3 k i j) :=
  congrArg X (funext fun a => Fin.ext (by
    match a with
    | 0 => show k.val + 1 * 0 = k.val; omega
    | 1 => show 0 + 1 * i.val = i.val; omega
    | 2 => show 0 + 1 * j.val = j.val; omega))

theorem both_left (X0 : Vec Ideal S2x10000x128 .f32) (X1 : Vec Ideal S2x128x64 .f32) (X2 : Vec Ideal S2x1x64 .f32) (r : Fin 10000) (h : Fin 64) :
    Region0.both X0 X1 X2 (ix2 r (left h)) = max (∑ f, X0 (ix3 0 r f) * X1 (ix3 0 f h) + X2 (ix3 0 0 h)) 0 := by
  unfold Region0.both k0_pay1
  pointwise
  rw [dif_pos (show (left h).val < 64 from h.isLt)]
  exact congrArg (fun t => max t 0) (congrArg₂ (· + ·) (Finset.sum_congr rfl fun f _ => congrArg₂ (· * ·) (slab_at X0 0 _ r f) (slab_at X1 0 _ f h)) (slab_at X2 0 _ 0 h))

theorem both_right (X0 : Vec Ideal S2x10000x128 .f32) (X1 : Vec Ideal S2x128x64 .f32) (X2 : Vec Ideal S2x1x64 .f32) (r : Fin 10000) (h : Fin 64) :
    Region0.both X0 X1 X2 (ix2 r (right h)) = max (∑ f, X0 (ix3 1 r f) * X1 (ix3 1 f h) + X2 (ix3 1 0 h)) 0 := by
  unfold Region0.both k0_pay1
  pointwise
  rw [dif_neg (show ¬ (right h).val < 64 by show ¬ 64 + h.val < 64; omega)]
  have e : ∀ p, (⟨(right h).val - 64, p⟩ : Fin 64) = h := fun p => Fin.ext (by show 64 + h.val - 64 = h.val; omega)
  simp only [e]
  exact congrArg (fun t => max t 0) (congrArg₂ (· + ·) (Finset.sum_congr rfl fun f _ => congrArg₂ (· * ·) (slab_at X0 1 _ r f) (slab_at X1 1 _ f h)) (slab_at X2 1 _ 0 h))

/-! ## The operands the program makes -/

variable (m : (ℓ : Loc nD τ sig) → Buf (Elt Ideal) ℓ)

theorem v0_eq {L : FVec Ideal S2x64x128 .f32} (h : m ((c.tc : Thread nD τ).loc main_arg3) = L) :
    Segs.at0 m c main_v0 = transpose S2x128x64 [0, 2, 1] L transposes_S2x64x128_S2x128x64_0_2_1 := by
  subst h; unfold Segs.at0 V1; after_reads_simp
theorem v1_eq {L : FVec Ideal S2x64 .f32} (h : m ((c.tc : Thread nD τ).loc main_arg4) = L) :
    Segs.at0 m c main_v1 = broadcastInDim S2x1x64 ![0, 2] bcast_S2x64_S2x1x64_0_2 L := by
  subst h; unfold Segs.at0 V1; after_reads_simp
theorem v2_eq {L : FVec Ideal S40x64 .f32} (h : m ((c.tc : Thread nD τ).loc main_arg5) = L) :
    Segs.at0 m c main_v2 = transpose S64x40 [1, 0] L transposes_S40x64_S64x40_1_0 := by
  subst h; unfold Segs.at0 V1; after_reads_simp
theorem v3_eq {L : FVec Ideal S40 .f32} (h : m ((c.tc : Thread nD τ).loc main_arg6) = L) :
    Segs.at0 m c main_v3 = broadcastInDim S1x40 ![1] bcast_S40_S1x40_1 L := by
  subst h; unfold Segs.at0 V1; after_reads_simp
theorem v4_eq {L : FVec Ideal S1 .f32} (h : m ((c.tc : Thread nD τ).loc main_arg7) = L) :
    Segs.at0 m c main_v4 = shapeCast S1x1 L shapeCasts_S1_S1x1 := by
  subst h; unfold Segs.at0 V1; after_reads_simp; rfl
theorem arg_eq (b : Ref sig .tc) (hb : b ∉ hostOps0_W) : Segs.at0 m c b = m ((c.tc : Thread nD τ).loc b) := V1_of m c b hb

end Cert.Arrays

end
-- ==== Proof.KerRes.lean ====
module

public import proofs.«01_k».proof.Proof.Arrays

/-!
The kernel's results, entry by entry, as the formulas over the arguments.
-/

@[expose] public section

set_option maxRecDepth 65536

noncomputable section

namespace Cert.KerRes

open Cert.KernelIdeal Cert.KernelIdeal.Gen Cert.Spec Cert.KerVals Cert.Arrays
open Idealize.ShloMosaic
open Idealize.ShloMosaic.TcCoe
open Idealize.SL.Sem

variable (m : (ℓ : Loc nD τ sig) → Buf (Elt Ideal) ℓ) (c : Dev nD)
  {x : FVec Ideal S2x10000x128 .f32} {a : FVec Ideal S2x10000x10000 .f32} {w : FVec Ideal S2x64x64 .f32} {fw : FVec Ideal S2x64x128 .f32}
  {fb : FVec Ideal S2x64 .f32} {u : FVec Ideal S40x64 .f32} {v : FVec Ideal S40 .f32} {g : FVec Ideal S1 .f32} {I : Ins}
  (e0 : m ((c.tc : Thread nD τ).loc main_arg0) = x) (e1 : m ((c.tc : Thread nD τ).loc main_arg1) = a)
  (e2 : m ((c.tc : Thread nD τ).loc main_arg2) = w) (e3 : m ((c.tc : Thread nD τ).loc main_arg3) = fw)
  (e4 : m ((c.tc : Thread nD τ).loc main_arg4) = fb) (e5 : m ((c.tc : Thread nD τ).loc main_arg5) = u)
  (e6 : m ((c.tc : Thread nD τ).loc main_arg6) = v) (e7 : m ((c.tc : Thread nD τ).loc main_arg7) = g)
  (hx : ∀ k r f, x (ix3 k r f) = (I.x k r f : EReal)) (ha : ∀ k r f, a (ix3 k r f) = (I.adj k r f : EReal))
  (hw : ∀ (k : Fin 2) (r f : Fin 64), w (ix3 k r f) = (I.cw k r f : EReal)) (hfw : ∀ k h f, fw (ix3 k h f) = (I.fw k h f : EReal))
  (hfb : ∀ k h, fb (ix2 k h) = (I.fb k h : EReal)) (hu : ∀ c h, u (ix2 c h) = I.u c h) (hv : ∀ c, v (ix1 c) = I.v c) (hg : g (ix1 0) = (I.w : EReal))

/-! ## The second kernel's operands -/

section
include e1 ha
theorem tile_has (n : Fin 100) (k : Fin 2) (b : Fin 25) (hk : n.val / 50 = k.val) (hb : n.val % 25 = b.val) (i : Fin 400) (j : Fin 10000) :
    Region1.tile (Segs.at1 m) c n (ix3 0 i j) = (I.adj k (row b i) j : EReal) := by
  have e : Segs.at1 m c main_arg1 = a := (Segs.at1_of m c main_arg1 (by decide)).trans ((arg_eq c m main_arg1 (by decide)).trans e1)
  rw [tile_at (Segs.at1 m) c n k b hk hb, e, ha]
end

section
include e0 e3 e4 hx hfw hfb
theorem features_has : ∃ X2 : Vec Ideal S10000x128 .f32, Region1.feat (Segs.at1 m) c = X2 ∧ (∀ r h, X2 (ix2 r (left h)) = (feat I 0 r h : EReal)) ∧
    (∀ r h, X2 (ix2 r (right h)) = (feat I 1 r h : EReal)) := by
  refine ⟨Region0.both (F := Ideal) x (transpose S2x128x64 [0, 2, 1] fw transposes_S2x64x128_S2x128x64_0_2_1) (broadcastInDim S2x1x64 ![0, 2] bcast_S2x64_S2x1x64_0_2 fb), ?_, ?_, ?_⟩
  · rw [feat_eq, Segs.at1_v5]
    unfold Segs.features
    rw [out0, v0_eq c m e3, v1_eq c m e4, arg_eq c m main_arg0 (by decide), e0]
  · intro r h
    rw [both_left]
    pointwise
    simp only [hx, hfw, hfb, ← EReal.coe_mul, coe_sumF, ← EReal.coe_add, ← EReal.coe_zero, coe_max]
    rfl
  · intro r h
    rw [both_right]
    pointwise
    simp only [hx, hfw, hfb, ← EReal.coe_mul, coe_sumF, ← EReal.coe_add, ← EReal.coe_zero, coe_max]
    rfl
end

include e2 hw in
theorem weights_has (k : Fin 2) (q h : Fin 64) : (Region1.wts (Segs.at1 m) c : FVec Ideal S2x64x64 .f32) (ix3 k q h) = (I.cw k q h : EReal) := by
  rw [wts_eq, Segs.at1_of m c main_arg2 (by decide), arg_eq c m main_arg2 (by decide), e2, hw]

include e5 hu in
theorem outW_has (h : Fin 64) (k : Fin 40) : (Region1.outW (Segs.at1 m) c : FVec Ideal S64x40 .f32) (ix2 h k) = I.u k h := by
  rw [outW_eq, Segs.at1_of m c main_v2 (by decide), v2_eq c m e5]
  pointwise
  rw [hu]

include e6 hv in
theorem outB_has (k : Fin 40) : (Region1.outB (Segs.at1 m) c : FVec Ideal S1x40 .f32) (ix2 0 k) = I.v k := by
  rw [outB_eq, Segs.at1_of m c main_v3 (by decide), v3_eq c m e6]
  pointwise
  rw [hv]

include e7 hg in
theorem mix_has : Phases.cell (Region1.mixW (Segs.at1 m) c) = (I.w : EReal) := by
  rw [mixW_eq, Segs.at1_of m c main_v4 (by decide), v4_eq c m e7, ← hg]
  unfold Phases.cell
  exact congrArg g (funext fun i => Fin.ext (by match i with | 0 => rfl))

section
include e1 ha
theorem tiles_has : (∀ b i j, Region1.tile (Segs.at1 m) c (State.at0 b) (ix3 0 i j) = (I.adj 0 (row b i) j : EReal)) ∧
    (∀ b i j, Region1.tile (Segs.at1 m) c (State.at25 b) (ix3 0 i j) = (I.adj 0 (row b i) j : EReal)) ∧
    (∀ b i j, Region1.tile (Segs.at1 m) c (State.at50 b) (ix3 0 i j) = (I.adj 1 (row b i) j : EReal)) ∧
    ∀ b i j, Region1.tile (Segs.at1 m) c (State.at75 b) (ix3 0 i j) = (I.adj 1 (row b i) j : EReal) :=
  ⟨fun b i j => tile_has m c e1 ha _ 0 b (by show b.val / 50 = 0; omega) (by show b.val % 25 = b.val; omega) i j,
   fun b i j => tile_has m c e1 ha _ 0 b (by show (25 + b.val) / 50 = 0; omega) (by show (25 + b.val) % 25 = b.val; omega) i j,
   fun b i j => tile_has m c e1 ha _ 1 b (by show (50 + b.val) / 50 = 1; omega) (by show (50 + b.val) % 25 = b.val; omega) i j,
   fun b i j => tile_has m c e1 ha _ 1 b (by show (75 + b.val) / 50 = 1; omega) (by show (75 + b.val) % 25 = b.val; omega) i j⟩
end

/-! ## The results -/

/-- A row is its block's. -/
theorem row_split (r : Fin 10000) : row (blk r.val r.isLt) (rem r.val) = r := Fin.ext (by show 400 * (r.val / 400) + r.val % 400 = r.val; omega)

include e0 e1 e2 e3 e4 e5 e6 e7 hx ha hw hfw hfb hu hv hg

theorem fin_at (r : Fin 10000) (k : Fin 40) : (Segs.final m c : FVec Ideal S10000x40 .f32) (ix2 r k) = logSoftmax (fun k => score1 I r k + score2 I r k) k := by
  obtain ⟨X2, e, hL, hR⟩ := features_has m c e0 e3 e4 hx hfw hfb
  obtain ⟨h0, h1, h2, h3⟩ := tiles_has m c e1 ha
  unfold Segs.final
  rw [out6]
  show Region1.finB (Segs.at1 m) c (blk r.val r.isLt) (ix2 (rem r.val) k) = _
  unfold Region1.finB
  rw [e]
  refine (KerVals.fin_at (I := I) h0 h1 h2 h3 hL hR (weights_has m c e2 hw) (outW_has m c e5 hu) (outB_has m c e6 hv) (mix_has m c e7 hg) _ _ _).trans ?_
  rw [row_split]
theorem mean_at (r : Fin 10000) (k : Fin 40) : (Segs.means m c : FVec Ideal S10000x40 .f32) (ix2 r k) = (logSoftmax (score1 I r) k + logSoftmax (score2 I r) k) * ((1 / 2 : ℝ) : EReal) := by
  obtain ⟨X2, e, hL, hR⟩ := features_has m c e0 e3 e4 hx hfw hfb
  obtain ⟨h0, h1, h2, h3⟩ := tiles_has m c e1 ha
  unfold Segs.means
  rw [out7]
  show Region1.meanB (Segs.at1 m) c (blk r.val r.isLt) (ix2 (rem r.val) k) = _
  unfold Region1.meanB
  rw [e]
  refine (KerVals.mean_at (I := I) h0 h1 h2 h3 hL hR (weights_has m c e2 hw) (outW_has m c e5 hu) (outB_has m c e6 hv) (mix_has m c e7 hg) _ _ _).trans ?_
  rw [row_split]
theorem logs_at0 (r : Fin 10000) (k : Fin 40) : (Segs.logits m c : FVec Ideal S2x10000x40 .f32) (ix3 0 r k) = logSoftmax (score1 I r) k := by
  obtain ⟨X2, e, hL, hR⟩ := features_has m c e0 e3 e4 hx hfw hfb
  obtain ⟨h0, h1, h2, h3⟩ := tiles_has m c e1 ha
  unfold Segs.logits
  rw [out8]
  show Region1.logsB (Segs.at1 m) c (blk r.val r.isLt) (ix3 0 (rem r.val) k) = _
  unfold Region1.logsB
  rw [e]
  refine (KerVals.logs_left (I := I) h0 h1 h2 h3 hL hR (weights_has m c e2 hw) (outW_has m c e5 hu) (outB_has m c e6 hv) (mix_has m c e7 hg) _ _ _).trans ?_
  rw [row_split]
theorem logs_at1 (r : Fin 10000) (k : Fin 40) : (Segs.logits m c : FVec Ideal S2x10000x40 .f32) (ix3 1 r k) = logSoftmax (score2 I r) k := by
  obtain ⟨X2, e, hL, hR⟩ := features_has m c e0 e3 e4 hx hfw hfb
  obtain ⟨h0, h1, h2, h3⟩ := tiles_has m c e1 ha
  unfold Segs.logits
  rw [out8]
  show Region1.logsB (Segs.at1 m) c (blk r.val r.isLt) (ix3 1 (rem r.val) k) = _
  unfold Region1.logsB
  rw [e]
  refine (KerVals.logs_right (I := I) h0 h1 h2 h3 hL hR (weights_has m c e2 hw) (outW_has m c e5 hu) (outB_has m c e6 hv) (mix_has m c e7 hg) _ _ _).trans ?_
  rw [row_split]

end Cert.KerRes

end
-- ==== Proof.RefLoop.lean ====
module

public import proofs.«01_k».proof.Proof.Solve
public import proofs.«01_k».proof.Proof.Gen.ReferenceIdeal.Run
public import Idealize.ShloMosaic.Lib.Pointwise
public import Idealize.ShloMosaic.Lib.WordCmp

/-!
The reference's loop over the 64 columns: after `k` trips the first `k` columns of both factors and the first `k` rows
of both inverses stand, zero elsewhere.
-/

@[expose] public section

set_option maxRecDepth 65536

noncomputable section

namespace Cert.RefLoop

open Idealize.ShloMosaic Idealize.ShloMosaic.TcCoe Idealize.SL.Sem Cert.ReferenceIdeal Cert.ReferenceIdeal.Gen Cert.ReferenceIdeal.Value Idealize.ShloMosaic.StableHlo Finset
open Cert.Solve (G G_symm G_pos eq_word sge_word)
open Cert.Factor (S D L V)

/-- Two 64 × 64 matrices. -/
abbrev A3 := FVec Ideal S2x64x64 .f32
/-- The loop's counter at its `k`-th trip. -/
def cnt (k : ℕ) : IVec S_ 32 := fun _ => BitVec.ofNat 32 k

theorem slices {s : Shape} {o : ℕ} {n0 n1 n2 m0 m1 m2 o0 o1 o2 : ℕ} (h0 : o0 + m0 ≤ n0) (h1 : o1 + m1 ≤ n1) (h2 : o2 + m2 ≤ n2) :
    (⟨3, ![n0, n1, n2]⟩ : Shape).Slices ![o0, o1, o2] ⟨3, ![m0, m1, m2]⟩ :=
  ⟨rfl, fun a => by
    match a with
    | ⟨0, _⟩ => exact h0
    | ⟨1, _⟩ => exact h1
    | ⟨2, _⟩ => exact h2⟩

theorem word : ∀ k : Fin 64, (Scalar.select (IntOp.cmpi .slt (BitVec.ofNat 32 k) 0#32) (BitVec.ofNat 32 k + 64#32) (BitVec.ofNat 32 k)).toInt = (k.val : ℤ) := by
  decide +kernel

/-- Row `k` of both matrices. -/
def row (L : A3) (k : Fin 64) : FVec Ideal S2x1x64 .f32 :=
  extractStridedSlice S2x1x64 ![0, k.val, 0] L (slices (s := S2x64x64) (o := 0) (by decide) (by omega) (by decide))
/-- Column `k` of both matrices. -/
def col (A : A3) (k : Fin 64) : FVec Ideal S2x64x1 .f32 :=
  extractStridedSlice S2x64x1 ![0, 0, k.val] A (slices (s := S2x64x64) (o := 0) (by decide) (by decide) (by omega))
/-- Entry `k` of both columns. -/
def ent (C : FVec Ideal S2x64x1 .f32) (k : Fin 64) : FVec Ideal S2x1x1 .f32 :=
  extractStridedSlice S2x1x1 ![0, k.val, 0] C (slices (s := S2x64x1) (o := 0) (by decide) (by omega) (by decide))
/-- What is left of column `k`. -/
def rest (A L : A3) (k : Fin 64) : FVec Ideal S2x64x1 .f32 :=
  subf (col A k) (Host.dotGeneral dot_S2x64x64_S2x64x1_S2x64x1_2_1_1_2_0_0 none L (transpose S2x64x1 [0, 2, 1] (row L k) transposes_S2x1x64_S2x64x1_0_2_1))
/-- The diagonal entries. -/
def diag (A L : A3) (k : Fin 64) : FVec Ideal S2x1x1 .f32 := Host.sqrt (ent (rest A L k) k)

variable {V0 : Valuation τ sig (Elt Ideal)} {A L' : A3} {k : Fin 64}

theorem v200 (h4 : V0 (Proc.devRef .tc main_v16_4) = cnt k) (h5 : V0 (Proc.devRef .tc main_v16_5) = L') : res_main_while0b_v200 V0 = row L' k := by
  unfold res_main_while0b_v200; rw [h4, h5]
  refine WordCmp.dynamicSlice_eq_extract (s := S2x64x64) S2x1x64 _ _ _ ![0, k.val, 0] _ fun a => ?_
  match a with
  | ⟨0, _⟩ => rfl
  | ⟨1, _⟩ => exact word k
  | ⟨2, _⟩ => rfl

theorem v208 (h0 : V0 (Proc.devRef .tc main_v16_0) = A) (h4 : V0 (Proc.devRef .tc main_v16_4) = cnt k) (h5 : V0 (Proc.devRef .tc main_v16_5) = L') :
    res_main_while0b_v208 V0 = rest A L' k := by
  unfold res_main_while0b_v208; rw [v200 h4 h5, h0, h4, h5]
  refine congrArg (subf · _) (WordCmp.dynamicSlice_eq_extract (s := S2x64x64) S2x64x1 _ _ _ ![0, 0, k.val] _ fun a => ?_)
  match a with
  | ⟨0, _⟩ => rfl
  | ⟨1, _⟩ => rfl
  | ⟨2, _⟩ => exact word k

theorem v214 (h0 : V0 (Proc.devRef .tc main_v16_0) = A) (h4 : V0 (Proc.devRef .tc main_v16_4) = cnt k) (h5 : V0 (Proc.devRef .tc main_v16_5) = L') :
    res_main_while0b_v214 V0 = diag A L' k := by
  unfold res_main_while0b_v214; rw [v208 h0 h4 h5, h4]
  refine congrArg Host.sqrt (WordCmp.dynamicSlice_eq_extract (s := S2x64x1) S2x1x1 _ _ _ ![0, k.val, 0] _ fun a => ?_)
  match a with
  | ⟨0, _⟩ => rfl
  | ⟨1, _⟩ => exact word k
  | ⟨2, _⟩ => rfl

/-! ## One trip, of real numbers -/

theorem sum_lt (f g : ℕ → ℝ) {k : ℕ} (hk : k ≤ 64) :
    ∑ x : Fin 64, ((if x.val < k then f x else 0 : ℝ) : EReal) * ((if x.val < k then g x else 0 : ℝ) : EReal) = ((∑ x ∈ range k, f x * g x : ℝ) : EReal) := by
  simp only [← EReal.coe_mul]
  rw [Cert.Read.coe_sum, Fin.sum_univ_eq_sum_range (fun x => (if x < k then f x else 0) * (if x < k then g x else 0)) 64]
  congr 1
  rw [← Finset.sum_subset (s₁ := range k) (fun x hx => by rw [mem_range] at *; omega)
    (fun x _ hx => by rw [mem_range] at hx; rw [if_neg hx, zero_mul])]
  exact Finset.sum_congr rfl fun x hx => by rw [if_pos (mem_range.1 hx), if_pos (mem_range.1 hx)]

section
variable {w : Fin 2 → ℕ → ℕ → ℝ} {Y : A3}
  (hA : ∀ (b : Fin 2) (i j : Fin 64), A (ix3 b i j) = (G (w b) i j : EReal))
  (hL : ∀ (b : Fin 2) (i q : Fin 64), L' (ix3 b i q) = ((if q.val < k.val then L (G (w b)) i q else 0 : ℝ) : EReal))
  (hY : ∀ (b : Fin 2) (j r : Fin 64), Y (ix3 b j r) = ((if j.val < k.val then V (G (w b)) j r else 0 : ℝ) : EReal))

include hL in
theorem row_at (b : Fin 2) (q : Fin 64) : row L' k (ix3 b 0 q) = ((if q.val < k.val then L (G (w b)) k q else 0 : ℝ) : EReal) := by
  unfold row
  pointwise
  exact hL b k q

include hA hL in
theorem rest_at (b : Fin 2) (i : Fin 64) : rest A L' k (ix3 b i 0) = ((G (w b) i k - ∑ q ∈ range k, L (G (w b)) i q * L (G (w b)) k q : ℝ) : EReal) := by
  unfold rest col
  pointwise
  rw [EReal.coe_sub, ← hA, ← sum_lt _ _ k.isLt.le]
  refine congrArg _ (Finset.sum_congr rfl fun x _ => ?_)
  rw [hL, row_at hL]

theorem D_eq (b : Fin 2) : D (G (w b)) k = Real.sqrt (G (w b) k k - ∑ q ∈ range k, L (G (w b)) k q * L (G (w b)) k q) := by
  rw [← Cert.Factor.S_sum (G_pos (w b)) k.isLt.le (Nat.le_succ _) (Nat.le_succ _)]; rfl

include hA hL in
theorem diag_at (b : Fin 2) : diag A L' k (ix3 b 0 0) = (D (G (w b)) k : EReal) := by
  unfold diag ent
  pointwise
  have := rest_at hA hL b k
  rw [D_eq, ← Cert.Read.sqrt_coe, ← this]
  rw [← Cert.Factor.S_sum (G_pos (w b)) k.isLt.le (Nat.le_succ _) (Nat.le_succ _)]; exact G_pos _ _ k.isLt

theorem div_coe {x y : ℝ} (h : 0 < y) : Ideal.div (x : EReal) (y : EReal) = ((x / y : ℝ) : EReal) := by
  rw [Ideal.div_coe h.ne', ← EReal.coe_mul, mul_one_div]

/-- Both factors after the trip. -/
def nextL (A L : A3) (k : Fin 64) : A3 :=
  select (cmpi .eq (iotaInDim S2x64x64 32 2) (broadcastInDim S2x64x64 ![] bcast_S_S2x64x64 (cnt k)))
    (select (cmpi .sge (iotaInDim S2x64x64 32 1) (broadcastInDim S2x64x64 ![] bcast_S_S2x64x64 (cnt k)))
      (broadcastInDim S2x64x64 ![0, 1, 2] bcast_S2x64x1_S2x64x64_0_1_2 (Host.divf (rest A L k) (broadcastInDim S2x64x1 ![0, 1, 2] bcast_S2x1x1_S2x64x1_0_1_2 (diag A L k))))
      (broadcastInDim S2x64x64 ![] bcast_S_S2x64x64 (constant S_ .f32 0x00000000#32))) L

/-- Both inverses after the trip. -/
def nextV (A L Y : A3) (k : Fin 64) : A3 :=
  select (cmpi .eq (iotaInDim S2x64x64 32 1) (broadcastInDim S2x64x64 ![] bcast_S_S2x64x64 (cnt k)))
    (broadcastInDim S2x64x64 ![0, 1, 2] bcast_S2x1x64_S2x64x64_0_1_2 (Host.divf (subf
        (select (cmpi .eq (extractStridedSlice S2x1x64 ![0, 0, 0] (iotaInDim S2x64x64 32 2) slices_S2x64x64_S2x1x64_0_0_0) (broadcastInDim S2x1x64 ![] bcast_S_S2x1x64 (cnt k)))
          (broadcastInDim S2x1x64 ![] bcast_S_S2x1x64 (constant S_ .f32 0x3F800000#32)) (broadcastInDim S2x1x64 ![] bcast_S_S2x1x64 (constant S_ .f32 0x00000000#32)))
        (Host.dotGeneral dot_S2x1x64_S2x64x64_S2x1x64_2_1_1_2_0_0 none (row L k) Y))
      (broadcastInDim S2x1x64 ![0, 1, 2] bcast_S2x1x1_S2x1x64_0_1_2 (diag A L k)))) Y

theorem select_ite {α : Type} (P : Prop) [Decidable P] (x y : α) : Scalar.select (if P then 1#1 else 0#1) x y = if P then x else y := by split <;> rfl

include hA hL in
theorem nextL_at (b : Fin 2) (i q : Fin 64) : nextL A L' k (ix3 b i q) = ((if q.val < k.val + 1 then L (G (w b)) i q else 0 : ℝ) : EReal) := by
  unfold nextL cnt
  pointwise
  rw [eq_word, sge_word, select_ite, select_ite, rest_at hA hL, diag_at hA hL, hL, div_coe (Cert.Factor.D_pos (G_pos (w b) _ k.isLt))]
  simp only [Fin.ext_iff, Fin.le_def]
  split
  · rename_i h
    rw [h, if_pos (show k.val < k.val + 1 by omega), show L (G (w b)) i k = if k.val ≤ i.val then S (G (w b)) k i k / D (G (w b)) k else 0 from rfl]
    by_cases h' : k.val ≤ i.val
    · rw [if_pos h', if_pos h', ← Cert.Factor.S_sum (G_pos (w b)) k.isLt.le (by omega) (Nat.le_succ _)]
    · rw [if_neg h', if_neg h']; rfl
  · rename_i h
    by_cases h' : q.val < k.val
    · rw [if_pos h', if_pos (by omega)]
    · rw [if_neg h', if_neg (by omega)]

include hA hL hY in
theorem nextV_at (b : Fin 2) (j r : Fin 64) : nextV A L' Y k (ix3 b j r) = ((if j.val < k.val + 1 then V (G (w b)) j r else 0 : ℝ) : EReal) := by
  unfold nextV cnt
  pointwise
  rw [eq_word, eq_word, select_ite, select_ite, diag_at hA hL, hY]
  simp only [row_at hL, hY]
  rw [sum_lt (fun x => L (G (w b)) k x) (fun x => V (G (w b)) x r) k.isLt.le]
  simp only [Fin.ext_iff]
  split
  · rename_i h
    rw [h, if_pos (show k.val < k.val + 1 by omega), Cert.Factor.V_eq, ← div_coe (Cert.Factor.D_pos (G_pos (w b) _ k.isLt)), EReal.coe_sub, Cert.Solve.coe_ite]
    rfl
  · rename_i h
    by_cases h' : j.val < k.val
    · rw [if_pos h', if_pos (by omega)]
    · rw [if_neg h', if_neg (by omega)]
end

/-! ## The loop -/

/-- Zero everywhere. -/
def zero3 : A3 := broadcastInDim S2x64x64 ![] bcast_S_S2x64x64 (constant S_ .f32 0x00000000#32)

theorem zero3_at (b : Fin 2) (i j : Fin 64) : zero3 (ix3 b i j) = 0 := by
  unfold zero3
  pointwise

/-- The matrices to factorise. -/
def gramR (W : A3) : A3 :=
  addf (Host.dotGeneral dot_S2x64x64_S2x64x64_S2x64x64_2_1_1_2_0_0 none (transpose S2x64x64 [0, 2, 1] W transposes_S2x64x64_S2x64x64_0_2_1) W)
    (broadcastInDim S2x64x64 ![0, 1, 2] bcast_S1x64x64_S2x64x64_0_1_2 (broadcastInDim S1x64x64 ![1, 2] bcast_S64x64_S1x64x64_1_2
      (mulf (broadcastInDim S64x64 ![] bcast_S_S64x64 (constant S_ .f32 0x38D1B717#32))
        (uitofp .f32 (cmpi .eq (addi (iotaInDim S64x64 32 0) (broadcastInDim S64x64 ![] bcast_S_S64x64 (constantI S_ 32 0#32))) (iotaInDim S64x64 32 1))))))

theorem bit (P : Prop) [Decidable P] : (FloatOps.uitofp .f32 (if P then 1#1 else 0#1 : BitVec 1) : Ideal .f32) = if P then 1 else 0 := by
  split
  · show (((1#1 : BitVec 1).toNat : ℝ) : EReal) = 1
    norm_num
  · show (((0#1 : BitVec 1).toNat : ℝ) : EReal) = 0
    norm_num

theorem gramR_at {W : A3} {w : Fin 2 → ℕ → ℕ → ℝ} (hW : ∀ (b : Fin 2) (i j : Fin 64), W (ix3 b i j) = (w b i j : EReal)) (b : Fin 2) (i j : Fin 64) :
    gramR W (ix3 b i j) = (G (w b) i j : EReal) := by
  unfold gramR
  pointwise
  simp only [hW]
  rw [Cert.Solve.ofBits_eps, show IntOp.addi (BitVec.ofNat 32 i.val) 0#32 = BitVec.ofNat 32 i.val from BitVec.add_zero _, eq_word, bit]
  simp only [Fin.ext_iff, ← EReal.coe_mul]
  unfold G
  rw [Cert.Read.coe_sum, EReal.coe_add, Fin.sum_univ_eq_sum_range (fun r => w b r i * w b r j) 64, Cert.Solve.coe_ite]
  split <;> simp

variable (m : (ℓ : Loc nD τ sig) → Buf (Elt Ideal) ℓ) (c : Dev nD)

theorem entry0 : entryContents preI m c (Proc.devRef .tc main_v16_0) = gramR (m ((c.tc : Thread nD τ).loc main_arg2)) := by
  simp only [entryContents, afterL_cons, afterL_nil]
  after_reads_simp
  rfl
theorem entry1 : entryContents preI m c (Proc.devRef .tc main_v16_1) = iotaInDim S2x64x64 32 2 := by
  simp only [entryContents, afterL_cons, afterL_nil]
  after_reads_simp
  rfl
theorem entry2 : entryContents preI m c (Proc.devRef .tc main_v16_2) = iotaInDim S2x64x64 32 1 := by
  simp only [entryContents, afterL_cons, afterL_nil]
  after_reads_simp
  rfl
theorem entry4 : entryContents preI m c (Proc.devRef .tc main_v16_4) = cnt 0 := by
  simp only [entryContents, afterL_cons, afterL_nil]
  after_reads_simp
  rfl
theorem entry5 : entryContents preI m c (Proc.devRef .tc main_v16_5) = zero3 := by
  simp only [entryContents, afterL_cons, afterL_nil]
  after_reads_simp
  rfl
theorem entry6 : entryContents preI m c (Proc.devRef .tc main_v16_6) = zero3 := by
  simp only [entryContents, afterL_cons, afterL_nil]
  after_reads_simp
  rfl

/-- What stands before trip `k`. -/
structure St (A : A3) (w : Fin 2 → ℕ → ℕ → ℝ) (k : ℕ) (V0 : Valuation τ sig (Elt Ideal)) : Prop where
  h0 : V0 (Proc.devRef .tc main_v16_0) = A
  h1 : V0 (Proc.devRef .tc main_v16_1) = iotaInDim S2x64x64 32 2
  h2 : V0 (Proc.devRef .tc main_v16_2) = iotaInDim S2x64x64 32 1
  h4 : V0 (Proc.devRef .tc main_v16_4) = cnt k
  h5 : ∃ L' : A3, V0 (Proc.devRef .tc main_v16_5) = L' ∧ ∀ (b : Fin 2) (i q : Fin 64), L' (ix3 b i q) = ((if q.val < k then L (G (w b)) i q else 0 : ℝ) : EReal)
  h6 : ∃ Y : A3, V0 (Proc.devRef .tc main_v16_6) = Y ∧ ∀ (b : Fin 2) (j r : Fin 64), Y (ix3 b j r) = ((if j.val < k then V (G (w b)) j r else 0 : ℝ) : EReal)

theorem step {A : A3} {w : Fin 2 → ℕ → ℕ → ℝ} (hA : ∀ (b : Fin 2) (i j : Fin 64), A (ix3 b i j) = (G (w b) i j : EReal)) {k : ℕ} (hk : k < 64)
    {V0 : Valuation τ sig (Elt Ideal)} (h : St A w k V0) : St A w (k + 1) (STEP V0) := by
  obtain ⟨h0, h1, h2, h4, ⟨L', h5, hL⟩, ⟨Y, h6, hY⟩⟩ := h
  refine ⟨(STEP_main_v16_0 V0).trans h0, (STEP_main_v16_1 V0).trans h1, (STEP_main_v16_2 V0).trans h2, (STEP_main_v16_4 V0).trans ?_,
    ⟨nextL A L' ⟨k, hk⟩, (STEP_main_v16_5 V0).trans ?_, nextL_at hA hL⟩, ⟨nextV A L' Y ⟨k, hk⟩, (STEP_main_v16_6 V0).trans ?_, nextV_at hA hL hY⟩⟩
  · unfold step_main_v16_4; rw [h4]
    exact funext fun _ => (BitVec.ofNat_add ..).symm
  · unfold step_main_v16_5; rw [v208 (k := ⟨k, hk⟩) h0 h4 h5, v214 (k := ⟨k, hk⟩) h0 h4 h5, h1, h2, h4, h5]; rfl
  · unfold step_main_v16_6; rw [v200 (k := ⟨k, hk⟩) h4 h5, v214 (k := ⟨k, hk⟩) h0 h4 h5, h1, h2, h4, h6]; rfl

/-- The inverses the loop leaves. -/
theorem final {W : A3} (hm : m ((c.tc : Thread nD τ).loc main_arg2) = W) {w : Fin 2 → ℕ → ℕ → ℝ}
    (hW : ∀ (b : Fin 2) (i j : Fin 64), W (ix3 b i j) = (w b i j : EReal)) :
    ∃ Y : A3, (STEP^[64] (entryContents preI m c)) (Proc.devRef .tc main_v16_6) = Y ∧
      ∀ (b : Fin 2) (j r : Fin 64), Y (ix3 b j r) = (V (G (w b)) j r : EReal) := by
  have H : ∀ k ≤ 64, St (gramR W) w k (STEP^[k] (entryContents preI m c)) := by
    intro k hk
    induction k with
    | zero =>
      exact ⟨(entry0 m c).trans (congrArg gramR hm), entry1 m c, entry2 m c, entry4 m c, ⟨_, entry5 m c, fun b i q => zero3_at b i q⟩,
        ⟨_, entry6 m c, fun b i q => zero3_at b i q⟩⟩
    | succ k ih => rw [Function.iterate_succ_apply']; exact step (gramR_at hW) (by omega) (ih (by omega))
  obtain ⟨Y, hY, hY'⟩ := (H 64 le_rfl).h6
  exact ⟨Y, hY, fun b j r => by rw [hY', if_pos j.isLt]⟩

end Cert.RefLoop

end
-- ==== Proof.RefRows.lean ====
module

public import proofs.«01_k».proof.Proof.Spec
public import proofs.«01_k».proof.Proof.RefLoop

/-!
What the reference computes after its loop, operation by operation, and its entries.
-/

@[expose] public section

set_option maxRecDepth 65536

noncomputable section

namespace Cert.RefRows

open Idealize.ShloMosaic Idealize.ShloMosaic.TcCoe Idealize.SL.Sem Cert.ReferenceIdeal Cert.ReferenceIdeal.Gen Cert.ReferenceIdeal.Value Idealize.ShloMosaic.StableHlo
open Cert.Spec

/-- Node features, adjacencies and so on, as whole arrays. -/
abbrev Rows := FVec Ideal S10000x64 .f32
abbrev Scores := FVec Ideal S10000x40 .f32

/-- One number everywhere. -/
def every (b : BitVec 32) : Rows := broadcastInDim S10000x64 ![] bcast_S_S10000x64 (constant (F := Ideal) S_ .f32 b)

def feature (k : ℕ) (hx : S2x10000x128.Slices ![k, 0, 0] S1x10000x128) (hw : S2x64x128.Slices ![k, 0, 0] S1x64x128) (hb : S2x64.Slices ![k, 0] S1x64)
    (x : FVec Ideal S2x10000x128 .f32) (w : FVec Ideal S2x64x128 .f32) (b : FVec Ideal S2x64 .f32) : Rows :=
  maximumf (addf (Host.dotGeneral dot_S10000x128_S128x64_S10000x64_1_0_0_1_n_n none (shapeCast _ (extractStridedSlice S1x10000x128 ![k, 0, 0] x hx) shapeCasts_S1x10000x128_S10000x128)
    (transpose S128x64 [1, 0] (shapeCast _ (extractStridedSlice S1x64x128 ![k, 0, 0] w hw) shapeCasts_S1x64x128_S64x128) transposes_S64x128_S128x64_1_0))
    (broadcastInDim S10000x64 ![0, 1] bcast_S1x64_S10000x64_0_1 (broadcastInDim S1x64 ![1] bcast_S64_S1x64_1 (shapeCast _ (extractStridedSlice S1x64 ![k, 0] b hb) shapeCasts_S1x64_S64))))
    (every 0x00000000#32)

def support (k : ℕ) (ha : S2x10000x10000.Slices ![k, 0, 0] S1x10000x10000) (a : FVec Ideal S2x10000x10000 .f32) (ft z : Rows) : Rows :=
  addf (mulf (every 0x3F666666#32) (Host.dotGeneral dot_S10000x10000_S10000x64_S10000x64_1_0_0_1_n_n none (shapeCast _ (extractStridedSlice S1x10000x10000 ![k, 0, 0] a ha) shapeCasts_S1x10000x10000_S10000x10000) z))
    (mulf (every 0x3DCCCCCD#32) ft)

def convolve (b b' : BitVec 32) (i : ℕ) (hi : S2x64x64.Slices ![i, 0, 0] S1x64x64) (o : FVec Ideal S2x64x64 .f32) (s : Rows) : Rows :=
  maximumf (Host.tanh (addf (mulf (every b) (Host.dotGeneral dot_S10000x64_S64x64_S10000x64_1_0_0_1_n_n none s (shapeCast _ (extractStridedSlice S1x64x64 ![i, 0, 0] o hi) shapeCasts_S1x64x64_S64x64)))
    (mulf (every b') s))) (every 0x00000000#32)

def weights (w y : FVec Ideal S2x64x64 .f32) : FVec Ideal S2x64x64 .f32 :=
  Host.dotGeneral dot_S2x64x64_S2x64x64_S2x64x64_2_1_1_2_0_0 none w (transpose S2x64x64 [0, 2, 1] y transposes_S2x64x64_S2x64x64_0_2_1)

def blend (w : FVec Ideal S1 .f32) (p q : Rows) : Rows :=
  addf (mulf (broadcastInDim S10000x64 ![] bcast_S_S10000x64 (shapeCast _ w shapeCasts_S1_S_)) p)
    (mulf (broadcastInDim S10000x64 ![] bcast_S_S10000x64 (subf (constant S_ .f32 0x3F800000#32) (shapeCast _ w shapeCasts_S1_S_))) q)

def scores (u : FVec Ideal S40x64 .f32) (v : FVec Ideal S40 .f32) (p q : Rows) : Scores :=
  addf (Host.dotGeneral dot_S10000x64_S64x40_S10000x40_1_0_0_1_n_n none (addf p q) (transpose S64x40 [1, 0] u transposes_S40x64_S64x40_1_0))
    (broadcastInDim S10000x40 ![0, 1] bcast_S1x40_S10000x40_0_1 (broadcastInDim S1x40 ![1] bcast_S40_S1x40_1 v))

def peaks (z : Scores) : Scores :=
  broadcastInDim S10000x40 ![0, 1] bcast_S10000x1_S10000x40_0_1 (broadcastInDim S10000x1 ![0] bcast_S10000_S10000x1_0
    (Host.reduce FloatOps.maximumf z (constant S_ .f32 0xFF800000#32) reducesTo_S10000x40_S10000_d1 h_S_))

def lsm (z : Scores) : Scores :=
  subf (subf z (peaks z)) (broadcastInDim S10000x40 ![0, 1] bcast_S10000x1_S10000x40_0_1 (Host.log (broadcastInDim S10000x1 ![0] bcast_S10000_S10000x1_0
    (Host.reduceAdd (Host.exp (subf z (peaks z))) (constant S_ .f32 0x00000000#32) reducesTo_S10000x40_S10000_d1 h_S_))))

def total (s t : Scores) : Scores := addf (addf (broadcastInDim S10000x40 ![] bcast_S_S10000x40 (constant S_ .f32 0x00000000#32)) s) t

def both (s t : Scores) : FVec Ideal S2x10000x40 .f32 :=
  select (cmpi .eq (iotaInDim S2x10000x40 32 0) (broadcastInDim S2x10000x40 ![] bcast_S_S2x10000x40 (constantI S_ 32 0#32)))
    (broadcastInDim S2x10000x40 ![1, 2] bcast_S10000x40_S2x10000x40_1_2 s) (broadcastInDim S2x10000x40 ![1, 2] bcast_S10000x40_S2x10000x40_1_2 t)

def average (l : FVec Ideal S2x10000x40 .f32) : Scores :=
  Host.divf (Host.reduceAdd l (constant S_ .f32 0x00000000#32) reducesTo_S2x10000x40_S10000x40_d0 h_S_) (broadcastInDim S10000x40 ![] bcast_S_S10000x40 (constant S_ .f32 0x40000000#32))

/-! ## The layers over the inputs -/

section
variable (x : FVec Ideal S2x10000x128 .f32) (a : FVec Ideal S2x10000x10000 .f32) (w : FVec Ideal S2x64x64 .f32) (fw : FVec Ideal S2x64x128 .f32) (fb : FVec Ideal S2x64 .f32)
  (u : FVec Ideal S40x64 .f32) (v : FVec Ideal S40 .f32) (g : FVec Ideal S1 .f32) (y : FVec Ideal S2x64x64 .f32)

def feat0 : Rows := feature 0 slices_S2x10000x128_S1x10000x128_0_0_0 slices_S2x64x128_S1x64x128_0_0_0 slices_S2x64_S1x64_0_0 x fw fb
def feat1 : Rows := feature 1 slices_S2x10000x128_S1x10000x128_1_0_0 slices_S2x64x128_S1x64x128_1_0_0 slices_S2x64_S1x64_1_0 x fw fb
def sup0 (ft z : Rows) : Rows := support 0 slices_S2x10000x10000_S1x10000x10000_0_0_0 a ft z
def sup1 (ft z : Rows) : Rows := support 1 slices_S2x10000x10000_S1x10000x10000_1_0_0 a ft z
def conv0 (s : Rows) : Rows := convolve 0x3ECF991F#32 0x3F183370#32 0 slices_S2x64x64_S1x64x64_0_0_0 (weights w y) s
def conv1 (s : Rows) : Rows := convolve 0x3E647FBE#32 0x3F46E010#32 1 slices_S2x64x64_S1x64x64_1_0_0 (weights w y) s
def r1 : Rows := conv0 w y (sup0 a (feat0 x fw fb) (feat0 x fw fb))
def r2 : Rows := conv1 w y (sup0 a (feat0 x fw fb) (r1 x a w fw fb y))
def ra : Rows := blend g (feat1 x fw fb) (r1 x a w fw fb y)
def r3 : Rows := conv0 w y (sup1 a (feat1 x fw fb) (ra x a w fw fb g y))
def rb : Rows := blend g (r3 x a w fw fb g y) (r2 x a w fw fb y)
def r4 : Rows := conv1 w y (sup1 a (feat1 x fw fb) (rb x a w fw fb g y))
def sc0 : Scores := scores u v (r1 x a w fw fb y) (r2 x a w fw fb y)
def sc1 : Scores := scores u v (r3 x a w fw fb g y) (r4 x a w fw fb g y)

variable (V0 : Valuation τ sig (Elt Ideal)) (h0 : V0 (Proc.devRef .tc main_arg0) = x) (h1 : V0 (Proc.devRef .tc main_arg1) = a) (h2 : V0 (Proc.devRef .tc main_arg2) = w)
  (h3 : V0 (Proc.devRef .tc main_arg3) = fw) (h4 : V0 (Proc.devRef .tc main_arg4) = fb) (h5 : V0 (Proc.devRef .tc main_arg5) = u) (h6 : V0 (Proc.devRef .tc main_arg6) = v)
  (h7 : V0 (Proc.devRef .tc main_arg7) = g) (hy : V0 (Proc.devRef .tc main_v16_6) = y)
include h0 h1 h2 h3 h4 h5 h6 h7 hy

theorem out_logs : out_main_v192 (F := Ideal) V0 = both (lsm (sc0 x a w fw fb u v y)) (lsm (sc1 x a w fw fb u v g y)) := by
  subst h0 h1 h2 h3 h4 h5 h6 h7 hy; unfold out_main_v192; rfl
theorem out_fin : out_main_v188 (F := Ideal) V0 = lsm (total (sc0 x a w fw fb u v y) (sc1 x a w fw fb u v g y)) := by
  subst h0 h1 h2 h3 h4 h5 h6 h7 hy; unfold out_main_v188; rfl
theorem out_mean : out_main_v178 (F := Ideal) V0 = average (both (lsm (sc0 x a w fw fb u v y)) (lsm (sc1 x a w fw fb u v g y))) := by
  subst h0 h1 h2 h3 h4 h5 h6 h7 hy; unfold out_main_v178; rfl
end

end Cert.RefRows

end
-- ==== Proof.RefVals.lean ====
module

public import proofs.«01_k».proof.Proof.RefRows

/-!
The entries of the reference's results, as the formulas.
-/

@[expose] public section

set_option maxRecDepth 65536

noncomputable section

namespace Cert.RefVals

open Idealize.ShloMosaic Idealize.ShloMosaic.TcCoe Idealize.SL.Sem Cert.ReferenceIdeal Cert.ReferenceIdeal.Gen Cert.ReferenceIdeal.Value Idealize.ShloMosaic.StableHlo
open Cert.Spec Cert.RefRows

section
variable (x : FVec Ideal S2x10000x128 .f32) (a : FVec Ideal S2x10000x10000 .f32) (w : FVec Ideal S2x64x64 .f32) (fw : FVec Ideal S2x64x128 .f32) (fb : FVec Ideal S2x64 .f32)
  (u : FVec Ideal S40x64 .f32) (v : FVec Ideal S40 .f32) (g : FVec Ideal S1 .f32) (y : FVec Ideal S2x64x64 .f32)

theorem feature_at (k : ℕ) (hk : k < 2) (hx hw hb) (r : Fin 10000) (h : Fin 64) :
    feature k hx hw hb x fw fb (ix2 r h) = max (∑ f, x (ix3 ⟨k, hk⟩ r f) * fw (ix3 ⟨k, hk⟩ h f) + fb (ix2 ⟨k, hk⟩ h)) 0 := by
  unfold feature every; pointwise

theorem support_at (k : ℕ) (hk : k < 2) (ha) (ft z : Rows) (r : Fin 10000) (h : Fin 64) :
    support k ha a ft z (ix2 r h) = Ideal.ofBits .f32 0x3F666666#32 * ∑ m, a (ix3 ⟨k, hk⟩ r m) * z (ix2 m h) + Ideal.ofBits .f32 0x3DCCCCCD#32 * ft (ix2 r h) := by
  unfold support every; pointwise

theorem weights_at (k : Fin 2) (r : Fin 64) (h : Fin 64) : weights w y (ix3 k r h) = ∑ j, w (ix3 k r j) * y (ix3 k h j) := by
  unfold weights; pointwise

theorem convolve_at (b b' : BitVec 32) (k : ℕ) (hk : k < 2) (ho) (o : FVec Ideal S2x64x64 .f32) (z : Rows) (r : Fin 10000) (h : Fin 64) :
    convolve b b' k ho o z (ix2 r h) = max (Ideal.tanh (Ideal.ofBits .f32 b * ∑ q, z (ix2 r q) * o (ix3 ⟨k, hk⟩ q h) + Ideal.ofBits .f32 b' * z (ix2 r h))) 0 := by
  unfold convolve every; pointwise

theorem blend_at (p q : Rows) (r : Fin 10000) (h : Fin 64) : blend g p q (ix2 r h) = g (ix1 0) * p (ix2 r h) + (1 - g (ix1 0)) * q (ix2 r h) := by
  unfold blend; pointwise

theorem scores_at (p q : Rows) (r : Fin 10000) (h : Fin 40) : scores u v p q (ix2 r h) = ∑ j, (p (ix2 r j) + q (ix2 r j)) * u (ix2 h j) + v (ix1 h) := by
  unfold scores; pointwise

theorem peaks_at (z : Scores) (r : Fin 10000) (h : Fin 40) : peaks z (ix2 r h) = peak fun k => z (ix2 r k) := by
  unfold peaks peak; pointwise

theorem lsm_at (z : Scores) (r : Fin 10000) (h : Fin 40) : lsm z (ix2 r h) = logSoftmax (fun k => z (ix2 r k)) h := by
  unfold lsm logSoftmax; pointwise; simp only [peaks_at]

theorem total_at (z t : Scores) (r : Fin 10000) (h : Fin 40) : total z t (ix2 r h) = z (ix2 r h) + t (ix2 r h) := by
  unfold total; pointwise

theorem both_at (z t : Scores) (r : Fin 10000) (h : Fin 40) : both z t (ix3 0 r h) = z (ix2 r h) ∧ both z t (ix3 1 r h) = t (ix2 r h) := by
  constructor
  · unfold both; pointwise
  · unfold both; pointwise; exact if_neg (by decide)

theorem two : Ideal.ofBits .f32 0x40000000#32 = ((2 : ℝ) : EReal) := by
  simp [Ideal.ofBits, Ideal.ieee, -EReal.coe_mul]; norm_num

theorem average_at (z : FVec Ideal S2x10000x40 .f32) (r : Fin 10000) (h : Fin 40) : average z (ix2 r h) = (z (ix3 0 r h) + z (ix3 1 r h)) * ((1 / 2 : ℝ) : EReal) := by
  unfold average; pointwise
  rw [two, Ideal.div_coe (by norm_num), Fin.sum_univ_two]

/-! ## With real inputs -/

variable (I : Ins)

/-- The array's entries are those real numbers. -/
def Has (z : Rows) (f : Fin 10000 → Fin 64 → ℝ) : Prop := ∀ r h, z (ix2 r h) = (f r h : EReal)

variable {x a w fw fb u v g y I}
variable (hx : ∀ k r f, x (ix3 k r f) = (I.x k r f : EReal)) (ha : ∀ k r f, a (ix3 k r f) = (I.adj k r f : EReal))
  (hw : ∀ (k : Fin 2) (r f : Fin 64), w (ix3 k r f) = (I.cw k r f : EReal)) (hfw : ∀ k r f, fw (ix3 k r f) = (I.fw k r f : EReal)) (hfb : ∀ k h, fb (ix2 k h) = (I.fb k h : EReal))
  (hu : ∀ c h, u (ix2 c h) = I.u c h) (hv : ∀ c, v (ix1 c) = I.v c) (hg : g (ix1 0) = (I.w : EReal))
  (hy : ∀ (k : Fin 2) (j r : Fin 64), y (ix3 k j r) = (Cert.Factor.V (Cert.Solve.G (I.cw k)) j r : EReal))

include hx hfw hfb in
theorem feature_has (k : ℕ) (hk : k < 2) (h1 h2 h3) : Has (feature k h1 h2 h3 x fw fb) (feat I ⟨k, hk⟩) := fun r h => by
  rw [feature_at x fw fb k hk]
  simp only [hx, hfw, hfb, ← EReal.coe_mul, coe_sumF, ← EReal.coe_add, ← EReal.coe_zero, coe_max]
  rfl

include ha in
theorem support_has (k : ℕ) (hk : k < 2) (h1) {ft z : Rows} {f s : Fin 10000 → Fin 64 → ℝ} (hf : Has ft f) (hz : Has z s) :
    Has (support k h1 a ft z) (sup (I.adj ⟨k, hk⟩) f s) := fun r h => by
  rw [support_at a k hk]
  simp only [ha, lit_e, lit_f, hf r h, hz _ h, ← EReal.coe_mul, coe_sumF, ← EReal.coe_add]
  rfl

include hw hy in
theorem weights_has (k : Fin 2) (q h : Fin 64) : weights w y (ix3 k q h) = (ortho I k q h : EReal) := by
  rw [weights_at]
  simp only [hw, hy, ← EReal.coe_mul, coe_sumF]
  unfold ortho Cert.Factor.X
  rw [← Fin.sum_univ_eq_sum_range (fun r => I.cw k q r * Cert.Factor.V (Cert.Solve.G (I.cw k)) h r) 64]

include hw hy in
theorem convolve_has {b b' : BitVec 32} (hb : Ideal.ofBits .f32 b = (lit b : EReal)) (hb' : Ideal.ofBits .f32 b' = (lit b' : EReal)) (k : ℕ) (hk : k < 2) (h1)
    {ad : Fin 10000 → Fin 10000 → ℝ} {z : Rows} {f s : Fin 10000 → Fin 64 → ℝ} (hz : Has z (sup ad f s)) :
    Has (convolve b b' k h1 (weights w y) z) (conv (lit b) (lit b') (ortho I ⟨k, hk⟩) ad f s) := fun r h => by
  rw [convolve_at b b' k hk]
  simp only [weights_has hw hy, hb, hb', hz r, ← EReal.coe_mul, coe_sumF, ← EReal.coe_add, tanh_coe, ← EReal.coe_zero, coe_max]
  rfl

include hg in
theorem blend_has {p q : Rows} {s t : Fin 10000 → Fin 64 → ℝ} (hp : Has p s) (hq : Has q t) : Has (blend g p q) fun r h => I.w * s r h + (1 - I.w) * t r h := fun r h => by
  rw [blend_at, hg, hp r h, hq r h]
  simp only [← EReal.coe_one, ← EReal.coe_sub, ← EReal.coe_mul, ← EReal.coe_add]

include hu hv in
theorem scores_has {p q : Rows} {s t : Fin 10000 → Fin 64 → ℝ} (hp : Has p s) (hq : Has q t) (r : Fin 10000) (c : Fin 40) : scores u v p q (ix2 r c) = score I s t r c := by
  rw [scores_at, hv]
  simp only [hp r, hq r, hu]
  rfl

include hx hfw hfb ha hw hy
theorem r1_has : Has (r1 x a w fw fb y) (f1 I) :=
  convolve_has hw hy lit_a lit_b 0 (by norm_num) _ (support_has ha 0 (by norm_num) _ (feature_has hx hfw hfb 0 (by norm_num) _ _ _) (feature_has hx hfw hfb 0 (by norm_num) _ _ _))
theorem r2_has : Has (r2 x a w fw fb y) (f2 I) :=
  convolve_has hw hy lit_c lit_d 1 (by norm_num) _ (support_has ha 0 (by norm_num) _ (feature_has hx hfw hfb 0 (by norm_num) _ _ _) (r1_has hx ha hw hfw hfb hy))
include hg
theorem ra_has : Has (ra x a w fw fb g y) (za I) := blend_has hg (feature_has hx hfw hfb 1 (by norm_num) _ _ _) (r1_has hx ha hw hfw hfb hy)
theorem r3_has : Has (r3 x a w fw fb g y) (f3 I) :=
  convolve_has hw hy lit_a lit_b 0 (by norm_num) _ (support_has ha 1 (by norm_num) _ (feature_has hx hfw hfb 1 (by norm_num) _ _ _) (ra_has hx ha hw hfw hfb hg hy))
theorem rb_has : Has (rb x a w fw fb g y) (zb I) := blend_has hg (r3_has hx ha hw hfw hfb hg hy) (r2_has hx ha hw hfw hfb hy)
theorem r4_has : Has (r4 x a w fw fb g y) (f4 I) :=
  convolve_has hw hy lit_c lit_d 1 (by norm_num) _ (support_has ha 1 (by norm_num) _ (feature_has hx hfw hfb 1 (by norm_num) _ _ _) (rb_has hx ha hw hfw hfb hg hy))
include hu hv
theorem sc0_has (r : Fin 10000) : (fun c => sc0 x a w fw fb u v y (ix2 r c)) = score1 I r :=
  funext fun c => scores_has hu hv (r1_has hx ha hw hfw hfb hy) (r2_has hx ha hw hfw hfb hy) r c
theorem sc1_has (r : Fin 10000) : (fun c => sc1 x a w fw fb u v g y (ix2 r c)) = score2 I r :=
  funext fun c => scores_has hu hv (r3_has hx ha hw hfw hfb hg hy) (r4_has hx ha hw hfw hfb hg hy) r c

/-- The three results' entries. -/
theorem logs_at (r : Fin 10000) (c : Fin 40) :
    both (lsm (sc0 x a w fw fb u v y)) (lsm (sc1 x a w fw fb u v g y)) (ix3 0 r c) = logSoftmax (score1 I r) c ∧
    both (lsm (sc0 x a w fw fb u v y)) (lsm (sc1 x a w fw fb u v g y)) (ix3 1 r c) = logSoftmax (score2 I r) c := by
  rw [(both_at _ _ r c).1, (both_at _ _ r c).2, lsm_at, lsm_at, sc0_has hx ha hw hfw hfb hu hv hg hy, sc1_has hx ha hw hfw hfb hu hv hg hy]
  exact ⟨rfl, rfl⟩
theorem fin_at (r : Fin 10000) (c : Fin 40) :
    lsm (total (sc0 x a w fw fb u v y) (sc1 x a w fw fb u v g y)) (ix2 r c) = logSoftmax (fun k => score1 I r k + score2 I r k) c := by
  rw [lsm_at]
  simp only [total_at]
  rw [← sc0_has hx ha hw hfw hfb hu hv hg hy, ← sc1_has hx ha hw hfw hfb hu hv hg hy]
theorem mean_at (r : Fin 10000) (c : Fin 40) :
    average (both (lsm (sc0 x a w fw fb u v y)) (lsm (sc1 x a w fw fb u v g y))) (ix2 r c) = (logSoftmax (score1 I r) c + logSoftmax (score2 I r) c) * ((1 / 2 : ℝ) : EReal) := by
  rw [average_at, (logs_at hx ha hw hfw hfb hu hv hg hy r c).1, (logs_at hx ha hw hfw hfb hu hv hg hy r c).2]
end

end Cert.RefVals

end
-- ==== Proof.RefRes.lean ====
module

public import proofs.«01_k».proof.Proof.RefVals
public import proofs.«01_k».proof.Proof.RefLoop

/-!
The reference's results, entry by entry, as the formulas over the arguments.
-/

@[expose] public section

set_option maxRecDepth 65536

noncomputable section

namespace Cert.RefRes

open Idealize.ShloMosaic Idealize.ShloMosaic.TcCoe Idealize.SL.Sem Cert.ReferenceIdeal Cert.ReferenceIdeal.Gen Cert.ReferenceIdeal.Value Idealize.ShloMosaic.StableHlo
open Cert.Spec Cert.RefRows

variable (m : (ℓ : Loc nD τ sig) → Buf (Elt Ideal) ℓ) (c : Dev nD)

/-- What the operations after the loop start from. -/
abbrev after : Valuation τ sig (Elt Ideal) := STEP^[64] (entryContents preI m c)

/-- The fourth result is the mixing weight itself. -/
theorem out_weight {g : FVec Ideal S1 .f32} (e7 : m ((c.tc : Thread nD τ).loc main_arg7) = g) : out_main_v194 (F := Ideal) (after m c) = g := by
  unfold out_main_v194 after
  rw [iter_main_arg7 m c 64, e7]
  funext i
  exact congrArg g (funext fun b => by match b with | 0 => exact Subsingleton.elim (α := Fin 1) _ _)

variable {x : FVec Ideal S2x10000x128 .f32} {a : FVec Ideal S2x10000x10000 .f32} {w : FVec Ideal S2x64x64 .f32} {fw : FVec Ideal S2x64x128 .f32}
  {fb : FVec Ideal S2x64 .f32} {u : FVec Ideal S40x64 .f32} {v : FVec Ideal S40 .f32} {g : FVec Ideal S1 .f32} {I : Ins}
  (e0 : m ((c.tc : Thread nD τ).loc main_arg0) = x) (e1 : m ((c.tc : Thread nD τ).loc main_arg1) = a)
  (e2 : m ((c.tc : Thread nD τ).loc main_arg2) = w) (e3 : m ((c.tc : Thread nD τ).loc main_arg3) = fw)
  (e4 : m ((c.tc : Thread nD τ).loc main_arg4) = fb) (e5 : m ((c.tc : Thread nD τ).loc main_arg5) = u)
  (e6 : m ((c.tc : Thread nD τ).loc main_arg6) = v) (e7 : m ((c.tc : Thread nD τ).loc main_arg7) = g)
  (hx : ∀ k r f, x (ix3 k r f) = (I.x k r f : EReal)) (ha : ∀ k r f, a (ix3 k r f) = (I.adj k r f : EReal))
  (hw : ∀ (k : Fin 2) (r f : Fin 64), w (ix3 k r f) = (I.cw k r f : EReal)) (hfw : ∀ k h f, fw (ix3 k h f) = (I.fw k h f : EReal))
  (hfb : ∀ k h, fb (ix2 k h) = (I.fb k h : EReal)) (hu : ∀ c h, u (ix2 c h) = I.u c h) (hv : ∀ c, v (ix1 c) = I.v c) (hg : g (ix1 0) = (I.w : EReal))
include e0 e1 e2 e3 e4 e5 e6 e7 hx ha hw hfw hfb hu hv hg

/-- The other three results. -/
theorem outs (r : Fin 10000) (k : Fin 40) :
    (out_main_v188 (F := Ideal) (after m c) : Scores) (ix2 r k) = logSoftmax (fun k => score1 I r k + score2 I r k) k ∧
    (out_main_v178 (F := Ideal) (after m c) : Scores) (ix2 r k) = (logSoftmax (score1 I r) k + logSoftmax (score2 I r) k) * ((1 / 2 : ℝ) : EReal) ∧
    (out_main_v192 (F := Ideal) (after m c) : FVec Ideal S2x10000x40 .f32) (ix3 0 r k) = logSoftmax (score1 I r) k ∧
    (out_main_v192 (F := Ideal) (after m c) : FVec Ideal S2x10000x40 .f32) (ix3 1 r k) = logSoftmax (score2 I r) k := by
  obtain ⟨y, hY, hy⟩ := RefLoop.final m c e2 hw
  have h0 := (iter_main_arg0 m c 64).trans e0
  have h1 := (iter_main_arg1 m c 64).trans e1
  have h2 := (iter_main_arg2 m c 64).trans e2
  have h3 := (iter_main_arg3 m c 64).trans e3
  have h4 := (iter_main_arg4 m c 64).trans e4
  have h5 := (iter_main_arg5 m c 64).trans e5
  have h6 := (iter_main_arg6 m c 64).trans e6
  have h7 := (iter_main_arg7 m c 64).trans e7
  rw [out_fin x a w fw fb u v g y _ h0 h1 h2 h3 h4 h5 h6 h7 hY, out_mean x a w fw fb u v g y _ h0 h1 h2 h3 h4 h5 h6 h7 hY,
    out_logs x a w fw fb u v g y _ h0 h1 h2 h3 h4 h5 h6 h7 hY]
  exact ⟨RefVals.fin_at hx ha hw hfw hfb hu hv hg hy r k, RefVals.mean_at hx ha hw hfw hfb hu hv hg hy r k, RefVals.logs_at hx ha hw hfw hfb hu hv hg hy r k⟩

end Cert.RefRes

end
-- ==== Proof.Finite.lean ====
module

public import proofs.«01_k».proof.Pre_finite
public import Idealize.ShloMosaic.Lib.Pointwise
public import Idealize.ShloMosaic.Lib.Decide
public import Idealize.ShloMosaic.PureOps.Ideal

/-!
What the precondition says of the entries: every one of them is a real number.
-/

@[expose] public section

set_option maxRecDepth 65536

noncomputable section

namespace Cert.Finite

open Idealize.ShloMosaic
open Cert.Pre_finite

/-- The shapes' side conditions. -/
theorem facts : Cert.Pre_finite.Facts where
  bcast_S_S2x10000x128 := by decide
  reducesTo_S2x10000x128_S_d0_1_2 := by decide
  h_S_ := by decide
  bcast_S_S2x10000x10000 := by decide
  reducesTo_S2x10000x10000_S_d0_1_2 := by decide
  bcast_S_S2x64x64 := by decide
  reducesTo_S2x64x64_S_d0_1_2 := by decide
  bcast_S_S2x64x128 := by decide
  reducesTo_S2x64x128_S_d0_1_2 := by decide
  bcast_S_S2x64 := by decide
  reducesTo_S2x64_S_d0_1 := by decide
  bcast_S_S1 := by decide
  reducesTo_S1_S_d0 := by decide

theorem andi_one : ∀ a b : BitVec 1, IntOp.andi a b = 1#1 → a = 1#1 ∧ b = 1#1 := by decide

/-- A conjunction over a list is true only if each part is. -/
theorem foldl_andi {ι : Type} (g : ι → BitVec 1) : ∀ (l : List ι) (r : BitVec 1),
    l.foldl (fun r n => IntOp.andi r (g n)) r = 1#1 → r = 1#1 ∧ ∀ n ∈ l, g n = 1#1
  | [], r, h => ⟨h, by simp⟩
  | n :: l, r, h => by
    obtain ⟨h1, h2⟩ := foldl_andi g l _ h
    obtain ⟨h3, h4⟩ := andi_one _ _ h1
    exact ⟨h3, by simpa [h4] using h2⟩

/-- A conjunction over an array is true only if each entry is. -/
theorem reduce_all {s : Shape} {ax : List (Fin s.rank)} (x : IVec s 1) (i0 : IVec S_ 1) (h : s.ReducesTo ax S_) (hu : 0 < S_.numel) (j : S_.Idx)
    (e : Host.reduce IntOp.andi x i0 h hu j = 1#1) (i : s.Idx) : x i = 1#1 := by
  have := (foldl_andi (fun n => x (s.rowMajor.symm n)) _ _ e).2 (s.rowMajor i)
    (List.mem_filter.mpr ⟨List.mem_finRange _, decide_eq_true (funext fun a => a.elim0)⟩)
  simpa using this

/-- An extended real number whose absolute value is below infinity is real. -/
theorem real_of {x : EReal} (h : max x (-x) < ⊤) : x = (x.toReal : EReal) := by
  refine (EReal.coe_toReal ?_ ?_).symm
  · rintro rfl; simp at h
  · rintro rfl; simp at h

theorem top_of : Ideal.ofBits .f32 0x7F800000#32 = ⊤ := by simp [Ideal.ofBits, Ideal.ieee]

theorem entry {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    x i = ((x i : EReal).toReal : EReal) := by
  apply real_of
  have h' : Ideal.cmp .olt (max (x i : EReal) (-(x i : EReal))) (Ideal.ofBits .f32 0x7F800000#32) = 1#1 := h
  rw [top_of] at h'
  by_contra hn
  simp [Ideal.cmp, hn] at h'

theorem all_real {s : Shape} {ax : List (Fin s.rank)} {x : FVec Ideal s .f32} {hb : S_.BroadcastsInDim s (![] : Fin 0 → Fin s.rank)} {h : s.ReducesTo ax S_} {hu : 0 < S_.numel} {j : S_.Idx}
    (e : Host.reduce IntOp.andi (cmpf .olt (Host.absf x) (broadcastInDim s ![] hb (constant (F := Ideal) S_ .f32 0x7F800000#32))) (constantI S_ 1 1#1) h hu j = 1#1) :
    ∀ i, x i = ((x i : EReal).toReal : EReal) := fun i => entry x hb i (reduce_all _ _ _ _ _ e i)

variable [Facts]

/-- Under the precondition the entries of all arrays but the last linear layer's are real. -/
theorem reals {x : FVec Ideal S2x10000x128 .f32} {a : FVec Ideal S2x10000x10000 .f32} {w : FVec Ideal S2x64x64 .f32} {fw : FVec Ideal S2x64x128 .f32}
    {fb : FVec Ideal S2x64 .f32} {u : FVec Ideal S40x64 .f32} {v : FVec Ideal S40 .f32} {g : FVec Ideal S1 .f32}
    (h : Cert.Pre_finite.fn (F := Ideal) x a w fw fb u v g = fun _ => 1#1) :
    (∀ i, x i = ((x i : EReal).toReal : EReal)) ∧ (∀ i, a i = ((a i : EReal).toReal : EReal)) ∧ (∀ i, w i = ((w i : EReal).toReal : EReal))
    ∧ (∀ i, fw i = ((fw i : EReal).toReal : EReal)) ∧ (∀ i, fb i = ((fb i : EReal).toReal : EReal)) ∧ (∀ i, g i = ((g i : EReal).toReal : EReal)) := by
  have j : S_.Idx := fun a => a.elim0
  have e := congrFun h j
  unfold Cert.Pre_finite.fn Cert.Pre_finite.fn_part1 at e
  clear h
  obtain ⟨e, eg⟩ := andi_one _ _ e
  obtain ⟨e, eb⟩ := andi_one _ _ e
  obtain ⟨e, ef⟩ := andi_one _ _ e
  obtain ⟨e, ew⟩ := andi_one _ _ e
  obtain ⟨ex, ea⟩ := andi_one _ _ e
  clear * - ex ea ew ef eb eg
  exact ⟨all_real (h := Facts.reducesTo_S2x10000x128_S_d0_1_2) ex, all_real (h := Facts.reducesTo_S2x10000x10000_S_d0_1_2) ea,
    all_real (h := Facts.reducesTo_S2x64x64_S_d0_1_2) ew, all_real (h := Facts.reducesTo_S2x64x128_S_d0_1_2) ef,
    all_real (h := Facts.reducesTo_S2x64_S_d0_1) eb, all_real (h := Facts.reducesTo_S1_S_d0) eg⟩

end Cert.Finite

end
-- ==== Proof.Algebraic.lean ====
module

public import proofs.«01_k».proof.Proof.KerRes
public import proofs.«01_k».proof.Proof.RefRes
public import proofs.«01_k».proof.Proof.Finite
public import proofs.«01_k».proof.Proof.Frames

/-!
Both programs' results are the same formulas of the same arguments, where the arguments are finite.
-/

@[expose] public section

set_option maxRecDepth 65536

noncomputable section

namespace Cert.Algebraic

open Idealize.ShloMosaic Idealize.ShloMosaic.TcCoe Idealize.SL.Sem
open Cert.Spec
open Cert.KernelIdeal (S2x10000x128 S2x10000x10000 S2x64x64 S2x64x128 S2x64 S40x64 S40 S1 S10000x40 S2x10000x40)

/-- The formulas' inputs, of the arguments. -/
def ins (x : FVec Ideal S2x10000x128 .f32) (a : FVec Ideal S2x10000x10000 .f32) (w : FVec Ideal S2x64x64 .f32) (fw : FVec Ideal S2x64x128 .f32)
    (fb : FVec Ideal S2x64 .f32) (u : FVec Ideal S40x64 .f32) (v : FVec Ideal S40 .f32) (g : FVec Ideal S1 .f32) : Ins where
  x k r f := (x (ix3 k r f) : EReal).toReal
  adj k r f := (a (ix3 k r f) : EReal).toReal
  cw k i j := if h : i < 64 ∧ j < 64 then (w (ix3 k ⟨i, h.1⟩ ⟨j, h.2⟩) : EReal).toReal else 0
  fw k h f := (fw (ix3 k h f) : EReal).toReal
  fb k h := (fb (ix2 k h) : EReal).toReal
  w := (g (ix1 0) : EReal).toReal
  u c h := u (ix2 c h)
  v c := v (ix1 c)

theorem ins_cw (x : FVec Ideal S2x10000x128 .f32) (a : FVec Ideal S2x10000x10000 .f32) (w : FVec Ideal S2x64x64 .f32) (fw : FVec Ideal S2x64x128 .f32)
    (fb : FVec Ideal S2x64 .f32) (u : FVec Ideal S40x64 .f32) (v : FVec Ideal S40 .f32) (g : FVec Ideal S1 .f32) (k : Fin 2) (i j : ℕ) :
    (ins x a w fw fb u v g).cw k i j = if h : i < 64 ∧ j < 64 then (w (ix3 k ⟨i, h.1⟩ ⟨j, h.2⟩) : EReal).toReal else 0 := rfl

/-- An index is made of its coordinates. -/
theorem mk2 (i : S10000x40.Idx) : i = ix2 (i 0) (i 1) := funext fun b => by match b with | 0 => rfl | 1 => rfl
theorem mk3 (i : S2x10000x40.Idx) : i = ix3 (i 0) (i 1) (i 2) := funext fun b => by match b with | 0 => rfl | 1 => rfl | 2 => rfl

/-- Arrays whose entries are one formula are equal. -/
theorem ext2 {A B : FVec Ideal S10000x40 .f32} {f : Fin 10000 → Fin 40 → EReal} (hA : ∀ r k, A (ix2 r k) = f r k) (hB : ∀ r k, B (ix2 r k) = f r k) : A = B :=
  funext fun i => by rw [mk2 i]; exact (hA _ _).trans (hB _ _).symm
theorem ext3 {A B : FVec Ideal S2x10000x40 .f32} {f g : Fin 10000 → Fin 40 → EReal} (hA : ∀ r k, A (ix3 0 r k) = f r k) (hB : ∀ r k, B (ix3 0 r k) = f r k)
    (hA' : ∀ r k, A (ix3 1 r k) = g r k) (hB' : ∀ r k, B (ix3 1 r k) = g r k) : A = B :=
  have h : ∀ (b : Fin 2) r k, A (ix3 b r k) = B (ix3 b r k) := fun b r k => by
    match b with
    | 0 => exact (hA _ _).trans (hB _ _).symm
    | 1 => exact (hA' _ _).trans (hB' _ _).symm
  funext fun i => by rw [mk3 i]; exact h _ _ _

section
variable [Cert.Pre_finite.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  {x : FVec Ideal S2x10000x128 .f32} {a : FVec Ideal S2x10000x10000 .f32} {w : FVec Ideal S2x64x64 .f32} {fw : FVec Ideal S2x64x128 .f32}
  {fb : FVec Ideal S2x64 .f32} {u : FVec Ideal S40x64 .f32} {v : FVec Ideal S40 .f32} {g : FVec Ideal S1 .f32}

/-- On one device, the reference's results are the kernel's. -/
theorem results
    (k0 : m ((c.tc : Thread Cert.KernelIdeal.nD Cert.KernelIdeal.τ).loc Cert.KernelIdeal.main_arg0) = x)
    (k1 : m ((c.tc : Thread Cert.KernelIdeal.nD Cert.KernelIdeal.τ).loc Cert.KernelIdeal.main_arg1) = a)
    (k2 : m ((c.tc : Thread Cert.KernelIdeal.nD Cert.KernelIdeal.τ).loc Cert.KernelIdeal.main_arg2) = w)
    (k3 : m ((c.tc : Thread Cert.KernelIdeal.nD Cert.KernelIdeal.τ).loc Cert.KernelIdeal.main_arg3) = fw)
    (k4 : m ((c.tc : Thread Cert.KernelIdeal.nD Cert.KernelIdeal.τ).loc Cert.KernelIdeal.main_arg4) = fb)
    (k5 : m ((c.tc : Thread Cert.KernelIdeal.nD Cert.KernelIdeal.τ).loc Cert.KernelIdeal.main_arg5) = u)
    (k6 : m ((c.tc : Thread Cert.KernelIdeal.nD Cert.KernelIdeal.τ).loc Cert.KernelIdeal.main_arg6) = v)
    (k7 : m ((c.tc : Thread Cert.KernelIdeal.nD Cert.KernelIdeal.τ).loc Cert.KernelIdeal.main_arg7) = g)
    (r0 : m' ((c.tc : Thread Cert.ReferenceIdeal.nD Cert.ReferenceIdeal.τ).loc Cert.ReferenceIdeal.main_arg0) = x)
    (r1 : m' ((c.tc : Thread Cert.ReferenceIdeal.nD Cert.ReferenceIdeal.τ).loc Cert.ReferenceIdeal.main_arg1) = a)
    (r2 : m' ((c.tc : Thread Cert.ReferenceIdeal.nD Cert.ReferenceIdeal.τ).loc Cert.ReferenceIdeal.main_arg2) = w)
    (r3 : m' ((c.tc : Thread Cert.ReferenceIdeal.nD Cert.ReferenceIdeal.τ).loc Cert.ReferenceIdeal.main_arg3) = fw)
    (r4 : m' ((c.tc : Thread Cert.ReferenceIdeal.nD Cert.ReferenceIdeal.τ).loc Cert.ReferenceIdeal.main_arg4) = fb)
    (r5 : m' ((c.tc : Thread Cert.ReferenceIdeal.nD Cert.ReferenceIdeal.τ).loc Cert.ReferenceIdeal.main_arg5) = u)
    (r6 : m' ((c.tc : Thread Cert.ReferenceIdeal.nD Cert.ReferenceIdeal.τ).loc Cert.ReferenceIdeal.main_arg6) = v)
    (r7 : m' ((c.tc : Thread Cert.ReferenceIdeal.nD Cert.ReferenceIdeal.τ).loc Cert.ReferenceIdeal.main_arg7) = g)
    (hp : Cert.Pre_finite.fn (F := Ideal) x a w fw fb u v g = fun _ => 1#1) :
    (Cert.ReferenceIdeal.Value.out_main_v188 (F := Ideal) (RefRes.after m' c) : FVec Ideal S10000x40 .f32) = Segs.final m c ∧
    (Cert.ReferenceIdeal.Value.out_main_v178 (F := Ideal) (RefRes.after m' c) : FVec Ideal S10000x40 .f32) = Segs.means m c ∧
    (Cert.ReferenceIdeal.Value.out_main_v192 (F := Ideal) (RefRes.after m' c) : FVec Ideal S2x10000x40 .f32) = Segs.logits m c := by
  obtain ⟨px, pa, pw, pf, pb, pg⟩ := Finite.reals hp
  have hx : ∀ k r f, x (ix3 k r f) = ((ins x a w fw fb u v g).x k r f : EReal) := fun _ _ _ => px _
  have ha : ∀ k r f, a (ix3 k r f) = ((ins x a w fw fb u v g).adj k r f : EReal) := fun _ _ _ => pa _
  have hw : ∀ (k : Fin 2) (r f : Fin 64), w (ix3 k r f) = ((ins x a w fw fb u v g).cw k r f : EReal) := fun k r f => by
    rw [ins_cw, dif_pos ⟨r.isLt, f.isLt⟩]
    exact pw _
  have hfw : ∀ k h f, fw (ix3 k h f) = ((ins x a w fw fb u v g).fw k h f : EReal) := fun _ _ _ => pf _
  have hfb : ∀ k h, fb (ix2 k h) = ((ins x a w fw fb u v g).fb k h : EReal) := fun _ _ => pb _
  have hu : ∀ c h, u (ix2 c h) = (ins x a w fw fb u v g).u c h := fun _ _ => rfl
  have hv : ∀ c, v (ix1 c) = (ins x a w fw fb u v g).v c := fun _ => rfl
  have hg : g (ix1 0) = ((ins x a w fw fb u v g).w : EReal) := pg _
  have R := RefRes.outs m' c r0 r1 r2 r3 r4 r5 r6 r7 hx ha hw hfw hfb hu hv hg
  exact ⟨ext2 (fun r k => (R r k).1) (KerRes.fin_at m c k0 k1 k2 k3 k4 k5 k6 k7 hx ha hw hfw hfb hu hv hg),
    ext2 (fun r k => (R r k).2.1) (KerRes.mean_at m c k0 k1 k2 k3 k4 k5 k6 k7 hx ha hw hfw hfb hu hv hg),
    ext3 (fun r k => (R r k).2.2.1) (KerRes.logs_at0 m c k0 k1 k2 k3 k4 k5 k6 k7 hx ha hw hfw hfb hu hv hg)
      (fun r k => (R r k).2.2.2) (KerRes.logs_at1 m c k0 k1 k2 k3 k4 k5 k6 k7 hx ha hw hfw hfb hu hv hg)⟩
end

/-- The two programs compute the same results. -/
theorem algebraic [Cert.Pre_finite.Facts] : Cert.algebraic_KernelIdeal_ReferenceIdeal_pre_finite := by
  intro m ρ m' ρ' hpre hagree
  refine ⟨fun c => Segs.final m c, fun c => Segs.means m c, fun c => Segs.logits m c,
    fun c => m ((c.tc : Thread Cert.KernelIdeal.nD Cert.KernelIdeal.τ).loc Cert.KernelIdeal.main_arg7), ?_, ?_⟩
  · refine (θ_run Cert.KernelIdeal.defs _ _).mono (fun _ h c => ?_) (Run.run_main (F := Ideal) m ρ)
    have h' := h.1 c
    refine ⟨(h' _ (by decide)).trans (Segs.at2_v0 m c), (h' _ (by decide)).trans (Segs.at2_v1 m c), (h' _ (by decide)).trans (Segs.at2_v2 m c), ?_, ?_, ?_, ?_, ?_, ?_, ?_, ?_, ?_⟩ <;>
      exact (h' _ (by decide)).trans (Frames.kept m c _ (by decide) (by decide) (by decide) (by decide) (by decide))
  · refine (θ_run Cert.ReferenceIdeal.defs _ _).mono (fun _ h c => ?_) (Cert.ReferenceIdeal.Value.run (F := Ideal) m' ρ')
    obtain ⟨a0, a1, a2, a3, a4, a5, a6, a7⟩ := hagree c
    obtain ⟨h0, h1, h2⟩ := results m m' c rfl rfl rfl rfl rfl rfl rfl rfl a0 a1 a2 a3 a4 a5 a6 a7 (hpre c)
    exact ⟨(h c).1.trans h0, (h c).2.1.trans h1, (h c).2.2.1.trans h2, (h c).2.2.2.1.trans (RefRes.out_weight m' c a7), (h c).2.2.2.2⟩

end Cert.Algebraic

end
-- ==== Proof.lean ====
module

public import proofs.«01_k».proof.Defs
public import proofs.«01_k».proof.Proof.Transfer
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Finite.facts,
  Transfer.frame_printed, Frames.frame_ideal, fun m ρ _ => Frames.frame_ideal m ρ trivial, Frames.frame_reference,
  fun m ρ _ => Frames.frame_reference m ρ trivial, trivial, @Algebraic.algebraic Finite.facts⟩

end Cert.Proof

end
